-- ==== Defs.lean ====
def Pre_Kernel [hPre_fits : Cert.Pre_fits.Facts] (m : (ℓ : Loc Cert.Kernel.nD Cert.Kernel.τ Cert.Kernel.sig) → Buf (Elt Bits) ℓ) : Prop :=
  ∀ c : Dev Cert.Kernel.nD,
    (Cert.Pre_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_fits : Cert.Pre_fits.Facts] (m : (ℓ : Loc Cert.KernelIdeal.nD Cert.KernelIdeal.τ Cert.KernelIdeal.sig) → Buf (Elt Ideal) ℓ) : Prop :=
  ∀ c : Dev Cert.KernelIdeal.nD,
    (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_fits : Cert.Pre_fits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_v139) = v3 c
          ∧ r.2.mem ((c.tc : Thread Cert.ReferenceIdeal.nD Cert.ReferenceIdeal.τ).loc Cert.ReferenceIdeal.main_v141) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_fits : Cert.Pre_fits.Facts) (hPre_admissible : Cert.Pre_admissible.Facts),
    quiescent_Kernel (hKernel := hKernel) (hPre_fits := hPre_fits)
    ∧ quiescent_KernelIdeal (hKernelIdeal := hKernelIdeal) (hPre_fits := hPre_fits)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S32 : Shape := ⟨1, ![32]⟩
abbrev S32x16x64 : Shape := ⟨3, ![32, 16, 64]⟩
abbrev S32x1x64 : Shape := ⟨3, ![32, 1, 64]⟩
abbrev S256x32768 : Shape := ⟨2, ![256, 32768]⟩
abbrev S32x32768 : Shape := ⟨2, ![32, 32768]⟩
abbrev S_ : Shape := ⟨0, ![]⟩
abbrev S16x32768 : Shape := ⟨2, ![16, 32768]⟩
abbrev S16x32x1024 : Shape := ⟨3, ![16, 32, 1024]⟩
abbrev S1x32x1 : Shape := ⟨3, ![1, 32, 1]⟩

class Facts : Prop where
  bcast_S_S32 : S_.BroadcastsInDim S32 (![] : Fin 0 → Fin S32.rank)
  reducesTo_S32_S_d0 : S32.ReducesTo [0] S_
  h_S_ : 0 < S_.numel
  slices_S32x32768_S16x32768_0_0 : S32x32768.Slices ![0, 0] S16x32768
  shapeCasts_S16x32768_S16x32x1024 : S16x32768.ShapeCasts S16x32x1024
  bcast_S_S16x32x1024 : S_.BroadcastsInDim S16x32x1024 (![] : Fin 0 → Fin S16x32x1024.rank)
  bcast_S32_S1x32x1_1 : S32.BroadcastsInDim S1x32x1 (![1] : Fin 1 → Fin S1x32x1.rank)
  bcast_S1x32x1_S16x32x1024_0_1_2 : S1x32x1.BroadcastsInDim S16x32x1024 (![0, 1, 2] : Fin 3 → Fin S16x32x1024.rank)
  bcast_S_S32x16x64 : S_.BroadcastsInDim S32x16x64 (![] : Fin 0 → Fin S32x16x64.rank)
  reducesTo_S32x16x64_S_d0_1_2 : S32x16x64.ReducesTo [0, 1, 2] S_
  reducesTo_S16x32x1024_S_d0_1_2 : S16x32x1024.ReducesTo [0, 1, 2] S_

variable [Facts]

def fn_part1 {F : FTy → Type} [FloatOps F] (main_v5 : FVec F S16x32x1024 .f32) (main_v13 : IVec S16x32x1024 1) (main_v18 : IVec S_ 1) : IVec S_ 1 :=
  let main_v19 : FVec F S16x32x1024 .f32 := Host.absf main_v5
  let main_cst_3 : FVec F S_ .f32 := constant S_ .f32 0x7F800000#32
  let main_v20 : FVec F S16x32x1024 .f32 := broadcastInDim S16x32x1024 ![] bcast_S_S16x32x1024 main_cst_3
  let main_v21 : IVec S16x32x1024 1 := cmpf .olt main_v19 main_v20
  let main_v22 : IVec S16x32x1024 1 := noti main_v13
  let main_v23 : IVec S16x32x1024 1 := ori main_v21 main_v22
  let main_c_4 : IVec S_ 1 := constantI S_ 1 1#1
  let main_v24 : IVec S_ 1 := (fun x v => Host.reduce IntOp.andi x v reducesTo_S16x32x1024_S_d0_1_2 h_S_) main_v23 main_c_4
  let main_v25 : IVec S_ 1 := andi main_v18 main_v24
  main_v25

def fn {F : FTy → Type} [FloatOps F] (main_arg0 : IVec S32 32) (main_arg1 : FVec F S32x16x64 .bf16) (main_arg2 : FVec F S32x1x64 .bf16) (main_arg3 : FVec F S32x1x64 .bf16) (main_arg4 : IVec S256x32768 32) (main_arg5 : IVec S256x32768 32) (main_arg6 : IVec S32x32768 32) : IVec S_ 1 :=
  let main_c : IVec S_ 32 := constantI S_ 32 16384#32
  let main_v0 : IVec S32 32 := broadcastInDim S32 ![] bcast_S_S32 main_c
  let main_v1 : IVec S32 1 := cmpi .sle main_arg0 main_v0
  let main_c_0 : IVec S_ 1 := constantI S_ 1 1#1
  let main_v2 : IVec S_ 1 := (fun x v => Host.reduce IntOp.andi x v reducesTo_S32_S_d0 h_S_) main_v1 main_c_0
  let main_v3 : IVec S16x32768 32 := (extractStridedSlice S16x32768 ![0, 0] · slices_S32x32768_S16x32768_0_0) main_arg6
  let main_v4 : FVec F S16x32768 .f32 := bitcastToFloat .f32 main_v3
  let main_v5 : FVec F S16x32x1024 .f32 := shapeCast S16x32x1024 main_v4 shapeCasts_S16x32768_S16x32x1024
  let main_v6 : IVec S16x32x1024 32 := iotaInDim S16x32x1024 32 2
  let main_c_1 : IVec S_ 32 := constantI S_ 32 16#32
  let main_v7 : IVec S16x32x1024 32 := broadcastInDim S16x32x1024 ![] bcast_S_S16x32x1024 main_c_1
  let main_v8 : IVec S16x32x1024 32 := muli main_v6 main_v7
  let main_v9 : IVec S16x32x1024 32 := iotaInDim S16x32x1024 32 0
  let main_v10 : IVec S16x32x1024 32 := addi main_v8 main_v9
  let main_v11 : IVec S1x32x1 32 := broadcastInDim S1x32x1 ![1] bcast_S32_S1x32x1_1 main_arg0
  let main_v12 : IVec S16x32x1024 32 := broadcastInDim S16x32x1024 ![0, 1, 2] bcast_S1x32x1_S16x32x1024_0_1_2 main_v11
  let main_v13 : IVec S16x32x1024 1 := cmpi .slt main_v10 main_v12
  let main_v14 : FVec F S32x16x64 .bf16 := Host.absf main_arg1
  let main_cst : FVec F S_ .bf16 := constant S_ .bf16 0x7F80#16
  let main_v15 : FVec F S32x16x64 .bf16 := broadcastInDim S32x16x64 ![] bcast_S_S32x16x64 main_cst
  let main_v16 : IVec S32x16x64 1 := cmpf .olt main_v14 main_v15
  let main_c_2 : IVec S_ 1 := constantI S_ 1 1#1
  let main_v17 : IVec S_ 1 := (fun x v => Host.reduce IntOp.andi x v reducesTo_S32x16x64_S_d0_1_2 h_S_) main_v16 main_c_2
  let main_v18 : IVec S_ 1 := andi main_v2 main_v17
  fn_part1 (F := F) main_v5 main_v13 main_v18
-- ==== Pre_fits.lean ====
abbrev S32 : Shape := ⟨1, ![32]⟩
abbrev S32x16x64 : Shape := ⟨3, ![32, 16, 64]⟩
abbrev S32x1x64 : Shape := ⟨3, ![32, 1, 64]⟩
abbrev S256x32768 : Shape := ⟨2, ![256, 32768]⟩
abbrev S32x32768 : Shape := ⟨2, ![32, 32768]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S32x16x64 .bf16) (main_arg2 : FVec F S32x1x64 .bf16) (main_arg3 : FVec F S32x1x64 .bf16) (main_arg4 : IVec S256x32768 32) (main_arg5 : IVec S256x32768 32) (main_arg6 : IVec S32x32768 32) : IVec S_ 1 :=
  let main_c : IVec S_ 32 := constantI S_ 32 16384#32
  let main_v0 : IVec S32 32 := broadcastInDim S32 ![] bcast_S_S32 main_c
  let main_v1 : IVec S32 1 := cmpi .sle main_arg0 main_v0
  let main_c_0 : IVec S_ 1 := constantI S_ 1 1#1
  let main_v2 : IVec S_ 1 := (fun x v => Host.reduce IntOp.andi x v reducesTo_S32_S_d0 h_S_) main_v1 main_c_0
  main_v2
-- ==== Kernel.lean ====
abbrev S32 : Shape := ⟨1, ![32]⟩
abbrev S32x16x64 : Shape := ⟨3, ![32, 16, 64]⟩
abbrev S32x1x64 : Shape := ⟨3, ![32, 1, 64]⟩
abbrev S256x32768 : Shape := ⟨2, ![256, 32768]⟩
abbrev S32x32768 : Shape := ⟨2, ![32, 32768]⟩
abbrev S32x1x128 : Shape := ⟨3, ![32, 1, 128]⟩
abbrev S1x16x64 : Shape := ⟨3, ![1, 16, 64]⟩
abbrev S1x1x64 : Shape := ⟨3, ![1, 1, 64]⟩
abbrev S256x1024 : Shape := ⟨2, ![256, 1024]⟩
abbrev S32x1024 : Shape := ⟨2, ![32, 1024]⟩
abbrev S1x1x128 : Shape := ⟨3, ![1, 1, 128]⟩
abbrev S1 : Shape := ⟨1, ![1]⟩
abbrev S1x64 : Shape := ⟨2, ![1, 64]⟩
abbrev S1x1 : Shape := ⟨2, ![1, 1]⟩
abbrev S1x128 : Shape := ⟨2, ![1, 128]⟩
abbrev S16x64 : Shape := ⟨2, ![16, 64]⟩
abbrev S16x256 : Shape := ⟨2, ![16, 256]⟩
abbrev S64x256 : Shape := ⟨2, ![64, 256]⟩
abbrev S16 : Shape := ⟨1, ![16]⟩
abbrev S16x1 : Shape := ⟨2, ![16, 1]⟩
abbrev S256x256 : Shape := ⟨2, ![256, 256]⟩
abbrev S1x256 : Shape := ⟨2, ![1, 256]⟩

abbrev nBuf : Space → Nat
  | .hbm => 11
  | .vmem => 23
  | .smem => 1
  | _ => 0

abbrev bufTy : (tb : Table) → Fin (tcTables nBuf tb) → BufTy
  | .hbm, ⟨0, _⟩ => ⟨S32x16x64, .bf16⟩
  | .hbm, ⟨1, _⟩ => ⟨S32x1x64, .bf16⟩
  | .hbm, ⟨2, _⟩ => ⟨S32x1x64, .bf16⟩
  | .hbm, ⟨3, _⟩ => ⟨S256x32768, .i32⟩
  | .hbm, ⟨4, _⟩ => ⟨S256x32768, .i32⟩
  | .hbm, ⟨5, _⟩ => ⟨S32x32768, .i32⟩
  | .hbm, ⟨6, _⟩ => ⟨S32x16x64, .bf16⟩
  | .hbm, ⟨7, _⟩ => ⟨S32x1x64, .i8⟩
  | .hbm, ⟨8, _⟩ => ⟨S32x1x128, .f32⟩
  | .hbm, ⟨9, _⟩ => ⟨S32x1x64, .i8⟩
  | .hbm, ⟨10, _⟩ => ⟨S32x1x128, .f32⟩
  | .local _ .vmem, ⟨0, _⟩ => ⟨S1x16x64, .bf16⟩
  | .local _ .vmem, ⟨1, _⟩ => ⟨S1x16x64, .bf16⟩
  | .local _ .vmem, ⟨2, _⟩ => ⟨S1x1x64, .bf16⟩
  | .local _ .vmem, ⟨3, _⟩ => ⟨S1x1x64, .bf16⟩
  | .local _ .vmem, ⟨4, _⟩ => ⟨S1x1x64, .bf16⟩
  | .local _ .vmem, ⟨5, _⟩ => ⟨S1x1x64, .bf16⟩
  | .local _ .vmem, ⟨6, _⟩ => ⟨S256x1024, .i32⟩
  | .local _ .vmem, ⟨7, _⟩ => ⟨S256x1024, .i32⟩
  | .local _ .vmem, ⟨8, _⟩ => ⟨S256x1024, .i32⟩
  | .local _ .vmem, ⟨9, _⟩ => ⟨S256x1024, .i32⟩
  | .local _ .vmem, ⟨10, _⟩ => ⟨S32x1024, .i32⟩
  | .local _ .vmem, ⟨11, _⟩ => ⟨S32x1024, .i32⟩
  | .local _ .vmem, ⟨12, _⟩ => ⟨S1x16x64, .bf16⟩
  | .local _ .vmem, ⟨13, _⟩ => ⟨S1x16x64, .bf16⟩
  | .local _ .vmem, ⟨14, _⟩ => ⟨S1x1x64, .i8⟩
  | .local _ .vmem, ⟨15, _⟩ => ⟨S1x1x64, .i8⟩
  | .local _ .vmem, ⟨16, _⟩ => ⟨S1x1x128, .f32⟩
  | .local _ .vmem, ⟨17, _⟩ => ⟨S1x1x128, .f32⟩
  | .local _ .vmem, ⟨18, _⟩ => ⟨S1x1x64, .i8⟩
  | .local _ .vmem, ⟨19, _⟩ => ⟨S1x1x64, .i8⟩
  | .local _ .vmem, ⟨20, _⟩ => ⟨S1x1x128, .f32⟩
  | .local _ .vmem, ⟨21, _⟩ => ⟨S1x1x128, .f32⟩
  | .local _ .vmem, ⟨22, _⟩ => ⟨S256x1024, .f32⟩
  | .local _ .smem, ⟨0, _⟩ => ⟨S32, .i32⟩
  | _, _ => ⟨S32x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_53 : BitVec 32 := 1#32
  ⟨c0_i32_51, v147, c1_i32_53⟩

def k0_mult1 (v1 : BitVec 32) (k0_t1 : Fin (k0_t1_loop v1).trips) : BitVec 32 :=
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  v188
def k0_off2 (v1 : BitVec 32) (k0_t1 : Fin (k0_t1_loop v1).trips) : Fin 2 → Nat :=
  let c0_66 : Index := 0#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v193 : Index := Scalar.indexCast v189
  ![0, v193.toNat]
def k0_off3 (v1 : BitVec 32) (k0_t1 : Fin (k0_t1_loop v1).trips) : Fin 2 → Nat :=
  let c0_68 : Index := 0#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v198 : Index := Scalar.indexCast v189
  ![0, v198.toNat]
def k0_off4 (v1 : BitVec 32) (k0_t1 : Fin (k0_t1_loop v1).trips) : Fin 2 → Nat :=
  let c0_73 : Index := 0#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v214 : Index := Scalar.indexCast v189
  ![0, v214.toNat]
def k0_off5 (v1 : BitVec 32) (k0_t1 : Fin (k0_t1_loop v1).trips) : Fin 2 → Nat :=
  let c1 : Index := 1#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v219 : Index := Scalar.indexCast v189
  ![1, v219.toNat]
def k0_off6 (v1 : BitVec 32) (k0_t1 : Fin (k0_t1_loop v1).trips) : Fin 2 → Nat :=
  let c16 : Index := 16#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v235 : Index := Scalar.indexCast v189
  ![16, v235.toNat]
def k0_off7 (v1 : BitVec 32) (k0_t1 : Fin (k0_t1_loop v1).trips) : Fin 2 → Nat :=
  let c2 : Index := 2#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v240 : Index := Scalar.indexCast v189
  ![2, v240.toNat]
def k0_off8 (v1 : BitVec 32) (k0_t1 : Fin (k0_t1_loop v1).trips) : Fin 2 → Nat :=
  let c32 : Index := 32#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v256 : Index := Scalar.indexCast v189
  ![32, v256.toNat]
def k0_off9 (v1 : BitVec 32) (k0_t1 : Fin (k0_t1_loop v1).trips) : Fin 2 → Nat :=
  let c3 : Index := 3#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v261 : Index := Scalar.indexCast v189
  ![3, v261.toNat]
def k0_off10 (v1 : BitVec 32) (k0_t1 : Fin (k0_t1_loop v1).trips) : Fin 2 → Nat :=
  let c48 : Index := 48#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v277 : Index := Scalar.indexCast v189
  ![48, v277.toNat]
def k0_off11 (v1 : BitVec 32) (k0_t1 : Fin (k0_t1_loop v1).trips) : Fin 2 → Nat :=
  let c64 : Index := 64#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v282 : Index := Scalar.indexCast v189
  ![64, v282.toNat]
def k0_off12 (v1 : BitVec 32) (k0_t1 : Fin (k0_t1_loop v1).trips) : Fin 2 → Nat :=
  let c4 : Index := 4#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v287 : Index := Scalar.indexCast v189
  ![4, v287.toNat]
def k0_off13 (v1 : BitVec 32) (k0_t1 : Fin (k0_t1_loop v1).trips) : Fin 2 → Nat :=
  let c64_88 : Index := 64#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v303 : Index := Scalar.indexCast v189
  ![64, v303.toNat]
def k0_off14 (v1 : BitVec 32) (k0_t1 : Fin (k0_t1_loop v1).trips) : Fin 2 → Nat :=
  let c5 : Index := 5#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v308 : Index := Scalar.indexCast v189
  ![5, v308.toNat]
def k0_off15 (v1 : BitVec 32) (k0_t1 : Fin (k0_t1_loop v1).trips) : Fin 2 → Nat :=
  let c80 : Index := 80#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v324 : Index := Scalar.indexCast v189
  ![80, v324.toNat]
def k0_off16 (v1 : BitVec 32) (k0_t1 : Fin (k0_t1_loop v1).trips) : Fin 2 → Nat :=
  let c6 : Index := 6#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v329 : Index := Scalar.indexCast v189
  ![6, v329.toNat]
def k0_off17 (v1 : BitVec 32) (k0_t1 : Fin (k0_t1_loop v1).trips) : Fin 2 → Nat :=
  let c96 : Index := 96#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v345 : Index := Scalar.indexCast v189
  ![96, v345.toNat]
def k0_off18 (v1 : BitVec 32) (k0_t1 : Fin (k0_t1_loop v1).trips) : Fin 2 → Nat :=
  let c7 : Index := 7#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v350 : Index := Scalar.indexCast v189
  ![7, v350.toNat]
def k0_off19 (v1 : BitVec 32) (k0_t1 : Fin (k0_t1_loop v1).trips) : Fin 2 → Nat :=
  let c112 : Index := 112#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v366 : Index := Scalar.indexCast v189
  ![112, v366.toNat]
def k0_off20 (v1 : BitVec 32) (k0_t1 : Fin (k0_t1_loop v1).trips) : Fin 2 → Nat :=
  let c128 : Index := 128#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v371 : Index := Scalar.indexCast v189
  ![128, v371.toNat]
def k0_off21 (v1 : BitVec 32) (k0_t1 : Fin (k0_t1_loop v1).trips) : Fin 2 → Nat :=
  let c8 : Index := 8#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v376 : Index := Scalar.indexCast v189
  ![8, v376.toNat]
def k0_off22 (v1 : BitVec 32) (k0_t1 : Fin (k0_t1_loop v1).trips) : Fin 2 → Nat :=
  let c128_102 : Index := 128#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v392 : Index := Scalar.indexCast v189
  ![128, v392.toNat]
def k0_off23 (v1 : BitVec 32) (k0_t1 : Fin (k0_t1_loop v1).trips) : Fin 2 → Nat :=
  let c9 : Index := 9#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v397 : Index := Scalar.indexCast v189
  ![9, v397.toNat]
def k0_off24 (v1 : BitVec 32) (k0_t1 : Fin (k0_t1_loop v1).trips) : Fin 2 → Nat :=
  let c144 : Index := 144#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v413 : Index := Scalar.indexCast v189
  ![144, v413.toNat]
def k0_off25 (v1 : BitVec 32) (k0_t1 : Fin (k0_t1_loop v1).trips) : Fin 2 → Nat :=
  let c10 : Index := 10#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v418 : Index := Scalar.indexCast v189
  ![10, v418.toNat]
def k0_off26 (v1 : BitVec 32) (k0_t1 : Fin (k0_t1_loop v1).trips) : Fin 2 → Nat :=
  let c160 : Index := 160#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v434 : Index := Scalar.indexCast v189
  ![160, v434.toNat]
def k0_off27 (v1 : BitVec 32) (k0_t1 : Fin (k0_t1_loop v1).trips) : Fin 2 → Nat :=
  let c11 : Index := 11#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v439 : Index := Scalar.indexCast v189
  ![11, v439.toNat]
def k0_off28 (v1 : BitVec 32) (k0_t1 : Fin (k0_t1_loop v1).trips) : Fin 2 → Nat :=
  let c176 : Index := 176#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v455 : Index := Scalar.indexCast v189
  ![176, v455.toNat]
def k0_off29 (v1 : BitVec 32) (k0_t1 : Fin (k0_t1_loop v1).trips) : Fin 2 → Nat :=
  let c192 : Index := 192#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v460 : Index := Scalar.indexCast v189
  ![192, v460.toNat]
def k0_off30 (v1 : BitVec 32) (k0_t1 : Fin (k0_t1_loop v1).trips) : Fin 2 → Nat :=
  let c12 : Index := 12#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v465 : Index := Scalar.indexCast v189
  ![12, v465.toNat]
def k0_off31 (v1 : BitVec 32) (k0_t1 : Fin (k0_t1_loop v1).trips) : Fin 2 → Nat :=
  let c192_116 : Index := 192#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v481 : Index := Scalar.indexCast v189
  ![192, v481.toNat]
def k0_off32 (v1 : BitVec 32) (k0_t1 : Fin (k0_t1_loop v1).trips) : Fin 2 → Nat :=
  let c13 : Index := 13#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v486 : Index := Scalar.indexCast v189
  ![13, v486.toNat]
def k0_off33 (v1 : BitVec 32) (k0_t1 : Fin (k0_t1_loop v1).trips) : Fin 2 → Nat :=
  let c208 : Index := 208#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v502 : Index := Scalar.indexCast v189
  ![208, v502.toNat]
def k0_off34 (v1 : BitVec 32) (k0_t1 : Fin (k0_t1_loop v1).trips) : Fin 2 → Nat :=
  let c14 : Index := 14#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v507 : Index := Scalar.indexCast v189
  ![14, v507.toNat]
def k0_off35 (v1 : BitVec 32) (k0_t1 : Fin (k0_t1_loop v1).trips) : Fin 2 → Nat :=
  let c224 : Index := 224#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v523 : Index := Scalar.indexCast v189
  ![224, v523.toNat]
def k0_off36 (v1 : BitVec 32) (k0_t1 : Fin (k0_t1_loop v1).trips) : Fin 2 → Nat :=
  let c15 : Index := 15#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v528 : Index := Scalar.indexCast v189
  ![15, v528.toNat]
def k0_off37 (v1 : BitVec 32) (k0_t1 : Fin (k0_t1_loop v1).trips) : Fin 2 → Nat :=
  let c240 : Index := 240#32
  let c0_i32_51 : BitVec 32 := 0#32
  let c1_i32_53 : BitVec 32 := 1#32
  let arg14 : BitVec 32 := Scf.iv c0_i32_51 c1_i32_53 k0_t1
  let c256_i32 : BitVec 32 := 256#32
  let v188 : BitVec 32 := Scalar.muli arg14 c256_i32
  let v189 : BitVec 32 := v188
  let v544 : Index := Scalar.indexCast v189
  ![240, v544.toNat]
@[reducible] def k0_t2_loop (v1 : BitVec 32) : Scf.Loop 32 :=
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let v144 : BitVec 32 := Scalar.addi c0_i32_51 v143
  let c1_i32_54 : BitVec 32 := 1#32
  ⟨v147, v144, c1_i32_54⟩
def k0_mult2 (v1 : BitVec 32) (k0_t2 : Fin (k0_t2_loop v1).trips) : BitVec 32 :=
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  v188
def k0_off38 (v1 : BitVec 32) (k0_t2 : Fin (k0_t2_loop v1).trips) : Fin 2 → Nat :=
  let c0_66 : Index := 0#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v193 : Index := Scalar.indexCast v189
  ![0, v193.toNat]
def k0_off39 (v1 : BitVec 32) (k0_t2 : Fin (k0_t2_loop v1).trips) : Fin 2 → Nat :=
  let c0_68 : Index := 0#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v198 : Index := Scalar.indexCast v189
  ![0, v198.toNat]
def k0_off40 (v1 : BitVec 32) (k0_t2 : Fin (k0_t2_loop v1).trips) : Fin 2 → Nat :=
  let c0_73 : Index := 0#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v214 : Index := Scalar.indexCast v189
  ![0, v214.toNat]
def k0_off41 (v1 : BitVec 32) (k0_t2 : Fin (k0_t2_loop v1).trips) : Fin 2 → Nat :=
  let c1 : Index := 1#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v219 : Index := Scalar.indexCast v189
  ![1, v219.toNat]
def k0_off42 (v1 : BitVec 32) (k0_t2 : Fin (k0_t2_loop v1).trips) : Fin 2 → Nat :=
  let c16 : Index := 16#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v235 : Index := Scalar.indexCast v189
  ![16, v235.toNat]
def k0_off43 (v1 : BitVec 32) (k0_t2 : Fin (k0_t2_loop v1).trips) : Fin 2 → Nat :=
  let c2 : Index := 2#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v240 : Index := Scalar.indexCast v189
  ![2, v240.toNat]
def k0_off44 (v1 : BitVec 32) (k0_t2 : Fin (k0_t2_loop v1).trips) : Fin 2 → Nat :=
  let c32 : Index := 32#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v256 : Index := Scalar.indexCast v189
  ![32, v256.toNat]
def k0_off45 (v1 : BitVec 32) (k0_t2 : Fin (k0_t2_loop v1).trips) : Fin 2 → Nat :=
  let c3 : Index := 3#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v261 : Index := Scalar.indexCast v189
  ![3, v261.toNat]
def k0_off46 (v1 : BitVec 32) (k0_t2 : Fin (k0_t2_loop v1).trips) : Fin 2 → Nat :=
  let c48 : Index := 48#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v277 : Index := Scalar.indexCast v189
  ![48, v277.toNat]
def k0_off47 (v1 : BitVec 32) (k0_t2 : Fin (k0_t2_loop v1).trips) : Fin 2 → Nat :=
  let c64 : Index := 64#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v282 : Index := Scalar.indexCast v189
  ![64, v282.toNat]
def k0_off48 (v1 : BitVec 32) (k0_t2 : Fin (k0_t2_loop v1).trips) : Fin 2 → Nat :=
  let c4 : Index := 4#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v287 : Index := Scalar.indexCast v189
  ![4, v287.toNat]
def k0_off49 (v1 : BitVec 32) (k0_t2 : Fin (k0_t2_loop v1).trips) : Fin 2 → Nat :=
  let c64_88 : Index := 64#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v303 : Index := Scalar.indexCast v189
  ![64, v303.toNat]
def k0_off50 (v1 : BitVec 32) (k0_t2 : Fin (k0_t2_loop v1).trips) : Fin 2 → Nat :=
  let c5 : Index := 5#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v308 : Index := Scalar.indexCast v189
  ![5, v308.toNat]
def k0_off51 (v1 : BitVec 32) (k0_t2 : Fin (k0_t2_loop v1).trips) : Fin 2 → Nat :=
  let c80 : Index := 80#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v324 : Index := Scalar.indexCast v189
  ![80, v324.toNat]
def k0_off52 (v1 : BitVec 32) (k0_t2 : Fin (k0_t2_loop v1).trips) : Fin 2 → Nat :=
  let c6 : Index := 6#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v329 : Index := Scalar.indexCast v189
  ![6, v329.toNat]
def k0_off53 (v1 : BitVec 32) (k0_t2 : Fin (k0_t2_loop v1).trips) : Fin 2 → Nat :=
  let c96 : Index := 96#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v345 : Index := Scalar.indexCast v189
  ![96, v345.toNat]
def k0_off54 (v1 : BitVec 32) (k0_t2 : Fin (k0_t2_loop v1).trips) : Fin 2 → Nat :=
  let c7 : Index := 7#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v350 : Index := Scalar.indexCast v189
  ![7, v350.toNat]
def k0_off55 (v1 : BitVec 32) (k0_t2 : Fin (k0_t2_loop v1).trips) : Fin 2 → Nat :=
  let c112 : Index := 112#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v366 : Index := Scalar.indexCast v189
  ![112, v366.toNat]
def k0_off56 (v1 : BitVec 32) (k0_t2 : Fin (k0_t2_loop v1).trips) : Fin 2 → Nat :=
  let c128 : Index := 128#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v371 : Index := Scalar.indexCast v189
  ![128, v371.toNat]
def k0_off57 (v1 : BitVec 32) (k0_t2 : Fin (k0_t2_loop v1).trips) : Fin 2 → Nat :=
  let c8 : Index := 8#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v376 : Index := Scalar.indexCast v189
  ![8, v376.toNat]
def k0_off58 (v1 : BitVec 32) (k0_t2 : Fin (k0_t2_loop v1).trips) : Fin 2 → Nat :=
  let c128_102 : Index := 128#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v392 : Index := Scalar.indexCast v189
  ![128, v392.toNat]
def k0_off59 (v1 : BitVec 32) (k0_t2 : Fin (k0_t2_loop v1).trips) : Fin 2 → Nat :=
  let c9 : Index := 9#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v397 : Index := Scalar.indexCast v189
  ![9, v397.toNat]
def k0_off60 (v1 : BitVec 32) (k0_t2 : Fin (k0_t2_loop v1).trips) : Fin 2 → Nat :=
  let c144 : Index := 144#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v413 : Index := Scalar.indexCast v189
  ![144, v413.toNat]
def k0_off61 (v1 : BitVec 32) (k0_t2 : Fin (k0_t2_loop v1).trips) : Fin 2 → Nat :=
  let c10 : Index := 10#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v418 : Index := Scalar.indexCast v189
  ![10, v418.toNat]
def k0_off62 (v1 : BitVec 32) (k0_t2 : Fin (k0_t2_loop v1).trips) : Fin 2 → Nat :=
  let c160 : Index := 160#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v434 : Index := Scalar.indexCast v189
  ![160, v434.toNat]
def k0_off63 (v1 : BitVec 32) (k0_t2 : Fin (k0_t2_loop v1).trips) : Fin 2 → Nat :=
  let c11 : Index := 11#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v439 : Index := Scalar.indexCast v189
  ![11, v439.toNat]
def k0_off64 (v1 : BitVec 32) (k0_t2 : Fin (k0_t2_loop v1).trips) : Fin 2 → Nat :=
  let c176 : Index := 176#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v455 : Index := Scalar.indexCast v189
  ![176, v455.toNat]
def k0_off65 (v1 : BitVec 32) (k0_t2 : Fin (k0_t2_loop v1).trips) : Fin 2 → Nat :=
  let c192 : Index := 192#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v460 : Index := Scalar.indexCast v189
  ![192, v460.toNat]
def k0_off66 (v1 : BitVec 32) (k0_t2 : Fin (k0_t2_loop v1).trips) : Fin 2 → Nat :=
  let c12 : Index := 12#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v465 : Index := Scalar.indexCast v189
  ![12, v465.toNat]
def k0_off67 (v1 : BitVec 32) (k0_t2 : Fin (k0_t2_loop v1).trips) : Fin 2 → Nat :=
  let c192_116 : Index := 192#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v481 : Index := Scalar.indexCast v189
  ![192, v481.toNat]
def k0_off68 (v1 : BitVec 32) (k0_t2 : Fin (k0_t2_loop v1).trips) : Fin 2 → Nat :=
  let c13 : Index := 13#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v486 : Index := Scalar.indexCast v189
  ![13, v486.toNat]
def k0_off69 (v1 : BitVec 32) (k0_t2 : Fin (k0_t2_loop v1).trips) : Fin 2 → Nat :=
  let c208 : Index := 208#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v502 : Index := Scalar.indexCast v189
  ![208, v502.toNat]
def k0_off70 (v1 : BitVec 32) (k0_t2 : Fin (k0_t2_loop v1).trips) : Fin 2 → Nat :=
  let c14 : Index := 14#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v507 : Index := Scalar.indexCast v189
  ![14, v507.toNat]
def k0_off71 (v1 : BitVec 32) (k0_t2 : Fin (k0_t2_loop v1).trips) : Fin 2 → Nat :=
  let c224 : Index := 224#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v523 : Index := Scalar.indexCast v189
  ![224, v523.toNat]
def k0_off72 (v1 : BitVec 32) (k0_t2 : Fin (k0_t2_loop v1).trips) : Fin 2 → Nat :=
  let c15 : Index := 15#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v528 : Index := Scalar.indexCast v189
  ![15, v528.toNat]
def k0_off73 (v1 : BitVec 32) (k0_t2 : Fin (k0_t2_loop v1).trips) : Fin 2 → Nat :=
  let c240 : Index := 240#32
  let c0_i32_51 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v143 : BitVec 32 := Scalar.subi v19 c0_i32_51
  let c1_i32_52 : BitVec 32 := 1#32
  let v145 : BitVec 32 := Scalar.divsi v143 c1_i32_52
  let v146 : BitVec 32 := Scalar.muli v145 c1_i32_52
  let v147 : BitVec 32 := Scalar.addi c0_i32_51 v146
  let c1_i32_54 : BitVec 32 := 1#32
  let arg14 : BitVec 32 := Scf.iv v147 c1_i32_54 k0_t2
  let c256_i32 : BitVec 32 := 256#32
  let v188 : BitVec 32 := Scalar.muli arg14 c256_i32
  let v189 : BitVec 32 := v188
  let v544 : Index := Scalar.indexCast v189
  ![240, v544.toNat]
@[reducible] def k0_t3_loop (v1 : BitVec 32) : Scf.Loop 32 :=
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_60 : BitVec 32 := 1#32
  ⟨c0_i32_58, v159, c1_i32_60⟩
def k0_mult3 (v1 : BitVec 32) (k0_t3 : Fin (k0_t3_loop v1).trips) : BitVec 32 :=
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  v188
def k0_off74 (v1 : BitVec 32) (k0_t3 : Fin (k0_t3_loop v1).trips) : Fin 2 → Nat :=
  let c0_66 : Index := 0#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v193 : Index := Scalar.indexCast v189
  ![0, v193.toNat]
def k0_off75 (v1 : BitVec 32) (k0_t3 : Fin (k0_t3_loop v1).trips) : Fin 2 → Nat :=
  let c16 : Index := 16#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v199 : Index := Scalar.indexCast v189
  ![16, v199.toNat]
def k0_off76 (v1 : BitVec 32) (k0_t3 : Fin (k0_t3_loop v1).trips) : Fin 2 → Nat :=
  let c16_70 : Index := 16#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v213 : Index := Scalar.indexCast v189
  ![16, v213.toNat]
def k0_off77 (v1 : BitVec 32) (k0_t3 : Fin (k0_t3_loop v1).trips) : Fin 2 → Nat :=
  let c17 : Index := 17#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v219 : Index := Scalar.indexCast v189
  ![17, v219.toNat]
def k0_off78 (v1 : BitVec 32) (k0_t3 : Fin (k0_t3_loop v1).trips) : Fin 2 → Nat :=
  let c32 : Index := 32#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v233 : Index := Scalar.indexCast v189
  ![32, v233.toNat]
def k0_off79 (v1 : BitVec 32) (k0_t3 : Fin (k0_t3_loop v1).trips) : Fin 2 → Nat :=
  let c18 : Index := 18#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v239 : Index := Scalar.indexCast v189
  ![18, v239.toNat]
def k0_off80 (v1 : BitVec 32) (k0_t3 : Fin (k0_t3_loop v1).trips) : Fin 2 → Nat :=
  let c48 : Index := 48#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v253 : Index := Scalar.indexCast v189
  ![48, v253.toNat]
def k0_off81 (v1 : BitVec 32) (k0_t3 : Fin (k0_t3_loop v1).trips) : Fin 2 → Nat :=
  let c19 : Index := 19#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v259 : Index := Scalar.indexCast v189
  ![19, v259.toNat]
def k0_off82 (v1 : BitVec 32) (k0_t3 : Fin (k0_t3_loop v1).trips) : Fin 2 → Nat :=
  let c0_78 : Index := 0#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v273 : Index := Scalar.indexCast v189
  ![0, v273.toNat]
def k0_off83 (v1 : BitVec 32) (k0_t3 : Fin (k0_t3_loop v1).trips) : Fin 2 → Nat :=
  let c64 : Index := 64#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v280 : Index := Scalar.indexCast v189
  ![64, v280.toNat]
def k0_off84 (v1 : BitVec 32) (k0_t3 : Fin (k0_t3_loop v1).trips) : Fin 2 → Nat :=
  let c20 : Index := 20#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v286 : Index := Scalar.indexCast v189
  ![20, v286.toNat]
def k0_off85 (v1 : BitVec 32) (k0_t3 : Fin (k0_t3_loop v1).trips) : Fin 2 → Nat :=
  let c80 : Index := 80#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v300 : Index := Scalar.indexCast v189
  ![80, v300.toNat]
def k0_off86 (v1 : BitVec 32) (k0_t3 : Fin (k0_t3_loop v1).trips) : Fin 2 → Nat :=
  let c21 : Index := 21#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v306 : Index := Scalar.indexCast v189
  ![21, v306.toNat]
def k0_off87 (v1 : BitVec 32) (k0_t3 : Fin (k0_t3_loop v1).trips) : Fin 2 → Nat :=
  let c96 : Index := 96#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v320 : Index := Scalar.indexCast v189
  ![96, v320.toNat]
def k0_off88 (v1 : BitVec 32) (k0_t3 : Fin (k0_t3_loop v1).trips) : Fin 2 → Nat :=
  let c22 : Index := 22#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v326 : Index := Scalar.indexCast v189
  ![22, v326.toNat]
def k0_off89 (v1 : BitVec 32) (k0_t3 : Fin (k0_t3_loop v1).trips) : Fin 2 → Nat :=
  let c112 : Index := 112#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v340 : Index := Scalar.indexCast v189
  ![112, v340.toNat]
def k0_off90 (v1 : BitVec 32) (k0_t3 : Fin (k0_t3_loop v1).trips) : Fin 2 → Nat :=
  let c23 : Index := 23#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v346 : Index := Scalar.indexCast v189
  ![23, v346.toNat]
def k0_off91 (v1 : BitVec 32) (k0_t3 : Fin (k0_t3_loop v1).trips) : Fin 2 → Nat :=
  let c64_88 : Index := 64#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v360 : Index := Scalar.indexCast v189
  ![64, v360.toNat]
def k0_off92 (v1 : BitVec 32) (k0_t3 : Fin (k0_t3_loop v1).trips) : Fin 2 → Nat :=
  let c128 : Index := 128#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v367 : Index := Scalar.indexCast v189
  ![128, v367.toNat]
def k0_off93 (v1 : BitVec 32) (k0_t3 : Fin (k0_t3_loop v1).trips) : Fin 2 → Nat :=
  let c24 : Index := 24#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v373 : Index := Scalar.indexCast v189
  ![24, v373.toNat]
def k0_off94 (v1 : BitVec 32) (k0_t3 : Fin (k0_t3_loop v1).trips) : Fin 2 → Nat :=
  let c144 : Index := 144#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v387 : Index := Scalar.indexCast v189
  ![144, v387.toNat]
def k0_off95 (v1 : BitVec 32) (k0_t3 : Fin (k0_t3_loop v1).trips) : Fin 2 → Nat :=
  let c25 : Index := 25#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v393 : Index := Scalar.indexCast v189
  ![25, v393.toNat]
def k0_off96 (v1 : BitVec 32) (k0_t3 : Fin (k0_t3_loop v1).trips) : Fin 2 → Nat :=
  let c160 : Index := 160#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v407 : Index := Scalar.indexCast v189
  ![160, v407.toNat]
def k0_off97 (v1 : BitVec 32) (k0_t3 : Fin (k0_t3_loop v1).trips) : Fin 2 → Nat :=
  let c26 : Index := 26#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v413 : Index := Scalar.indexCast v189
  ![26, v413.toNat]
def k0_off98 (v1 : BitVec 32) (k0_t3 : Fin (k0_t3_loop v1).trips) : Fin 2 → Nat :=
  let c176 : Index := 176#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v427 : Index := Scalar.indexCast v189
  ![176, v427.toNat]
def k0_off99 (v1 : BitVec 32) (k0_t3 : Fin (k0_t3_loop v1).trips) : Fin 2 → Nat :=
  let c27 : Index := 27#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v433 : Index := Scalar.indexCast v189
  ![27, v433.toNat]
def k0_off100 (v1 : BitVec 32) (k0_t3 : Fin (k0_t3_loop v1).trips) : Fin 2 → Nat :=
  let c128_98 : Index := 128#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v447 : Index := Scalar.indexCast v189
  ![128, v447.toNat]
def k0_off101 (v1 : BitVec 32) (k0_t3 : Fin (k0_t3_loop v1).trips) : Fin 2 → Nat :=
  let c192 : Index := 192#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v454 : Index := Scalar.indexCast v189
  ![192, v454.toNat]
def k0_off102 (v1 : BitVec 32) (k0_t3 : Fin (k0_t3_loop v1).trips) : Fin 2 → Nat :=
  let c28 : Index := 28#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v460 : Index := Scalar.indexCast v189
  ![28, v460.toNat]
def k0_off103 (v1 : BitVec 32) (k0_t3 : Fin (k0_t3_loop v1).trips) : Fin 2 → Nat :=
  let c208 : Index := 208#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v474 : Index := Scalar.indexCast v189
  ![208, v474.toNat]
def k0_off104 (v1 : BitVec 32) (k0_t3 : Fin (k0_t3_loop v1).trips) : Fin 2 → Nat :=
  let c29 : Index := 29#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v480 : Index := Scalar.indexCast v189
  ![29, v480.toNat]
def k0_off105 (v1 : BitVec 32) (k0_t3 : Fin (k0_t3_loop v1).trips) : Fin 2 → Nat :=
  let c224 : Index := 224#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v494 : Index := Scalar.indexCast v189
  ![224, v494.toNat]
def k0_off106 (v1 : BitVec 32) (k0_t3 : Fin (k0_t3_loop v1).trips) : Fin 2 → Nat :=
  let c30 : Index := 30#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v500 : Index := Scalar.indexCast v189
  ![30, v500.toNat]
def k0_off107 (v1 : BitVec 32) (k0_t3 : Fin (k0_t3_loop v1).trips) : Fin 2 → Nat :=
  let c240 : Index := 240#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v514 : Index := Scalar.indexCast v189
  ![240, v514.toNat]
def k0_off108 (v1 : BitVec 32) (k0_t3 : Fin (k0_t3_loop v1).trips) : Fin 2 → Nat :=
  let c31 : Index := 31#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v520 : Index := Scalar.indexCast v189
  ![31, v520.toNat]
def k0_off109 (v1 : BitVec 32) (k0_t3 : Fin (k0_t3_loop v1).trips) : Fin 2 → Nat :=
  let c192_108 : Index := 192#32
  let c0_i32_58 : BitVec 32 := 0#32
  let c1_i32_60 : BitVec 32 := 1#32
  let arg14 : BitVec 32 := Scf.iv c0_i32_58 c1_i32_60 k0_t3
  let c256_i32 : BitVec 32 := 256#32
  let v188 : BitVec 32 := Scalar.muli arg14 c256_i32
  let v189 : BitVec 32 := v188
  let v534 : Index := Scalar.indexCast v189
  ![192, v534.toNat]
@[reducible] def k0_t4_loop (v1 : BitVec 32) : Scf.Loop 32 :=
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let v156 : BitVec 32 := Scalar.addi c0_i32_58 v155
  let c1_i32_61 : BitVec 32 := 1#32
  ⟨v159, v156, c1_i32_61⟩
def k0_mult4 (v1 : BitVec 32) (k0_t4 : Fin (k0_t4_loop v1).trips) : BitVec 32 :=
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  v188
def k0_off110 (v1 : BitVec 32) (k0_t4 : Fin (k0_t4_loop v1).trips) : Fin 2 → Nat :=
  let c0_66 : Index := 0#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v193 : Index := Scalar.indexCast v189
  ![0, v193.toNat]
def k0_off111 (v1 : BitVec 32) (k0_t4 : Fin (k0_t4_loop v1).trips) : Fin 2 → Nat :=
  let c16 : Index := 16#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v199 : Index := Scalar.indexCast v189
  ![16, v199.toNat]
def k0_off112 (v1 : BitVec 32) (k0_t4 : Fin (k0_t4_loop v1).trips) : Fin 2 → Nat :=
  let c16_70 : Index := 16#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v213 : Index := Scalar.indexCast v189
  ![16, v213.toNat]
def k0_off113 (v1 : BitVec 32) (k0_t4 : Fin (k0_t4_loop v1).trips) : Fin 2 → Nat :=
  let c17 : Index := 17#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v219 : Index := Scalar.indexCast v189
  ![17, v219.toNat]
def k0_off114 (v1 : BitVec 32) (k0_t4 : Fin (k0_t4_loop v1).trips) : Fin 2 → Nat :=
  let c32 : Index := 32#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v233 : Index := Scalar.indexCast v189
  ![32, v233.toNat]
def k0_off115 (v1 : BitVec 32) (k0_t4 : Fin (k0_t4_loop v1).trips) : Fin 2 → Nat :=
  let c18 : Index := 18#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v239 : Index := Scalar.indexCast v189
  ![18, v239.toNat]
def k0_off116 (v1 : BitVec 32) (k0_t4 : Fin (k0_t4_loop v1).trips) : Fin 2 → Nat :=
  let c48 : Index := 48#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v253 : Index := Scalar.indexCast v189
  ![48, v253.toNat]
def k0_off117 (v1 : BitVec 32) (k0_t4 : Fin (k0_t4_loop v1).trips) : Fin 2 → Nat :=
  let c19 : Index := 19#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v259 : Index := Scalar.indexCast v189
  ![19, v259.toNat]
def k0_off118 (v1 : BitVec 32) (k0_t4 : Fin (k0_t4_loop v1).trips) : Fin 2 → Nat :=
  let c0_78 : Index := 0#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v273 : Index := Scalar.indexCast v189
  ![0, v273.toNat]
def k0_off119 (v1 : BitVec 32) (k0_t4 : Fin (k0_t4_loop v1).trips) : Fin 2 → Nat :=
  let c64 : Index := 64#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v280 : Index := Scalar.indexCast v189
  ![64, v280.toNat]
def k0_off120 (v1 : BitVec 32) (k0_t4 : Fin (k0_t4_loop v1).trips) : Fin 2 → Nat :=
  let c20 : Index := 20#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v286 : Index := Scalar.indexCast v189
  ![20, v286.toNat]
def k0_off121 (v1 : BitVec 32) (k0_t4 : Fin (k0_t4_loop v1).trips) : Fin 2 → Nat :=
  let c80 : Index := 80#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v300 : Index := Scalar.indexCast v189
  ![80, v300.toNat]
def k0_off122 (v1 : BitVec 32) (k0_t4 : Fin (k0_t4_loop v1).trips) : Fin 2 → Nat :=
  let c21 : Index := 21#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v306 : Index := Scalar.indexCast v189
  ![21, v306.toNat]
def k0_off123 (v1 : BitVec 32) (k0_t4 : Fin (k0_t4_loop v1).trips) : Fin 2 → Nat :=
  let c96 : Index := 96#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v320 : Index := Scalar.indexCast v189
  ![96, v320.toNat]
def k0_off124 (v1 : BitVec 32) (k0_t4 : Fin (k0_t4_loop v1).trips) : Fin 2 → Nat :=
  let c22 : Index := 22#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v326 : Index := Scalar.indexCast v189
  ![22, v326.toNat]
def k0_off125 (v1 : BitVec 32) (k0_t4 : Fin (k0_t4_loop v1).trips) : Fin 2 → Nat :=
  let c112 : Index := 112#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v340 : Index := Scalar.indexCast v189
  ![112, v340.toNat]
def k0_off126 (v1 : BitVec 32) (k0_t4 : Fin (k0_t4_loop v1).trips) : Fin 2 → Nat :=
  let c23 : Index := 23#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v346 : Index := Scalar.indexCast v189
  ![23, v346.toNat]
def k0_off127 (v1 : BitVec 32) (k0_t4 : Fin (k0_t4_loop v1).trips) : Fin 2 → Nat :=
  let c64_88 : Index := 64#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v360 : Index := Scalar.indexCast v189
  ![64, v360.toNat]
def k0_off128 (v1 : BitVec 32) (k0_t4 : Fin (k0_t4_loop v1).trips) : Fin 2 → Nat :=
  let c128 : Index := 128#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v367 : Index := Scalar.indexCast v189
  ![128, v367.toNat]
def k0_off129 (v1 : BitVec 32) (k0_t4 : Fin (k0_t4_loop v1).trips) : Fin 2 → Nat :=
  let c24 : Index := 24#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v373 : Index := Scalar.indexCast v189
  ![24, v373.toNat]
def k0_off130 (v1 : BitVec 32) (k0_t4 : Fin (k0_t4_loop v1).trips) : Fin 2 → Nat :=
  let c144 : Index := 144#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v387 : Index := Scalar.indexCast v189
  ![144, v387.toNat]
def k0_off131 (v1 : BitVec 32) (k0_t4 : Fin (k0_t4_loop v1).trips) : Fin 2 → Nat :=
  let c25 : Index := 25#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v393 : Index := Scalar.indexCast v189
  ![25, v393.toNat]
def k0_off132 (v1 : BitVec 32) (k0_t4 : Fin (k0_t4_loop v1).trips) : Fin 2 → Nat :=
  let c160 : Index := 160#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v407 : Index := Scalar.indexCast v189
  ![160, v407.toNat]
def k0_off133 (v1 : BitVec 32) (k0_t4 : Fin (k0_t4_loop v1).trips) : Fin 2 → Nat :=
  let c26 : Index := 26#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v413 : Index := Scalar.indexCast v189
  ![26, v413.toNat]
def k0_off134 (v1 : BitVec 32) (k0_t4 : Fin (k0_t4_loop v1).trips) : Fin 2 → Nat :=
  let c176 : Index := 176#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v427 : Index := Scalar.indexCast v189
  ![176, v427.toNat]
def k0_off135 (v1 : BitVec 32) (k0_t4 : Fin (k0_t4_loop v1).trips) : Fin 2 → Nat :=
  let c27 : Index := 27#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v433 : Index := Scalar.indexCast v189
  ![27, v433.toNat]
def k0_off136 (v1 : BitVec 32) (k0_t4 : Fin (k0_t4_loop v1).trips) : Fin 2 → Nat :=
  let c128_98 : Index := 128#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v447 : Index := Scalar.indexCast v189
  ![128, v447.toNat]
def k0_off137 (v1 : BitVec 32) (k0_t4 : Fin (k0_t4_loop v1).trips) : Fin 2 → Nat :=
  let c192 : Index := 192#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v454 : Index := Scalar.indexCast v189
  ![192, v454.toNat]
def k0_off138 (v1 : BitVec 32) (k0_t4 : Fin (k0_t4_loop v1).trips) : Fin 2 → Nat :=
  let c28 : Index := 28#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v460 : Index := Scalar.indexCast v189
  ![28, v460.toNat]
def k0_off139 (v1 : BitVec 32) (k0_t4 : Fin (k0_t4_loop v1).trips) : Fin 2 → Nat :=
  let c208 : Index := 208#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v474 : Index := Scalar.indexCast v189
  ![208, v474.toNat]
def k0_off140 (v1 : BitVec 32) (k0_t4 : Fin (k0_t4_loop v1).trips) : Fin 2 → Nat :=
  let c29 : Index := 29#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v480 : Index := Scalar.indexCast v189
  ![29, v480.toNat]
def k0_off141 (v1 : BitVec 32) (k0_t4 : Fin (k0_t4_loop v1).trips) : Fin 2 → Nat :=
  let c224 : Index := 224#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v494 : Index := Scalar.indexCast v189
  ![224, v494.toNat]
def k0_off142 (v1 : BitVec 32) (k0_t4 : Fin (k0_t4_loop v1).trips) : Fin 2 → Nat :=
  let c30 : Index := 30#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v500 : Index := Scalar.indexCast v189
  ![30, v500.toNat]
def k0_off143 (v1 : BitVec 32) (k0_t4 : Fin (k0_t4_loop v1).trips) : Fin 2 → Nat :=
  let c240 : Index := 240#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v514 : Index := Scalar.indexCast v189
  ![240, v514.toNat]
def k0_off144 (v1 : BitVec 32) (k0_t4 : Fin (k0_t4_loop v1).trips) : Fin 2 → Nat :=
  let c31 : Index := 31#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v520 : Index := Scalar.indexCast v189
  ![31, v520.toNat]
def k0_off145 (v1 : BitVec 32) (k0_t4 : Fin (k0_t4_loop v1).trips) : Fin 2 → Nat :=
  let c192_108 : Index := 192#32
  let c0_i32_58 : BitVec 32 := 0#32
  let c4095_i32 : BitVec 32 := 4095#32
  let v2 : BitVec 32 := Scalar.addi v1 c4095_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4096_i32 : BitVec 32 := 4096#32
  let c0_i32_1 : BitVec 32 := 0#32
  let v9 : BitVec 1 := Scalar.cmpi .sgt c4096_i32 c0_i32_1
  let v10 : BitVec 32 := Scalar.extui v9
  let c0_i32_2 : BitVec 32 := 0#32
  let v11 : BitVec 1 := Scalar.cmpi .slt c4096_i32 c0_i32_2
  let v12 : BitVec 32 := Scalar.extui v11
  let v13 : BitVec 32 := Scalar.subi v10 v12
  let v14 : BitVec 1 := Scalar.cmpi .ne v8 v13
  let v15 : BitVec 32 := Scalar.remsi v2 c4096_i32
  let c0_i32_3 : BitVec 32 := 0#32
  let v16 : BitVec 1 := Scalar.cmpi .ne v15 c0_i32_3
  let v17 : BitVec 1 := Scalar.andi v14 v16
  let v3 : BitVec 32 := Scalar.divsi v2 c4096_i32
  let c1_i32 : BitVec 32 := 1#32
  let v18 : BitVec 32 := Scalar.subi v3 c1_i32
  let v19 : BitVec 32 := Scalar.select v17 v18 v3
  let v155 : BitVec 32 := Scalar.subi v19 c0_i32_58
  let c1_i32_59 : BitVec 32 := 1#32
  let v157 : BitVec 32 := Scalar.divsi v155 c1_i32_59
  let v158 : BitVec 32 := Scalar.muli v157 c1_i32_59
  let v159 : BitVec 32 := Scalar.addi c0_i32_58 v158
  let c1_i32_61 : BitVec 32 := 1#32
  let arg14 : BitVec 32 := Scf.iv v159 c1_i32_61 k0_t4
  let c256_i32 : BitVec 32 := 256#32
  let v188 : BitVec 32 := Scalar.muli arg14 c256_i32
  let v189 : BitVec 32 := v188
  let v534 : Index := Scalar.indexCast v189
  ![192, v534.toNat]

def k0_chk1_0 (v1 : BitVec 32) : Prop :=
  ((k0_t1_loop v1).OK) ∧
  (∀ k0_t1 : Fin (k0_t1_loop v1).trips, 256 ∣ (k0_mult1 v1 k0_t1).toNat) ∧
  (∀ k0_t1 : Fin (k0_t1_loop v1).trips, ∀ a, (k0_off2 v1 k0_t1) a + S64x256.size a ≤ S256x1024.size a) ∧
  (∀ k0_t1 : Fin (k0_t1_loop v1).trips, ∀ a, (k0_off3 v1 k0_t1) a + S1x256.size a ≤ S32x1024.size a) ∧
  (∀ k0_t1 : Fin (k0_t1_loop v1).trips, ∀ a, (k0_off4 v1 k0_t1) a + S16x256.size a ≤ S256x1024.size a) ∧
  (∀ k0_t1 : Fin (k0_t1_loop v1).trips, ∀ a, (k0_off5 v1 k0_t1) a + S1x256.size a ≤ S32x1024.size a) ∧
  (∀ k0_t1 : Fin (k0_t1_loop v1).trips, ∀ a, (k0_off6 v1 k0_t1) a + S16x256.size a ≤ S256x1024.size a) ∧
  (∀ k0_t1 : Fin (k0_t1_loop v1).trips, ∀ a, (k0_off7 v1 k0_t1) a + S1x256.size a ≤ S32x1024.size a) ∧
  (∀ k0_t1 : Fin (k0_t1_loop v1).trips, ∀ a, (k0_off8 v1 k0_t1) a + S16x256.size a ≤ S256x1024.size a) ∧
  (∀ k0_t1 : Fin (k0_t1_loop v1).trips, ∀ a, (k0_off9 v1 k0_t1) a + S1x256.size a ≤ S32x1024.size a) ∧
  (∀ k0_t1 : Fin (k0_t1_loop v1).trips, ∀ a, (k0_off10 v1 k0_t1) a + S16x256.size a ≤ S256x1024.size a) ∧
  (∀ k0_t1 : Fin (k0_t1_loop v1).trips, ∀ a, (k0_off11 v1 k0_t1) a + S64x256.size a ≤ S256x1024.size a) ∧
  (∀ k0_t1 : Fin (k0_t1_loop v1).trips, ∀ a, (k0_off12 v1 k0_t1) a + S1x256.size a ≤ S32x1024.size a) ∧
  (∀ k0_t1 : Fin (k0_t1_loop v1).trips, ∀ a, (k0_off13 v1 k0_t1) a + S16x256.size a ≤ S256x1024.size a) ∧
  (∀ k0_t1 : Fin (k0_t1_loop v1).trips, ∀ a, (k0_off14 v1 k0_t1) a + S1x256.size a ≤ S32x1024.size a) ∧
  (∀ k0_t1 : Fin (k0_t1_loop v1).trips, ∀ a, (k0_off15 v1 k0_t1) a + S16x256.size a ≤ S256x1024.size a) ∧
  (∀ k0_t1 : Fin (k0_t1_loop v1).trips, ∀ a, (k0_off16 v1 k0_t1) a + S1x256.size a ≤ S32x1024.size a) ∧
  (∀ k0_t1 : Fin (k0_t1_loop v1).trips, ∀ a, (k0_off17 v1 k0_t1) a + S16x256.size a ≤ S256x1024.size a) ∧
  (∀ k0_t1 : Fin (k0_t1_loop v1).trips, ∀ a, (k0_off18 v1 k0_t1) a + S1x256.size a ≤ S32x1024.size a) ∧
  (∀ k0_t1 : Fin (k0_t1_loop v1).trips, ∀ a, (k0_off19 v1 k0_t1) a + S16x256.size a ≤ S256x1024.size a) ∧
  (∀ k0_t1 : Fin (k0_t1_loop v1).trips, ∀ a, (k0_off20 v1 k0_t1) a + S64x256.size a ≤ S256x1024.size a) ∧
  (∀ k0_t1 : Fin (k0_t1_loop v1).trips, ∀ a, (k0_off21 v1 k0_t1) a + S1x256.size a ≤ S32x1024.size a) ∧
  (∀ k0_t1 : Fin (k0_t1_loop v1).trips, ∀ a, (k0_off22 v1 k0_t1) a + S16x256.size a ≤ S256x1024.size a) ∧
  (∀ k0_t1 : Fin (k0_t1_loop v1).trips, ∀ a, (k0_off23 v1 k0_t1) a + S1x256.size a ≤ S32x1024.size a) ∧
  (∀ k0_t1 : Fin (k0_t1_loop v1).trips, ∀ a, (k0_off24 v1 k0_t1) a + S16x256.size a ≤ S256x1024.size a) ∧
  (∀ k0_t1 : Fin (k0_t1_loop v1).trips, ∀ a, (k0_off25 v1 k0_t1) a + S1x256.size a ≤ S32x1024.size a) ∧
  (∀ k0_t1 : Fin (k0_t1_loop v1).trips, ∀ a, (k0_off26 v1 k0_t1) a + S16x256.size a ≤ S256x1024.size a) ∧
  (∀ k0_t1 : Fin (k0_t1_loop v1).trips, ∀ a, (k0_off27 v1 k0_t1) a + S1x256.size a ≤ S32x1024.size a) ∧
  (∀ k0_t1 : Fin (k0_t1_loop v1).trips, ∀ a, (k0_off28 v1 k0_t1) a + S16x256.size a ≤ S256x1024.size a) ∧
  (∀ k0_t1 : Fin (k0_t1_loop v1).trips, ∀ a, (k0_off29 v1 k0_t1) a + S64x256.size a ≤ S256x1024.size a) ∧
  (∀ k0_t1 : Fin (k0_t1_loop v1).trips, ∀ a, (k0_off30 v1 k0_t1) a + S1x256.size a ≤ S32x1024.size a) ∧
  (∀ k0_t1 : Fin (k0_t1_loop v1).trips, ∀ a, (k0_off31 v1 k0_t1) a + S16x256.size a ≤ S256x1024.size a)
def k0_chk1_1 (v1 : BitVec 32) : Prop :=
  (∀ k0_t1 : Fin (k0_t1_loop v1).trips, ∀ a, (k0_off32 v1 k0_t1) a + S1x256.size a ≤ S32x1024.size a) ∧
  (∀ k0_t1 : Fin (k0_t1_loop v1).trips, ∀ a, (k0_off33 v1 k0_t1) a + S16x256.size a ≤ S256x1024.size a) ∧
  (∀ k0_t1 : Fin (k0_t1_loop v1).trips, ∀ a, (k0_off34 v1 k0_t1) a + S1x256.size a ≤ S32x1024.size a) ∧
  (∀ k0_t1 : Fin (k0_t1_loop v1).trips, ∀ a, (k0_off35 v1 k0_t1) a + S16x256.size a ≤ S256x1024.size a) ∧
  (∀ k0_t1 : Fin (k0_t1_loop v1).trips, ∀ a, (k0_off36 v1 k0_t1) a + S1x256.size a ≤ S32x1024.size a) ∧
  (∀ k0_t1 : Fin (k0_t1_loop v1).trips, ∀ a, (k0_off37 v1 k0_t1) a + S16x256.size a ≤ S256x1024.size a) ∧
  ((k0_t2_loop v1).OK) ∧
  (∀ k0_t2 : Fin (k0_t2_loop v1).trips, 256 ∣ (k0_mult2 v1 k0_t2).toNat) ∧
  (∀ k0_t2 : Fin (k0_t2_loop v1).trips, ∀ a, (k0_off38 v1 k0_t2) a + S64x256.size a ≤ S256x1024.size a) ∧
  (∀ k0_t2 : Fin (k0_t2_loop v1).trips, ∀ a, (k0_off39 v1 k0_t2) a + S1x256.size a ≤ S32x1024.size a) ∧
  (∀ k0_t2 : Fin (k0_t2_loop v1).trips, ∀ a, (k0_off40 v1 k0_t2) a + S16x256.size a ≤ S256x1024.size a) ∧
  (∀ k0_t2 : Fin (k0_t2_loop v1).trips, ∀ a, (k0_off41 v1 k0_t2) a + S1x256.size a ≤ S32x1024.size a) ∧
  (∀ k0_t2 : Fin (k0_t2_loop v1).trips, ∀ a, (k0_off42 v1 k0_t2) a + S16x256.size a ≤ S256x1024.size a) ∧
  (∀ k0_t2 : Fin (k0_t2_loop v1).trips, ∀ a, (k0_off43 v1 k0_t2) a + S1x256.size a ≤ S32x1024.size a) ∧
  (∀ k0_t2 : Fin (k0_t2_loop v1).trips, ∀ a, (k0_off44 v1 k0_t2) a + S16x256.size a ≤ S256x1024.size a) ∧
  (∀ k0_t2 : Fin (k0_t2_loop v1).trips, ∀ a, (k0_off45 v1 k0_t2) a + S1x256.size a ≤ S32x1024.size a) ∧
  (∀ k0_t2 : Fin (k0_t2_loop v1).trips, ∀ a, (k0_off46 v1 k0_t2) a + S16x256.size a ≤ S256x1024.size a) ∧
  (∀ k0_t2 : Fin (k0_t2_loop v1).trips, ∀ a, (k0_off47 v1 k0_t2) a + S64x256.size a ≤ S256x1024.size a) ∧
  (∀ k0_t2 : Fin (k0_t2_loop v1).trips, ∀ a, (k0_off48 v1 k0_t2) a + S1x256.size a ≤ S32x1024.size a) ∧
  (∀ k0_t2 : Fin (k0_t2_loop v1).trips, ∀ a, (k0_off49 v1 k0_t2) a + S16x256.size a ≤ S256x1024.size a) ∧
  (∀ k0_t2 : Fin (k0_t2_loop v1).trips, ∀ a, (k0_off50 v1 k0_t2) a + S1x256.size a ≤ S32x1024.size a) ∧
  (∀ k0_t2 : Fin (k0_t2_loop v1).trips, ∀ a, (k0_off51 v1 k0_t2) a + S16x256.size a ≤ S256x1024.size a) ∧
  (∀ k0_t2 : Fin (k0_t2_loop v1).trips, ∀ a, (k0_off52 v1 k0_t2) a + S1x256.size a ≤ S32x1024.size a) ∧
  (∀ k0_t2 : Fin (k0_t2_loop v1).trips, ∀ a, (k0_off53 v1 k0_t2) a + S16x256.size a ≤ S256x1024.size a) ∧
  (∀ k0_t2 : Fin (k0_t2_loop v1).trips, ∀ a, (k0_off54 v1 k0_t2) a + S1x256.size a ≤ S32x1024.size a) ∧
  (∀ k0_t2 : Fin (k0_t2_loop v1).trips, ∀ a, (k0_off55 v1 k0_t2) a + S16x256.size a ≤ S256x1024.size a) ∧
  (∀ k0_t2 : Fin (k0_t2_loop v1).trips, ∀ a, (k0_off56 v1 k0_t2) a + S64x256.size a ≤ S256x1024.size a) ∧
  (∀ k0_t2 : Fin (k0_t2_loop v1).trips, ∀ a, (k0_off57 v1 k0_t2) a + S1x256.size a ≤ S32x1024.size a) ∧
  (∀ k0_t2 : Fin (k0_t2_loop v1).trips, ∀ a, (k0_off58 v1 k0_t2) a + S16x256.size a ≤ S256x1024.size a) ∧
  (∀ k0_t2 : Fin (k0_t2_loop v1).trips, ∀ a, (k0_off59 v1 k0_t2) a + S1x256.size a ≤ S32x1024.size a) ∧
  (∀ k0_t2 : Fin (k0_t2_loop v1).trips, ∀ a, (k0_off60 v1 k0_t2) a + S16x256.size a ≤ S256x1024.size a) ∧
  (∀ k0_t2 : Fin (k0_t2_loop v1).trips, ∀ a, (k0_off61 v1 k0_t2) a + S1x256.size a ≤ S32x1024.size a)
def k0_chk1_2 (v1 : BitVec 32) : Prop :=
  (∀ k0_t2 : Fin (k0_t2_loop v1).trips, ∀ a, (k0_off62 v1 k0_t2) a + S16x256.size a ≤ S256x1024.size a) ∧
  (∀ k0_t2 : Fin (k0_t2_loop v1).trips, ∀ a, (k0_off63 v1 k0_t2) a + S1x256.size a ≤ S32x1024.size a) ∧
  (∀ k0_t2 : Fin (k0_t2_loop v1).trips, ∀ a, (k0_off64 v1 k0_t2) a + S16x256.size a ≤ S256x1024.size a) ∧
  (∀ k0_t2 : Fin (k0_t2_loop v1).trips, ∀ a, (k0_off65 v1 k0_t2) a + S64x256.size a ≤ S256x1024.size a) ∧
  (∀ k0_t2 : Fin (k0_t2_loop v1).trips, ∀ a, (k0_off66 v1 k0_t2) a + S1x256.size a ≤ S32x1024.size a) ∧
  (∀ k0_t2 : Fin (k0_t2_loop v1).trips, ∀ a, (k0_off67 v1 k0_t2) a + S16x256.size a ≤ S256x1024.size a) ∧
  (∀ k0_t2 : Fin (k0_t2_loop v1).trips, ∀ a, (k0_off68 v1 k0_t2) a + S1x256.size a ≤ S32x1024.size a) ∧
  (∀ k0_t2 : Fin (k0_t2_loop v1).trips, ∀ a, (k0_off69 v1 k0_t2) a + S16x256.size a ≤ S256x1024.size a) ∧
  (∀ k0_t2 : Fin (k0_t2_loop v1).trips, ∀ a, (k0_off70 v1 k0_t2) a + S1x256.size a ≤ S32x1024.size a) ∧
  (∀ k0_t2 : Fin (k0_t2_loop v1).trips, ∀ a, (k0_off71 v1 k0_t2) a + S16x256.size a ≤ S256x1024.size a) ∧
  (∀ k0_t2 : Fin (k0_t2_loop v1).trips, ∀ a, (k0_off72 v1 k0_t2) a + S1x256.size a ≤ S32x1024.size a) ∧
  (∀ k0_t2 : Fin (k0_t2_loop v1).trips, ∀ a, (k0_off73 v1 k0_t2) a + S16x256.size a ≤ S256x1024.size a) ∧
  ((k0_t3_loop v1).OK) ∧
  (∀ k0_t3 : Fin (k0_t3_loop v1).trips, 256 ∣ (k0_mult3 v1 k0_t3).toNat) ∧
  (∀ k0_t3 : Fin (k0_t3_loop v1).trips, ∀ a, (k0_off74 v1 k0_t3) a + S16x256.size a ≤ S256x1024.size a) ∧
  (∀ k0_t3 : Fin (k0_t3_loop v1).trips, ∀ a, (k0_off75 v1 k0_t3) a + S1x256.size a ≤ S32x1024.size a) ∧
  (∀ k0_t3 : Fin (k0_t3_loop v1).trips, ∀ a, (k0_off76 v1 k0_t3) a + S16x256.size a ≤ S256x1024.size a) ∧
  (∀ k0_t3 : Fin (k0_t3_loop v1).trips, ∀ a, (k0_off77 v1 k0_t3) a + S1x256.size a ≤ S32x1024.size a) ∧
  (∀ k0_t3 : Fin (k0_t3_loop v1).trips, ∀ a, (k0_off78 v1 k0_t3) a + S16x256.size a ≤ S256x1024.size a) ∧
  (∀ k0_t3 : Fin (k0_t3_loop v1).trips, ∀ a, (k0_off79 v1 k0_t3) a + S1x256.size a ≤ S32x1024.size a) ∧
  (∀ k0_t3 : Fin (k0_t3_loop v1).trips, ∀ a, (k0_off80 v1 k0_t3) a + S16x256.size a ≤ S256x1024.size a) ∧
  (∀ k0_t3 : Fin (k0_t3_loop v1).trips, ∀ a, (k0_off81 v1 k0_t3) a + S1x256.size a ≤ S32x1024.size a) ∧
  (∀ k0_t3 : Fin (k0_t3_loop v1).trips, ∀ a, (k0_off82 v1 k0_t3) a + S64x256.size a ≤ S256x1024.size a) ∧
  (∀ k0_t3 : Fin (k0_t3_loop v1).trips, ∀ a, (k0_off83 v1 k0_t3) a + S16x256.size a ≤ S256x1024.size a) ∧
  (∀ k0_t3 : Fin (k0_t3_loop v1).trips, ∀ a, (k0_off84 v1 k0_t3) a + S1x256.size a ≤ S32x1024.size a) ∧
  (∀ k0_t3 : Fin (k0_t3_loop v1).trips, ∀ a, (k0_off85 v1 k0_t3) a + S16x256.size a ≤ S256x1024.size a) ∧
  (∀ k0_t3 : Fin (k0_t3_loop v1).trips, ∀ a, (k0_off86 v1 k0_t3) a + S1x256.size a ≤ S32x1024.size a) ∧
  (∀ k0_t3 : Fin (k0_t3_loop v1).trips, ∀ a, (k0_off87 v1 k0_t3) a + S16x256.size a ≤ S256x1024.size a) ∧
  (∀ k0_t3 : Fin (k0_t3_loop v1).trips, ∀ a, (k0_off88 v1 k0_t3) a + S1x256.size a ≤ S32x1024.size a) ∧
  (∀ k0_t3 : Fin (k0_t3_loop v1).trips, ∀ a, (k0_off89 v1 k0_t3) a + S16x256.size a ≤ S256x1024.size a) ∧
  (∀ k0_t3 : Fin (k0_t3_loop v1).trips, ∀ a, (k0_off90 v1 k0_t3) a + S1x256.size a ≤ S32x1024.size a) ∧
  (∀ k0_t3 : Fin (k0_t3_loop v1).trips, ∀ a, (k0_off91 v1 k0_t3) a + S64x256.size a ≤ S256x1024.size a)
def k0_chk1_3 (v1 : BitVec 32) : Prop :=
  (∀ k0_t3 : Fin (k0_t3_loop v1).trips, ∀ a, (k0_off92 v1 k0_t3) a + S16x256.size a ≤ S256x1024.size a) ∧
  (∀ k0_t3 : Fin (k0_t3_loop v1).trips, ∀ a, (k0_off93 v1 k0_t3) a + S1x256.size a ≤ S32x1024.size a) ∧
  (∀ k0_t3 : Fin (k0_t3_loop v1).trips, ∀ a, (k0_off94 v1 k0_t3) a + S16x256.size a ≤ S256x1024.size a) ∧
  (∀ k0_t3 : Fin (k0_t3_loop v1).trips, ∀ a, (k0_off95 v1 k0_t3) a + S1x256.size a ≤ S32x1024.size a) ∧
  (∀ k0_t3 : Fin (k0_t3_loop v1).trips, ∀ a, (k0_off96 v1 k0_t3) a + S16x256.size a ≤ S256x1024.size a) ∧
  (∀ k0_t3 : Fin (k0_t3_loop v1).trips, ∀ a, (k0_off97 v1 k0_t3) a + S1x256.size a ≤ S32x1024.size a) ∧
  (∀ k0_t3 : Fin (k0_t3_loop v1).trips, ∀ a, (k0_off98 v1 k0_t3) a + S16x256.size a ≤ S256x1024.size a) ∧
  (∀ k0_t3 : Fin (k0_t3_loop v1).trips, ∀ a, (k0_off99 v1 k0_t3) a + S1x256.size a ≤ S32x1024.size a) ∧
  (∀ k0_t3 : Fin (k0_t3_loop v1).trips, ∀ a, (k0_off100 v1 k0_t3) a + S64x256.size a ≤ S256x1024.size a) ∧
  (∀ k0_t3 : Fin (k0_t3_loop v1).trips, ∀ a, (k0_off101 v1 k0_t3) a + S16x256.size a ≤ S256x1024.size a) ∧
  (∀ k0_t3 : Fin (k0_t3_loop v1).trips, ∀ a, (k0_off102 v1 k0_t3) a + S1x256.size a ≤ S32x1024.size a) ∧
  (∀ k0_t3 : Fin (k0_t3_loop v1).trips, ∀ a, (k0_off103 v1 k0_t3) a + S16x256.size a ≤ S256x1024.size a) ∧
  (∀ k0_t3 : Fin (k0_t3_loop v1).trips, ∀ a, (k0_off104 v1 k0_t3) a + S1x256.size a ≤ S32x1024.size a) ∧
  (∀ k0_t3 : Fin (k0_t3_loop v1).trips, ∀ a, (k0_off105 v1 k0_t3) a + S16x256.size a ≤ S256x1024.size a) ∧
  (∀ k0_t3 : Fin (k0_t3_loop v1).trips, ∀ a, (k0_off106 v1 k0_t3) a + S1x256.size a ≤ S32x1024.size a) ∧
  (∀ k0_t3 : Fin (k0_t3_loop v1).trips, ∀ a, (k0_off107 v1 k0_t3) a + S16x256.size a ≤ S256x1024.size a) ∧
  (∀ k0_t3 : Fin (k0_t3_loop v1).trips, ∀ a, (k0_off108 v1 k0_t3) a + S1x256.size a ≤ S32x1024.size a) ∧
  (∀ k0_t3 : Fin (k0_t3_loop v1).trips, ∀ a, (k0_off109 v1 k0_t3) a + S64x256.size a ≤ S256x1024.size a) ∧
  ((k0_t4_loop v1).OK) ∧
  (∀ k0_t4 : Fin (k0_t4_loop v1).trips, 256 ∣ (k0_mult4 v1 k0_t4).toNat) ∧
  (∀ k0_t4 : Fin (k0_t4_loop v1).trips, ∀ a, (k0_off110 v1 k0_t4) a + S16x256.size a ≤ S256x1024.size a) ∧
  (∀ k0_t4 : Fin (k0_t4_loop v1).trips, ∀ a, (k0_off111 v1 k0_t4) a + S1x256.size a ≤ S32x1024.size a) ∧
  (∀ k0_t4 : Fin (k0_t4_loop v1).trips, ∀ a, (k0_off112 v1 k0_t4) a + S16x256.size a ≤ S256x1024.size a) ∧
  (∀ k0_t4 : Fin (k0_t4_loop v1).trips, ∀ a, (k0_off113 v1 k0_t4) a + S1x256.size a ≤ S32x1024.size a) ∧
  (∀ k0_t4 : Fin (k0_t4_loop v1).trips, ∀ a, (k0_off114 v1 k0_t4) a + S16x256.size a ≤ S256x1024.size a) ∧
  (∀ k0_t4 : Fin (k0_t4_loop v1).trips, ∀ a, (k0_off115 v1 k0_t4) a + S1x256.size a ≤ S32x1024.size a) ∧
  (∀ k0_t4 : Fin (k0_t4_loop v1).trips, ∀ a, (k0_off116 v1 k0_t4) a + S16x256.size a ≤ S256x1024.size a) ∧
  (∀ k0_t4 : Fin (k0_t4_loop v1).trips, ∀ a, (k0_off117 v1 k0_t4) a + S1x256.size a ≤ S32x1024.size a) ∧
  (∀ k0_t4 : Fin (k0_t4_loop v1).trips, ∀ a, (k0_off118 v1 k0_t4) a + S64x256.size a ≤ S256x1024.size a) ∧
  (∀ k0_t4 : Fin (k0_t4_loop v1).trips, ∀ a, (k0_off119 v1 k0_t4) a + S16x256.size a ≤ S256x1024.size a) ∧
  (∀ k0_t4 : Fin (k0_t4_loop v1).trips, ∀ a, (k0_off120 v1 k0_t4) a + S1x256.size a ≤ S32x1024.size a) ∧
  (∀ k0_t4 : Fin (k0_t4_loop v1).trips, ∀ a, (k0_off121 v1 k0_t4) a + S16x256.size a ≤ S256x1024.size a)
def k0_chk1_4 (v1 : BitVec 32) : Prop :=
  (∀ k0_t4 : Fin (k0_t4_loop v1).trips, ∀ a, (k0_off122 v1 k0_t4) a + S1x256.size a ≤ S32x1024.size a) ∧
  (∀ k0_t4 : Fin (k0_t4_loop v1).trips, ∀ a, (k0_off123 v1 k0_t4) a + S16x256.size a ≤ S256x1024.size a) ∧
  (∀ k0_t4 : Fin (k0_t4_loop v1).trips, ∀ a, (k0_off124 v1 k0_t4) a + S1x256.size a ≤ S32x1024.size a) ∧
  (∀ k0_t4 : Fin (k0_t4_loop v1).trips, ∀ a, (k0_off125 v1 k0_t4) a + S16x256.size a ≤ S256x1024.size a) ∧
  (∀ k0_t4 : Fin (k0_t4_loop v1).trips, ∀ a, (k0_off126 v1 k0_t4) a + S1x256.size a ≤ S32x1024.size a) ∧
  (∀ k0_t4 : Fin (k0_t4_loop v1).trips, ∀ a, (k0_off127 v1 k0_t4) a + S64x256.size a ≤ S256x1024.size a) ∧
  (∀ k0_t4 : Fin (k0_t4_loop v1).trips, ∀ a, (k0_off128 v1 k0_t4) a + S16x256.size a ≤ S256x1024.size a) ∧
  (∀ k0_t4 : Fin (k0_t4_loop v1).trips, ∀ a, (k0_off129 v1 k0_t4) a + S1x256.size a ≤ S32x1024.size a) ∧
  (∀ k0_t4 : Fin (k0_t4_loop v1).trips, ∀ a, (k0_off130 v1 k0_t4) a + S16x256.size a ≤ S256x1024.size a) ∧
  (∀ k0_t4 : Fin (k0_t4_loop v1).trips, ∀ a, (k0_off131 v1 k0_t4) a + S1x256.size a ≤ S32x1024.size a) ∧
  (∀ k0_t4 : Fin (k0_t4_loop v1).trips, ∀ a, (k0_off132 v1 k0_t4) a + S16x256.size a ≤ S256x1024.size a) ∧
  (∀ k0_t4 : Fin (k0_t4_loop v1).trips, ∀ a, (k0_off133 v1 k0_t4) a + S1x256.size a ≤ S32x1024.size a) ∧
  (∀ k0_t4 : Fin (k0_t4_loop v1).trips, ∀ a, (k0_off134 v1 k0_t4) a + S16x256.size a ≤ S256x1024.size a) ∧
  (∀ k0_t4 : Fin (k0_t4_loop v1).trips, ∀ a, (k0_off135 v1 k0_t4) a + S1x256.size a ≤ S32x1024.size a) ∧
  (∀ k0_t4 : Fin (k0_t4_loop v1).trips, ∀ a, (k0_off136 v1 k0_t4) a + S64x256.size a ≤ S256x1024.size a) ∧
  (∀ k0_t4 : Fin (k0_t4_loop v1).trips, ∀ a, (k0_off137 v1 k0_t4) a + S16x256.size a ≤ S256x1024.size a) ∧
  (∀ k0_t4 : Fin (k0_t4_loop v1).trips, ∀ a, (k0_off138 v1 k0_t4) a + S1x256.size a ≤ S32x1024.size a) ∧
  (∀ k0_t4 : Fin (k0_t4_loop v1).trips, ∀ a, (k0_off139 v1 k0_t4) a + S16x256.size a ≤ S256x1024.size a) ∧
  (∀ k0_t4 : Fin (k0_t4_loop v1).trips, ∀ a, (k0_off140 v1 k0_t4) a + S1x256.size a ≤ S32x1024.size a) ∧
  (∀ k0_t4 : Fin (k0_t4_loop v1).trips, ∀ a, (k0_off141 v1 k0_t4) a + S16x256.size a ≤ S256x1024.size a) ∧
  (∀ k0_t4 : Fin (k0_t4_loop v1).trips, ∀ a, (k0_off142 v1 k0_t4) a + S1x256.size a ≤ S32x1024.size a) ∧
  (∀ k0_t4 : Fin (k0_t4_loop v1).trips, ∀ a, (k0_off143 v1 k0_t4) a + S16x256.size a ≤ S256x1024.size a) ∧
  (∀ k0_t4 : Fin (k0_t4_loop v1).trips, ∀ a, (k0_off144 v1 k0_t4) a + S1x256.size a ≤ S32x1024.size a) ∧
  (∀ k0_t4 : Fin (k0_t4_loop v1).trips, ∀ a, (k0_off145 v1 k0_t4) a + S64x256.size a ≤ S256x1024.size a)
def k0_chk1 (v1 : BitVec 32) : Prop :=
  k0_chk1_0 v1 ∧
  k0_chk1_1 v1 ∧
  k0_chk1_2 v1 ∧
  k0_chk1_3 v1 ∧
  k0_chk1_4 v1
theorem k0_t1_ok : ∀ (v1 : BitVec 32) (k0_hw1 : k0_chk1 v1), (k0_t1_loop v1).OK := fun v1 k0_hw1 => k0_hw1.1.1
theorem k0_mult1_dvd : ∀ (v1 : BitVec 32) (k0_hw1 : k0_chk1 v1) (k0_t1 : Fin (k0_t1_loop v1).trips), 256 ∣ (k0_mult1 v1 k0_t1).toNat := fun v1 k0_hw1 k0_t1 => k0_hw1.1.2.1 k0_t1
theorem k0_off2_inb : ∀ (v1 : BitVec 32) (k0_hw1 : k0_chk1 v1) (k0_t1 : Fin (k0_t1_loop v1).trips), ∀ a, (k0_off2 v1 k0_t1) a + S64x256.size a ≤ S256x1024.size a := fun v1 k0_hw1 k0_t1 => k0_hw1.1.2.2.1 k0_t1
theorem k0_off3_inb : ∀ (v1 : BitVec 32) (k0_hw1 : k0_chk1 v1) (k0_t1 : Fin (k0_t1_loop v1).trips), ∀ a, (k0_off3 v1 k0_t1) a + S1x256.size a ≤ S32x1024.size a := fun v1 k0_hw1 k0_t1 => k0_hw1.1.2.2.2.1 k0_t1
theorem k0_off4_inb : ∀ (v1 : BitVec 32) (k0_hw1 : k0_chk1 v1) (k0_t1 : Fin (k0_t1_loop v1).trips), ∀ a, (k0_off4 v1 k0_t1) a + S16x256.size a ≤ S256x1024.size a := fun v1 k0_hw1 k0_t1 => k0_hw1.1.2.2.2.2.1 k0_t1
theorem k0_off5_inb : ∀ (v1 : BitVec 32) (k0_hw1 : k0_chk1 v1) (k0_t1 : Fin (k0_t1_loop v1).trips), ∀ a, (k0_off5 v1 k0_t1) a + S1x256.size a ≤ S32x1024.size a := fun v1 k0_hw1 k0_t1 => k0_hw1.1.2.2.2.2.2.1 k0_t1
theorem k0_off6_inb : ∀ (v1 : BitVec 32) (k0_hw1 : k0_chk1 v1) (k0_t1 : Fin (k0_t1_loop v1).trips), ∀ a, (k0_off6 v1 k0_t1) a + S16x256.size a ≤ S256x1024.size a := fun v1 k0_hw1 k0_t1 => k0_hw1.1.2.2.2.2.2.2.1 k0_t1
theorem k0_off7_inb : ∀ (v1 : BitVec 32) (k0_hw1 : k0_chk1 v1) (k0_t1 : Fin (k0_t1_loop v1).trips), ∀ a, (k0_off7 v1 k0_t1) a + S1x256.size a ≤ S32x1024.size a := fun v1 k0_hw1 k0_t1 => k0_hw1.1.2.2.2.2.2.2.2.1 k0_t1
theorem k0_off8_inb : ∀ (v1 : BitVec 32) (k0_hw1 : k0_chk1 v1) (k0_t1 : Fin (k0_t1_loop v1).trips), ∀ a, (k0_off8 v1 k0_t1) a + S16x256.size a ≤ S256x1024.size a := fun v1 k0_hw1 k0_t1 => k0_hw1.1.2.2.2.2.2.2.2.2.1 k0_t1
theorem k0_off9_inb : ∀ (v1 : BitVec 32) (k0_hw1 : k0_chk1 v1) (k0_t1 : Fin (k0_t1_loop v1).trips), ∀ a, (k0_off9 v1 k0_t1) a + S1x256.size a ≤ S32x1024.size a := fun v1 k0_hw1 k0_t1 => k0_hw1.1.2.2.2.2.2.2.2.2.2.1 k0_t1
theorem k0_off10_inb : ∀ (v1 : BitVec 32) (k0_hw1 : k0_chk1 v1) (k0_t1 : Fin (k0_t1_loop v1).trips), ∀ a, (k0_off10 v1 k0_t1) a + S16x256.size a ≤ S256x1024.size a := fun v1 k0_hw1 k0_t1 => k0_hw1.1.2.2.2.2.2.2.2.2.2.2.1 k0_t1
theorem k0_off11_inb : ∀ (v1 : BitVec 32) (k0_hw1 : k0_chk1 v1) (k0_t1 : Fin (k0_t1_loop v1).trips), ∀ a, (k0_off11 v1 k0_t1) a + S64x256.size a ≤ S256x1024.size a := fun v1 k0_hw1 k0_t1 => k0_hw1.1.2.2.2.2.2.2.2.2.2.2.2.1 k0_t1
theorem k0_off12_inb : ∀ (v1 : BitVec 32) (k0_hw1 : k0_chk1 v1) (k0_t1 : Fin (k0_t1_loop v1).trips), ∀ a, (k0_off12 v1 k0_t1) a + S1x256.size a ≤ S32x1024.size a := fun v1 k0_hw1 k0_t1 => k0_hw1.1.2.2.2.2.2.2.2.2.2.2.2.2.1 k0_t1
theorem k0_off13_inb : ∀ (v1 : BitVec 32) (k0_hw1 : k0_chk1 v1) (k0_t1 : Fin (k0_t1_loop v1).trips), ∀ a, (k0_off13 v1 k0_t1) a + S16x256.size a ≤ S256x1024.size a := fun v1 k0_hw1 k0_t1 => k0_hw1.1.2.2.2.2.2.2.2.2.2.2.2.2.2.1 k0_t1
theorem k0_off14_inb : ∀ (v1 : BitVec 32) (k0_hw1 : k0_chk1 v1) (k0_t1 : Fin (k0_t1_loop v1).trips), ∀ a, (k0_off14 v1 k0_t1) a + S1x256.size a ≤ S32x1024.size a := fun v1 k0_hw1 k0_t1 => k0_hw1.1.2.2.2.2.2.2.2.2.2.2.2.2.2.2.1 k0_t1
theorem k0_off15_inb : ∀ (v1 : BitVec 32) (k0_hw1 : k0_chk1 v1) (k0_t1 : Fin (k0_t1_loop v1).trips), ∀ a, (k0_off15 v1 k0_t1) a + S16x256.size a ≤ S256x1024.size a := fun v1 k0_hw1 k0_t1 => k0_hw1.1.2.2.2.2.2.2.2.2.2.2.2.2.2.2.2.1 k0_t1
theorem k0_off16_inb : ∀ (v1 : BitVec 32) (k0_hw1 : k0_chk1 v1) (k0_t1 : Fin (k0_t1_loop v1).trips), ∀ a, (k0_off16 v1 k0_t1) a + S1x256.size a ≤ S32x1024.size a := fun v1 k0_hw1 k0_t1 => k0_hw1.1.2.2.2.2.2.2.2.2.2.2.2.2.2.2.2.2.1 k0_t1
theorem k0_off17_inb : ∀ (v1 : BitVec 32) (k0_hw1 : k0_chk1 v1) (k0_t1 : Fin (k0_t1_loop v1).trips), ∀ a, (k0_off17 v1 k0_t1) a + S16x256.size a ≤ S256x1024.size a := fun v1 k0_hw1 k0_t1 => k0_hw1.1.2.2.2.2.2.2.2.2.2.2.2.2.2.2.2.2.2.1 k0_t1
theorem k0_off18_inb : ∀ (v1 : BitVec 32) (k0_hw1 : k0_chk1 v1) (k0_t1 : Fin (k0_t1_loop v1).trips), ∀ a, (k0_off18 v1 k0_t1) a + S1x256.size a ≤ S32x1024.size a := fun v1 k0_hw1 k0_t1 => k0_hw1.1.2.2.2.2.2.2.2.2.2.2.2.2.2.2.2.2.2.2.1 k0_t1
theorem k0_off19_inb : ∀ (v1 : BitVec 32) (k0_hw1 : k0_chk1 v1) (k0_t1 : Fin (k0_t1_loop v1).trips), ∀ a, (k0_off19 v1 k0_t1) a + S16x256.size a ≤ S256x1024.size a := fun v1 k0_hw1 k0_t1 => k0_hw1.1.2.2.2.2.2.2.2.2.2.2.2.2.2.2.2.2.2.2.2.1 k0_t1
theorem k0_off20_inb : ∀ (v1 : BitVec 32) (k0_hw1 : k0_chk1 v1) (k0_t1 : Fin (k0_t1_loop v1).trips), ∀ a, (k0_off20 v1 k0_t1) a + S64x256.size a ≤ S256x1024.size a := fun v1 k0_hw1 k0_t1 => k0_hw1.1.2.2.2.2.2.2.2.2.2.2.2.2.2.2.2.2.2.2.2.2.1 k0_t1
theorem k0_off21_inb : ∀ (v1 : BitVec 32) (k0_hw1 : k0_chk1 v1) (k0_t1 : Fin (k0_t1_loop v1).trips), ∀ a, (k0_off21 v1 k0_t1) a + S1x256.size a ≤ S32x1024.size a := fun v1 k0_hw1 k0_t1 => k0_hw1.1.2.2.2.2.2.2.2.2.2.2.2.2.2.2.2.2.2.2.2.2.2.1 k0_t1
theorem k0_off22_inb : ∀ (v1 : BitVec 32) (k0_hw1 : k0_chk1 v1) (k0_t1 : Fin (k0_t1_loop v1).trips), ∀ a, (k0_off22 v1 k0_t1) a + S16x256.size a ≤ S256x1024.size a := fun v1 k0_hw1 k0_t1 => k0_hw1.1.2.2.2.2.2.2.2.2.2.2.2.2.2.2.2.2.2.2.2.2.2.2.1 k0_t1
theorem k0_off23_inb : ∀ (v1 : BitVec 32) (k0_hw1 : k0_chk1 v1) (k0_t1 : Fin (k0_t1_loop v1).trips), ∀ a, (k0_off23 v1 k0_t1) a + S1x256.size a ≤ S32x1024.size a := fun v1 k0_hw1 k0_t1 => k0_hw1.1.2.2.2.2.2.2.2.2.2.2.2.2.2.2.2.2.2.2.2.2.2.2.2.1 k0_t1
theorem k0_off24_inb : ∀ (v1 : BitVec 32) (k0_hw1 : k0_chk1 v1) (k0_t1 : Fin (k0_t1_loop v1).trips), ∀ a, (k0_off24 v1 k0_t1) a + S16x256.size a ≤ S256x1024.size a := fun v1 k0_hw1 k0_t1 => k0_hw1.1.2.2.2.2.2.2.2.2.2.2.2.2.2.2.2.2.2.2.2.2.2.2.2.2.1 k0_t1
theorem k0_off25_inb : ∀ (v1 : BitVec 32) (k0_hw1 : k0_chk1 v1) (k0_t1 : Fin (k0_t1_loop v1).trips), ∀ a, (k0_off25 v1 k0_t1) a + S1x256.size a ≤ S32x1024.size a := fun v1 k0_hw1 k0_t1 => k0_hw1.1.2.2.2.2.2.2.2.2.2.2.2.2.2.2.2.2.2.2.2.2.2.2.2.2.2.1 k0_t1
theorem k0_off26_inb : ∀ (v1 : BitVec 32) (k0_hw1 : k0_chk1 v1) (k0_t1 : Fin (k0_t1_loop v1).trips), ∀ a, (k0_off26 v1 k0_t1) a + S16x256.size a ≤ S256x1024.size a := fun v1 k0_hw1 k0_t1 => k0_hw1.1.2.2.2.2.2.2.2.2.2.2.2.2.2.2.2.2.2.2.2.2.2.2.2.2.2.2.1 k0_t1
theorem k0_off27_inb : ∀ (v1 : BitVec 32) (k0_hw1 : k0_chk1 v1) (k0_t1 : Fin (k0_t1_loop v1).trips), ∀ a, (k0_off27 v1 k0_t1) a + S1x256.size a ≤ S32x1024.size a := fun v1 k0_hw1 k0_t1 => k0_hw1.1.2.2.2.2.2.2.2.2.2.2.2.2.2.2.2.2.2.2.2.2.2.2.2.2.2.2.2.1 k0_t1
theorem k0_off28_inb : ∀ (v1 : BitVec 32) (k0_hw1 : k0_chk1 v1) (k0_t1 : Fin (k0_t1_loop v1).trips), ∀ a, (k0_off28 v1 k0_t1) a + S16x256.size a ≤ S256x1024.size a := fun v1 k0_hw1 k0_t1 => k0_hw1.1.2.2.2.2.2.2.2.2.2.2.2.2.2.2.2.2.2.2.2.2.2.2.2.2.2.2.2.2.1 k0_t1
theorem k0_off29_inb : ∀ (v1 : BitVec 32) (k0_hw1 : k0_chk1 v1) (k0_t1 : Fin (k0_t1_loop v1).trips), ∀ a, (k0_off29 v1 k0_t1) a + S64x256.size a ≤ S256x1024.size a := fun v1 k0_hw1 k0_t1 => k0_hw1.1.2.2.2.2.2.2.2.2.2.2.2.2.2.2.2.2.2.2.2.2.2.2.2.2.2.2.2.2.2.1 k0_t1
theorem k0_off30_inb : ∀ (v1 : BitVec 32) (k0_hw1 : k0_chk1 v1) (k0_t1 : Fin (k0_t1_loop v1).trips), ∀ a, (k0_off30 v1 k0_t1) a + S1x256.size a ≤ S32x1024.size a := fun v1 k0_hw1 k0_t1 => k0_hw1.1.2.2.2.2.2.2.2.2.2.2.2.2.2.2.2.2.2.2.2.2.2.2.2.2.2.2.2.2.2.2.1 k0_t1
theorem k0_off31_inb : ∀ (v1 : BitVec 32) (k0_hw1 : k0_chk1 v1) (k0_t1 : Fin (k0_t1_loop v1).trips), ∀ a, (k0_off31 v1 k0_t1) a + S16x256.size a ≤ S256x1024.size a := fun v1 k0_hw1 k0_t1 => k0_hw1.1.2.2.2.2.2.2.2.2.2.2.2.2.2.2.2.2.2.2.2.2.2.2.2.2.2.2.2.2.2.2.2 k0_t1
theorem k0_off32_inb : ∀ (v1 : BitVec 32) (k0_hw1 : k0_chk1 v1) (k0_t1 : Fin (k0_t1_loop v1).trips), ∀ a, (k0_off32 v1 k0_t1) a + S1x256.size a ≤ S32x1024.size a := fun v1 k0_hw1 k0_t1 => k0_hw1.2.1.1 k0_t1
theorem k0_off33_inb : ∀ (v1 : BitVec 32) (k0_hw1 : k0_chk1 v1) (k0_t1 : Fin (k0_t1_loop v1).trips), ∀ a, (k0_off33 v1 k0_t1) a + S16x256.size a ≤ S256x1024.size a := fun v1 k0_hw1 k0_t1 => k0_hw1.2.1.2.1 k0_t1
theorem k0_off34_inb : ∀ (v1 : BitVec 32) (k0_hw1 : k0_chk1 v1) (k0_t1 : Fin (k0_t1_loop v1).trips), ∀ a, (k0_off34 v1 k0_t1) a + S1x256.size a ≤ S32x1024.size a := fun v1 k0_hw1 k0_t1 => k0_hw1.2.1.2.2.1 k0_t1
theorem k0_off35_inb : ∀ (v1 : BitVec 32) (k0_hw1 : k0_chk1 v1) (k0_t1 : Fin (k0_t1_loop v1).trips), ∀ a, (k0_off35 v1 k0_t1) a + S16x256.size a ≤ S256x1024.size a := fun v1 k0_hw1 k0_t1 => k0_hw1.2.1.2.2.2.1 k0_t1
theorem k0_off36_inb : ∀ (v1 : BitVec 32) (k0_hw1 : k0_chk1 v1) (k0_t1 : Fin (k0_t1_loop v1).trips), ∀ a, (k0_off36 v1 k0_t1) a + S1x256.size a ≤ S32x1024.size a := fun v1 k0_hw1 k0_t1 => k0_hw1.2.1.2.2.2.2.1 k0_t1
theorem k0_off37_inb : ∀ (v1 : BitVec 32) (k0_hw1 : k0_chk1 v1) (k0_t1 : Fin (k0_t1_loop v1).trips), ∀ a, (k0_off37 v1 k0_t1) a + S16x256.size a ≤ S256x1024.size a := fun v1 k0_hw1 k0_t1 => k0_hw1.2.1.2.2.2.2.2.1 k0_t1
theorem k0_t2_ok : ∀ (v1 : BitVec 32) (k0_hw1 : k0_chk1 v1), (k0_t2_loop v1).OK := fun v1 k0_hw1 => k0_hw1.2.1.2.2.2.2.2.2.1
theorem k0_mult2_dvd : ∀ (v1 : BitVec 32) (k0_hw1 : k0_chk1 v1) (k0_t2 : Fin (k0_t2_loop v1).trips), 256 ∣ (k0_mult2 v1 k0_t2).toNat := fun v1 k0_hw1 k0_t2 => k0_hw1.2.1.2.2.2.2.2.2.2.1 k0_t2
theorem k0_off38_inb : ∀ (v1 : BitVec 32) (k0_hw1 : k0_chk1 v1) (k0_t2 : Fin (k0_t2_loop v1).trips), ∀ a, (k0_off38 v1 k0_t2) a + S64x256.size a ≤ S256x1024.size a := fun v1 k0_hw1 k0_t2 => k0_hw1.2.1.2.2.2.2.2.2.2.2.1 k0_t2
theorem k0_off39_inb : ∀ (v1 : BitVec 32) (k0_hw1 : k0_chk1 v1) (k0_t2 : Fin (k0_t2_loop v1).trips), ∀ a, (k0_off39 v1 k0_t2) a + S1x256.size a ≤ S32x1024.size a := fun v1 k0_hw1 k0_t2 => k0_hw1.2.1.2.2.2.2.2.2.2.2.2.1 k0_t2
theorem k0_off40_inb : ∀ (v1 : BitVec 32) (k0_hw1 : k0_chk1 v1) (k0_t2 : Fin (k0_t2_loop v1).trips), ∀ a, (k0_off40 v1 k0_t2) a + S16x256.size a ≤ S256x1024.size a := fun v1 k0_hw1 k0_t2 => k0_hw1.2.1.2.2.2.2.2.2.2.2.2.2.1 k0_t2
theorem k0_off41_inb : ∀ (v1 : BitVec 32) (k0_hw1 : k0_chk1 v1) (k0_t2 : Fin (k0_t2_loop v1).trips), ∀ a, (k0_off41 v1 k0_t2) a + S1x256.size a ≤ S32x1024.size a := fun v1 k0_hw1 k0_t2 => k0_hw1.2.1.2.2.2.2.2.2.2.2.2.2.2.1 k0_t2
theorem k0_off42_inb : ∀ (v1 : BitVec 32) (k0_hw1 : k0_chk1 v1) (k0_t2 : Fin (k0_t2_loop v1).trips), ∀ a, (k0_off42 v1 k0_t2) a + S16x256.size a ≤ S256x1024.size a := fun v1 k0_hw1 k0_t2 => k0_hw1.2.1.2.2.2.2.2.2.2.2.2.2.2.2.1 k0_t2
theorem k0_off43_inb : ∀ (v1 : BitVec 32) (k0_hw1 : k0_chk1 v1) (k0_t2 : Fin (k0_t2_loop v1).trips), ∀ a, (k0_off43 v1 k0_t2) a + S1x256.size a ≤ S32x1024.size a := fun v1 k0_hw1 k0_t2 => k0_hw1.2.1.2.2.2.2.2.2.2.2.2.2.2.2.2.1 k0_t2
theorem k0_off44_inb : ∀ (v1 : BitVec 32) (k0_hw1 : k0_chk1 v1) (k0_t2 : Fin (k0_t2_loop v1).trips), ∀ a, (k0_off44 v1 k0_t2) a + S16x256.size a ≤ S256x1024.size a := fun v1 k0_hw1 k0_t2 => k0_hw1.2.1.2.2.2.2.2.2.2.2.2.2.2.2.2.2.1 k0_t2
theorem k0_off45_inb : ∀ (v1 : BitVec 32) (k0_hw1 : k0_chk1 v1) (k0_t2 : Fin (k0_t2_loop v1).trips), ∀ a, (k0_off45 v1 k0_t2) a + S1x256.size a ≤ S32x1024.size a := fun v1 k0_hw1 k0_t2 => k0_hw1.2.1.2.2.2.2.2.2.2.2.2.2.2.2.2.2.2.1 k0_t2
theorem k0_off46_inb : ∀ (v1 : BitVec 32) (k0_hw1 : k0_chk1 v1) (k0_t2 : Fin (k0_t2_loop v1).trips), ∀ a, (k0_off46 v1 k0_t2) a + S16x256.size a ≤ S256x1024.size a := fun v1 k0_hw1 k0_t2 => k0_hw1.2.1.2.2.2.2.2.2.2.2.2.2.2.2.2.2.2.2.1 k0_t2
theorem k0_off47_inb : ∀ (v1 : BitVec 32) (k0_hw1 : k0_chk1 v1) (k0_t2 : Fin (k0_t2_loop v1).trips), ∀ a, (k0_off47 v1 k0_t2) a + S64x256.size a ≤ S256x1024.size a := fun v1 k0_hw1 k0_t2 => k0_hw1.2.1.2.2.2.2.2.2.2.2.2.2.2.2.2.2.2.2.2.1 k0_t2
theorem k0_off48_inb : ∀ (v1 : BitVec 32) (k0_hw1 : k0_chk1 v1) (k0_t2 : Fin (k0_t2_loop v1).trips), ∀ a, (k0_off48 v1 k0_t2) a + S1x256.size a ≤ S32x1024.size a := fun v1 k0_hw1 k0_t2 => k0_hw1.2.1.2.2.2.2.2.2.2.2.2.2.2.2.2.2.2.2.2.2.1 k0_t2
theorem k0_off49_inb : ∀ (v1 : BitVec 32) (k0_hw1 : k0_chk1 v1) (k0_t2 : Fin (k0_t2_loop v1).trips), ∀ a, (k0_off49 v1 k0_t2) a + S16x256.size a ≤ S256x1024.size a := fun v1 k0_hw1 k0_t2 => k0_hw1.2.1.2.2.2.2.2.2.2.2.2.2.2.2.2.2.2.2.2.2.2.1 k0_t2
theorem k0_off50_inb : ∀ (v1 : BitVec 32) (k0_hw1 : k0_chk1 v1) (k0_t2 : Fin (k0_t2_loop v1).trips), ∀ a, (k0_off50 v1 k0_t2) a + S1x256.size a ≤ S32x1024.size a := fun v1 k0_hw1 k0_t2 => k0_hw1.2.1.2.2.2.2.2.2.2.2.2.2.2.2.2.2.2.2.2.2.2.2.1 k0_t2
theorem k0_off51_inb : ∀ (v1 : BitVec 32) (k0_hw1 : k0_chk1 v1) (k0_t2 : Fin (k0_t2_loop v1).trips), ∀ a, (k0_off51 v1 k0_t2) a + S16x256.size a ≤ S256x1024.size a := fun v1 k0_hw1 k0_t2 => k0_hw1.2.1.2.2.2.2.2.2.2.2.2.2.2.2.2.2.2.2.2.2.2.2.2.1 k0_t2
theorem k0_off52_inb : ∀ (v1 : BitVec 32) (k0_hw1 : k0_chk1 v1) (k0_t2 : Fin (k0_t2_loop v1).trips), ∀ a, (k0_off52 v1 k0_t2) a + S1x256.size a ≤ S32x1024.size a := fun v1 k0_hw1 k0_t2 => k0_hw1.2.1.2.2.2.2.2.2.2.2.2.2.2.2.2.2.2.2.2.2.2.2.2.2.1 k0_t2
theorem k0_off53_inb : ∀ (v1 : BitVec 32) (k0_hw1 : k0_chk1 v1) (k0_t2 : Fin (k0_t2_loop v1).trips), ∀ a, (k0_off53 v1 k0_t2) a + S16x256.size a ≤ S256x1024.size a := fun v1 k0_hw1 k0_t2 => k0_hw1.2.1.2.2.2.2.2.2.2.2.2.2.2.2.2.2.2.2.2.2.2.2.2.2.2.1 k0_t2
theorem k0_off54_inb : ∀ (v1 : BitVec 32) (k0_hw1 : k0_chk1 v1) (k0_t2 : Fin (k0_t2_loop v1).trips), ∀ a, (k0_off54 v1 k0_t2) a + S1x256.size a ≤ S32x1024.size a := fun v1 k0_hw1 k0_t2 => k0_hw1.2.1.2.2.2.2.2.2.2.2.2.2.2.2.2.2.2.2.2.2.2.2.2.2.2.2.1 k0_t2
theorem k0_off55_inb : ∀ (v1 : BitVec 32) (k0_hw1 : k0_chk1 v1) (k0_t2 : Fin (k0_t2_loop v1).trips), ∀ a, (k0_off55 v1 k0_t2) a + S16x256.size a ≤ S256x1024.size a := fun v1 k0_hw1 k0_t2 => k0_hw1.2.1.2.2.2.2.2.2.2.2.2.2.2.2.2.2.2.2.2.2.2.2.2.2.2.2.2.1 k0_t2
theorem k0_off56_inb : ∀ (v1 : BitVec 32) (k0_hw1 : k0_chk1 v1) (k0_t2 : Fin (k0_t2_loop v1).trips), ∀ a, (k0_off56 v1 k0_t2) a + S64x256.size a ≤ S256x1024.size a := fun v1 k0_hw1 k0_t2 => k0_hw1.2.1.2.2.2.2.2.2.2.2.2.2.2.2.2.2.2.2.2.2.2.2.2.2.2.2.2.2.1 k0_t2
theorem k0_off57_inb : ∀ (v1 : BitVec 32) (k0_hw1 : k0_chk1 v1) (k0_t2 : Fin (k0_t2_loop v1).trips), ∀ a, (k0_off57 v1 k0_t2) a + S1x256.size a ≤ S32x1024.size a := fun v1 k0_hw1 k0_t2 => k0_hw1.2.1.2.2.2.2.2.2.2.2.2.2.2.2.2.2.2.2.2.2.2.2.2.2.2.2.2.2.2.1 k0_t2
theorem k0_off58_inb : ∀ (v1 : BitVec 32) (k0_hw1 : k0_chk1 v1) (k0_t2 : Fin (k0_t2_loop v1).trips), ∀ a, (k0_off58 v1 k0_t2) a + S16x256.size a ≤ S256x1024.size a := fun v1 k0_hw1 k0_t2 => k0_hw1.2.1.2.2.2.2.2.2.2.2.2.2.2.2.2.2.2.2.2.2.2.2.2.2.2.2.2.2.2.2.1 k0_t2
theorem k0_off59_inb : ∀ (v1 : BitVec 32) (k0_hw1 : k0_chk1 v1) (k0_t2 : Fin (k0_t2_loop v1).trips), ∀ a, (k0_off59 v1 k0_t2) a + S1x256.size a ≤ S32x1024.size a := fun v1 k0_hw1 k0_t2 => k0_hw1.2.1.2.2.2.2.2.2.2.2.2.2.2.2.2.2.2.2.2.2.2.2.2.2.2.2.2.2.2.2.2.1 k0_t2
theorem k0_off60_inb : ∀ (v1 : BitVec 32) (k0_hw1 : k0_chk1 v1) (k0_t2 : Fin (k0_t2_loop v1).trips), ∀ a, (k0_off60 v1 k0_t2) a + S16x256.size a ≤ S256x1024.size a := fun v1 k0_hw1 k0_t2 => k0_hw1.2.1.2.2.2.2.2.2.2.2.2.2.2.2.2.2.2.2.2.2.2.2.2.2.2.2.2.2.2.2.2.2.1 k0_t2
theorem k0_off61_inb : ∀ (v1 : BitVec 32) (k0_hw1 : k0_chk1 v1) (k0_t2 : Fin (k0_t2_loop v1).trips), ∀ a, (k0_off61 v1 k0_t2) a + S1x256.size a ≤ S32x1024.size a := fun v1 k0_hw1 k0_t2 => k0_hw1.2.1.2.2.2.2.2.2.2.2.2.2.2.2.2.2.2.2.2.2.2.2.2.2.2.2.2.2.2.2.2.2.2 k0_t2
theorem k0_off62_inb : ∀ (v1 : BitVec 32) (k0_hw1 : k0_chk1 v1) (k0_t2 : Fin (k0_t2_loop v1).trips), ∀ a, (k0_off62 v1 k0_t2) a + S16x256.size a ≤ S256x1024.size a := fun v1 k0_hw1 k0_t2 => k0_hw1.2.2.1.1 k0_t2
theorem k0_off63_inb : ∀ (v1 : BitVec 32) (k0_hw1 : k0_chk1 v1) (k0_t2 : Fin (k0_t2_loop v1).trips), ∀ a, (k0_off63 v1 k0_t2) a + S1x256.size a ≤ S32x1024.size a := fun v1 k0_hw1 k0_t2 => k0_hw1.2.2.1.2.1 k0_t2
theorem k0_off64_inb : ∀ (v1 : BitVec 32) (k0_hw1 : k0_chk1 v1) (k0_t2 : Fin (k0_t2_loop v1).trips), ∀ a, (k0_off64 v1 k0_t2) a + S16x256.size a ≤ S256x1024.size a := fun v1 k0_hw1 k0_t2 => k0_hw1.2.2.1.2.2.1 k0_t2
theorem k0_off65_inb : ∀ (v1 : BitVec 32) (k0_hw1 : k0_chk1 v1) (k0_t2 : Fin (k0_t2_loop v1).trips), ∀ a, (k0_off65 v1 k0_t2) a + S64x256.size a ≤ S256x1024.size a := fun v1 k0_hw1 k0_t2 => k0_hw1.2.2.1.2.2.2.1 k0_t2
theorem k0_off66_inb : ∀ (v1 : BitVec 32) (k0_hw1 : k0_chk1 v1) (k0_t2 : Fin (k0_t2_loop v1).trips), ∀ a, (k0_off66 v1 k0_t2) a + S1x256.size a ≤ S32x1024.size a := fun v1 k0_hw1 k0_t2 => k0_hw1.2.2.1.2.2.2.2.1 k0_t2
theorem k0_off67_inb : ∀ (v1 : BitVec 32) (k0_hw1 : k0_chk1 v1) (k0_t2 : Fin (k0_t2_loop v1).trips), ∀ a, (k0_off67 v1 k0_t2) a + S16x256.size a ≤ S256x1024.size a := fun v1 k0_hw1 k0_t2 => k0_hw1.2.2.1.2.2.2.2.2.1 k0_t2
theorem k0_off68_inb : ∀ (v1 : BitVec 32) (k0_hw1 : k0_chk1 v1) (k0_t2 : Fin (k0_t2_loop v1).trips), ∀ a, (k0_off68 v1 k0_t2) a + S1x256.size a ≤ S32x1024.size a := fun v1 k0_hw1 k0_t2 => k0_hw1.2.2.1.2.2.2.2.2.2.1 k0_t2
theorem k0_off69_inb : ∀ (v1 : BitVec 32) (k0_hw1 : k0_chk1 v1) (k0_t2 : Fin (k0_t2_loop v1).trips), ∀ a, (k0_off69 v1 k0_t2) a + S16x256.size a ≤ S256x1024.size a := fun v1 k0_hw1 k0_t2 => k0_hw1.2.2.1.2.2.2.2.2.2.2.1 k0_t2
theorem k0_off70_inb : ∀ (v1 : BitVec 32) (k0_hw1 : k0_chk1 v1) (k0_t2 : Fin (k0_t2_loop v1).trips), ∀ a, (k0_off70 v1 k0_t2) a + S1x256.size a ≤ S32x1024.size a := fun v1 k0_hw1 k0_t2 => k0_hw1.2.2.1.2.2.2.2.2.2.2.2.1 k0_t2
theorem k0_off71_inb : ∀ (v1 : BitVec 32) (k0_hw1 : k0_chk1 v1) (k0_t2 : Fin (k0_t2_loop v1).trips), ∀ a, (k0_off71 v1 k0_t2) a + S16x256.size a ≤ S256x1024.size a := fun v1 k0_hw1 k0_t2 => k0_hw1.2.2.1.2.2.2.2.2.2.2.2.2.1 k0_t2
theorem k0_off72_inb : ∀ (v1 : BitVec 32) (k0_hw1 : k0_chk1 v1) (k0_t2 : Fin (k0_t2_loop v1).trips), ∀ a, (k0_off72 v1 k0_t2) a + S1x256.size a ≤ S32x1024.size a := fun v1 k0_hw1 k0_t2 => k0_hw1.2.2.1.2.2.2.2.2.2.2.2.2.2.1 k0_t2
theorem k0_off73_inb : ∀ (v1 : BitVec 32) (k0_hw1 : k0_chk1 v1) (k0_t2 : Fin (k0_t2_loop v1).trips), ∀ a, (k0_off73 v1 k0_t2) a + S16x256.size a ≤ S256x1024.size a := fun v1 k0_hw1 k0_t2 => k0_hw1.2.2.1.2.2.2.2.2.2.2.2.2.2.2.1 k0_t2
theorem k0_t3_ok : ∀ (v1 : BitVec 32) (k0_hw1 : k0_chk1 v1), (k0_t3_loop v1).OK := fun v1 k0_hw1 => k0_hw1.2.2.1.2.2.2.2.2.2.2.2.2.2.2.2.1
theorem k0_mult3_dvd : ∀ (v1 : BitVec 32) (k0_hw1 : k0_chk1 v1) (k0_t3 : Fin (k0_t3_loop v1).trips), 256 ∣ (k0_mult3 v1 k0_t3).toNat := fun v1 k0_hw1 k0_t3 => k0_hw1.2.2.1.2.2.2.2.2.2.2.2.2.2.2.2.2.1 k0_t3
theorem k0_off74_inb : ∀ (v1 : BitVec 32) (k0_hw1 : k0_chk1 v1) (k0_t3 : Fin (k0_t3_loop v1).trips), ∀ a, (k0_off74 v1 k0_t3) a + S16x256.size a ≤ S256x1024.size a := fun v1 k0_hw1 k0_t3 => k0_hw1.2.2.1.2.2.2.2.2.2.2.2.2.2.2.2.2.2.1 k0_t3
theorem k0_off75_inb : ∀ (v1 : BitVec 32) (k0_hw1 : k0_chk1 v1) (k0_t3 : Fin (k0_t3_loop v1).trips), ∀ a, (k0_off75 v1 k0_t3) a + S1x256.size a ≤ S32x1024.size a := fun v1 k0_hw1 k0_t3 => k0_hw1.2.2.1.2.2.2.2.2.2.2.2.2.2.2.2.2.2.2.1 k0_t3
theorem k0_off76_inb : ∀ (v1 : BitVec 32) (k0_hw1 : k0_chk1 v1) (k0_t3 : Fin (k0_t3_loop v1).trips), ∀ a, (k0_off76 v1 k0_t3) a + S16x256.size a ≤ S256x1024.size a := fun v1 k0_hw1 k0_t3 => k0_hw1.2.2.1.2.2.2.2.2.2.2.2.2.2.2.2.2.2.2.2.1 k0_t3
theorem k0_off77_inb : ∀ (v1 : BitVec 32) (k0_hw1 : k0_chk1 v1) (k0_t3 : Fin (k0_t3_loop v1).trips), ∀ a, (k0_off77 v1 k0_t3) a + S1x256.size a ≤ S32x1024.size a := fun v1 k0_hw1 k0_t3 => k0_hw1.2.2.1.2.2.2.2.2.2.2.2.2.2.2.2.2.2.2.2.2.1 k0_t3
theorem k0_off78_inb : ∀ (v1 : BitVec 32) (k0_hw1 : k0_chk1 v1) (k0_t3 : Fin (k0_t3_loop v1).trips), ∀ a, (k0_off78 v1 k0_t3) a + S16x256.size a ≤ S256x1024.size a := fun v1 k0_hw1 k0_t3 => k0_hw1.2.2.1.2.2.2.2.2.2.2.2.2.2.2.2.2.2.2.2.2.2.1 k0_t3
theorem k0_off79_inb : ∀ (v1 : BitVec 32) (k0_hw1 : k0_chk1 v1) (k0_t3 : Fin (k0_t3_loop v1).trips), ∀ a, (k0_off79 v1 k0_t3) a + S1x256.size a ≤ S32x1024.size a := fun v1 k0_hw1 k0_t3 => k0_hw1.2.2.1.2.2.2.2.2.2.2.2.2.2.2.2.2.2.2.2.2.2.2.1 k0_t3
theorem k0_off80_inb : ∀ (v1 : BitVec 32) (k0_hw1 : k0_chk1 v1) (k0_t3 : Fin (k0_t3_loop v1).trips), ∀ a, (k0_off80 v1 k0_t3) a + S16x256.size a ≤ S256x1024.size a := fun v1 k0_hw1 k0_t3 => k0_hw1.2.2.1.2.2.2.2.2.2.2.2.2.2.2.2.2.2.2.2.2.2.2.2.1 k0_t3
theorem k0_off81_inb : ∀ (v1 : BitVec 32) (k0_hw1 : k0_chk1 v1) (k0_t3 : Fin (k0_t3_loop v1).trips), ∀ a, (k0_off81 v1 k0_t3) a + S1x256.size a ≤ S32x1024.size a := fun v1 k0_hw1 k0_t3 => k0_hw1.2.2.1.2.2.2.2.2.2.2.2.2.2.2.2.2.2.2.2.2.2.2.2.2.1 k0_t3
theorem k0_off82_inb : ∀ (v1 : BitVec 32) (k0_hw1 : k0_chk1 v1) (k0_t3 : Fin (k0_t3_loop v1).trips), ∀ a, (k0_off82 v1 k0_t3) a + S64x256.size a ≤ S256x1024.size a := fun v1 k0_hw1 k0_t3 => k0_hw1.2.2.1.2.2.2.2.2.2.2.2.2.2.2.2.2.2.2.2.2.2.2.2.2.2.1 k0_t3
theorem k0_off83_inb : ∀ (v1 : BitVec 32) (k0_hw1 : k0_chk1 v1) (k0_t3 : Fin (k0_t3_loop v1).trips), ∀ a, (k0_off83 v1 k0_t3) a + S16x256.size a ≤ S256x1024.size a := fun v1 k0_hw1 k0_t3 => k0_hw1.2.2.1.2.2.2.2.2.2.2.2.2.2.2.2.2.2.2.2.2.2.2.2.2.2.2.1 k0_t3
theorem k0_off84_inb : ∀ (v1 : BitVec 32) (k0_hw1 : k0_chk1 v1) (k0_t3 : Fin (k0_t3_loop v1).trips), ∀ a, (k0_off84 v1 k0_t3) a + S1x256.size a ≤ S32x1024.size a := fun v1 k0_hw1 k0_t3 => k0_hw1.2.2.1.2.2.2.2.2.2.2.2.2.2.2.2.2.2.2.2.2.2.2.2.2.2.2.2.1 k0_t3
theorem k0_off85_inb : ∀ (v1 : BitVec 32) (k0_hw1 : k0_chk1 v1) (k0_t3 : Fin (k0_t3_loop v1).trips), ∀ a, (k0_off85 v1 k0_t3) a + S16x256.size a ≤ S256x1024.size a := fun v1 k0_hw1 k0_t3 => k0_hw1.2.2.1.2.2.2.2.2.2.2.2.2.2.2.2.2.2.2.2.2.2.2.2.2.2.2.2.2.1 k0_t3
theorem k0_off86_inb : ∀ (v1 : BitVec 32) (k0_hw1 : k0_chk1 v1) (k0_t3 : Fin (k0_t3_loop v1).trips), ∀ a, (k0_off86 v1 k0_t3) a + S1x256.size a ≤ S32x1024.size a := fun v1 k0_hw1 k0_t3 => k0_hw1.2.2.1.2.2.2.2.2.2.2.2.2.2.2.2.2.2.2.2.2.2.2.2.2.2.2.2.2.2.1 k0_t3
theorem k0_off87_inb : ∀ (v1 : BitVec 32) (k0_hw1 : k0_chk1 v1) (k0_t3 : Fin (k0_t3_loop v1).trips), ∀ a, (k0_off87 v1 k0_t3) a + S16x256.size a ≤ S256x1024.size a := fun v1 k0_hw1 k0_t3 => k0_hw1.2.2.1.2.2.2.2.2.2.2.2.2.2.2.2.2.2.2.2.2.2.2.2.2.2.2.2.2.2.2.1 k0_t3
theorem k0_off88_inb : ∀ (v1 : BitVec 32) (k0_hw1 : k0_chk1 v1) (k0_t3 : Fin (k0_t3_loop v1).trips), ∀ a, (k0_off88 v1 k0_t3) a + S1x256.size a ≤ S32x1024.size a := fun v1 k0_hw1 k0_t3 => k0_hw1.2.2.1.2.2.2.2.2.2.2.2.2.2.2.2.2.2.2.2.2.2.2.2.2.2.2.2.2.2.2.2.1 k0_t3
theorem k0_off89_inb : ∀ (v1 : BitVec 32) (k0_hw1 : k0_chk1 v1) (k0_t3 : Fin (k0_t3_loop v1).trips), ∀ a, (k0_off89 v1 k0_t3) a + S16x256.size a ≤ S256x1024.size a := fun v1 k0_hw1 k0_t3 => k0_hw1.2.2.1.2.2.2.2.2.2.2.2.2.2.2.2.2.2.2.2.2.2.2.2.2.2.2.2.2.2.2.2.2.1 k0_t3
theorem k0_off90_inb : ∀ (v1 : BitVec 32) (k0_hw1 : k0_chk1 v1) (k0_t3 : Fin (k0_t3_loop v1).trips), ∀ a, (k0_off90 v1 k0_t3) a + S1x256.size a ≤ S32x1024.size a := fun v1 k0_hw1 k0_t3 => k0_hw1.2.2.1.2.2.2.2.2.2.2.2.2.2.2.2.2.2.2.2.2.2.2.2.2.2.2.2.2.2.2.2.2.2.1 k0_t3
theorem k0_off91_inb : ∀ (v1 : BitVec 32) (k0_hw1 : k0_chk1 v1) (k0_t3 : Fin (k0_t3_loop v1).trips), ∀ a, (k0_off91 v1 k0_t3) a + S64x256.size a ≤ S256x1024.size a := fun v1 k0_hw1 k0_t3 => k0_hw1.2.2.1.2.2.2.2.2.2.2.2.2.2.2.2.2.2.2.2.2.2.2.2.2.2.2.2.2.2.2.2.2.2.2 k0_t3
theorem k0_off92_inb : ∀ (v1 : BitVec 32) (k0_hw1 : k0_chk1 v1) (k0_t3 : Fin (k0_t3_loop v1).trips), ∀ a, (k0_off92 v1 k0_t3) a + S16x256.size a ≤ S256x1024.size a := fun v1 k0_hw1 k0_t3 => k0_hw1.2.2.2.1.1 k0_t3
theorem k0_off93_inb : ∀ (v1 : BitVec 32) (k0_hw1 : k0_chk1 v1) (k0_t3 : Fin (k0_t3_loop v1).trips), ∀ a, (k0_off93 v1 k0_t3) a + S1x256.size a ≤ S32x1024.size a := fun v1 k0_hw1 k0_t3 => k0_hw1.2.2.2.1.2.1 k0_t3
theorem k0_off94_inb : ∀ (v1 : BitVec 32) (k0_hw1 : k0_chk1 v1) (k0_t3 : Fin (k0_t3_loop v1).trips), ∀ a, (k0_off94 v1 k0_t3) a + S16x256.size a ≤ S256x1024.size a := fun v1 k0_hw1 k0_t3 => k0_hw1.2.2.2.1.2.2.1 k0_t3
theorem k0_off95_inb : ∀ (v1 : BitVec 32) (k0_hw1 : k0_chk1 v1) (k0_t3 : Fin (k0_t3_loop v1).trips), ∀ a, (k0_off95 v1 k0_t3) a + S1x256.size a ≤ S32x1024.size a := fun v1 k0_hw1 k0_t3 => k0_hw1.2.2.2.1.2.2.2.1 k0_t3
theorem k0_off96_inb : ∀ (v1 : BitVec 32) (k0_hw1 : k0_chk1 v1) (k0_t3 : Fin (k0_t3_loop v1).trips), ∀ a, (k0_off96 v1 k0_t3) a + S16x256.size a ≤ S256x1024.size a := fun v1 k0_hw1 k0_t3 => k0_hw1.2.2.2.1.2.2.2.2.1 k0_t3
theorem k0_off97_inb : ∀ (v1 : BitVec 32) (k0_hw1 : k0_chk1 v1) (k0_t3 : Fin (k0_t3_loop v1).trips), ∀ a, (k0_off97 v1 k0_t3) a + S1x256.size a ≤ S32x1024.size a := fun v1 k0_hw1 k0_t3 => k0_hw1.2.2.2.1.2.2.2.2.2.1 k0_t3
theorem k0_off98_inb : ∀ (v1 : BitVec 32) (k0_hw1 : k0_chk1 v1) (k0_t3 : Fin (k0_t3_loop v1).trips), ∀ a, (k0_off98 v1 k0_t3) a + S16x256.size a ≤ S256x1024.size a := fun v1 k0_hw1 k0_t3 => k0_hw1.2.2.2.1.2.2.2.2.2.2.1 k0_t3
theorem k0_off99_inb : ∀ (v1 : BitVec 32) (k0_hw1 : k0_chk1 v1) (k0_t3 : Fin (k0_t3_loop v1).trips), ∀ a, (k0_off99 v1 k0_t3) a + S1x256.size a ≤ S32x1024.size a := fun v1 k0_hw1 k0_t3 => k0_hw1.2.2.2.1.2.2.2.2.2.2.2.1 k0_t3
theorem k0_off100_inb : ∀ (v1 : BitVec 32) (k0_hw1 : k0_chk1 v1) (k0_t3 : Fin (k0_t3_loop v1).trips), ∀ a, (k0_off100 v1 k0_t3) a + S64x256.size a ≤ S256x1024.size a := fun v1 k0_hw1 k0_t3 => k0_hw1.2.2.2.1.2.2.2.2.2.2.2.2.1 k0_t3
theorem k0_off101_inb : ∀ (v1 : BitVec 32) (k0_hw1 : k0_chk1 v1) (k0_t3 : Fin (k0_t3_loop v1).trips), ∀ a, (k0_off101 v1 k0_t3) a + S16x256.size a ≤ S256x1024.size a := fun v1 k0_hw1 k0_t3 => k0_hw1.2.2.2.1.2.2.2.2.2.2.2.2.2.1 k0_t3
theorem k0_off102_inb : ∀ (v1 : BitVec 32) (k0_hw1 : k0_chk1 v1) (k0_t3 : Fin (k0_t3_loop v1).trips), ∀ a, (k0_off102 v1 k0_t3) a + S1x256.size a ≤ S32x1024.size a := fun v1 k0_hw1 k0_t3 => k0_hw1.2.2.2.1.2.2.2.2.2.2.2.2.2.2.1 k0_t3
theorem k0_off103_inb : ∀ (v1 : BitVec 32) (k0_hw1 : k0_chk1 v1) (k0_t3 : Fin (k0_t3_loop v1).trips), ∀ a, (k0_off103 v1 k0_t3) a + S16x256.size a ≤ S256x1024.size a := fun v1 k0_hw1 k0_t3 => k0_hw1.2.2.2.1.2.2.2.2.2.2.2.2.2.2.2.1 k0_t3
theorem k0_off104_inb : ∀ (v1 : BitVec 32) (k0_hw1 : k0_chk1 v1) (k0_t3 : Fin (k0_t3_loop v1).trips), ∀ a, (k0_off104 v1 k0_t3) a + S1x256.size a ≤ S32x1024.size a := fun v1 k0_hw1 k0_t3 => k0_hw1.2.2.2.1.2.2.2.2.2.2.2.2.2.2.2.2.1 k0_t3
theorem k0_off105_inb : ∀ (v1 : BitVec 32) (k0_hw1 : k0_chk1 v1) (k0_t3 : Fin (k0_t3_loop v1).trips), ∀ a, (k0_off105 v1 k0_t3) a + S16x256.size a ≤ S256x1024.size a := fun v1 k0_hw1 k0_t3 => k0_hw1.2.2.2.1.2.2.2.2.2.2.2.2.2.2.2.2.2.1 k0_t3
theorem k0_off106_inb : ∀ (v1 : BitVec 32) (k0_hw1 : k0_chk1 v1) (k0_t3 : Fin (k0_t3_loop v1).trips), ∀ a, (k0_off106 v1 k0_t3) a + S1x256.size a ≤ S32x1024.size a := fun v1 k0_hw1 k0_t3 => k0_hw1.2.2.2.1.2.2.2.2.2.2.2.2.2.2.2.2.2.2.1 k0_t3
theorem k0_off107_inb : ∀ (v1 : BitVec 32) (k0_hw1 : k0_chk1 v1) (k0_t3 : Fin (k0_t3_loop v1).trips), ∀ a, (k0_off107 v1 k0_t3) a + S16x256.size a ≤ S256x1024.size a := fun v1 k0_hw1 k0_t3 => k0_hw1.2.2.2.1.2.2.2.2.2.2.2.2.2.2.2.2.2.2.2.1 k0_t3
theorem k0_off108_inb : ∀ (v1 : BitVec 32) (k0_hw1 : k0_chk1 v1) (k0_t3 : Fin (k0_t3_loop v1).trips), ∀ a, (k0_off108 v1 k0_t3) a + S1x256.size a ≤ S32x1024.size a := fun v1 k0_hw1 k0_t3 => k0_hw1.2.2.2.1.2.2.2.2.2.2.2.2.2.2.2.2.2.2.2.2.1 k0_t3
theorem k0_off109_inb : ∀ (v1 : BitVec 32) (k0_hw1 : k0_chk1 v1) (k0_t3 : Fin (k0_t3_loop v1).trips), ∀ a, (k0_off109 v1 k0_t3) a + S64x256.size a ≤ S256x1024.size a := fun v1 k0_hw1 k0_t3 => k0_hw1.2.2.2.1.2.2.2.2.2.2.2.2.2.2.2.2.2.2.2.2.2.1 k0_t3
theorem k0_t4_ok : ∀ (v1 : BitVec 32) (k0_hw1 : k0_chk1 v1), (k0_t4_loop v1).OK := fun v1 k0_hw1 => k0_hw1.2.2.2.1.2.2.2.2.2.2.2.2.2.2.2.2.2.2.2.2.2.2.1
theorem k0_mult4_dvd : ∀ (v1 : BitVec 32) (k0_hw1 : k0_chk1 v1) (k0_t4 : Fin (k0_t4_loop v1).trips), 256 ∣ (k0_mult4 v1 k0_t4).toNat := fun v1 k0_hw1 k0_t4 => k0_hw1.2.2.2.1.2.2.2.2.2.2.2.2.2.2.2.2.2.2.2.2.2.2.2.1 k0_t4
theorem k0_off110_inb : ∀ (v1 : BitVec 32) (k0_hw1 : k0_chk1 v1) (k0_t4 : Fin (k0_t4_loop v1).trips), ∀ a, (k0_off110 v1 k0_t4) a + S16x256.size a ≤ S256x1024.size a := fun v1 k0_hw1 k0_t4 => k0_hw1.2.2.2.1.2.2.2.2.2.2.2.2.2.2.2.2.2.2.2.2.2.2.2.2.1 k0_t4
theorem k0_off111_inb : ∀ (v1 : BitVec 32) (k0_hw1 : k0_chk1 v1) (k0_t4 : Fin (k0_t4_loop v1).trips), ∀ a, (k0_off111 v1 k0_t4) a + S1x256.size a ≤ S32x1024.size a := fun v1 k0_hw1 k0_t4 => k0_hw1.2.2.2.1.2.2.2.2.2.2.2.2.2.2.2.2.2.2.2.2.2.2.2.2.2.1 k0_t4
theorem k0_off112_inb : ∀ (v1 : BitVec 32) (k0_hw1 : k0_chk1 v1) (k0_t4 : Fin (k0_t4_loop v1).trips), ∀ a, (k0_off112 v1 k0_t4) a + S16x256.size a ≤ S256x1024.size a := fun v1 k0_hw1 k0_t4 => k0_hw1.2.2.2.1.2.2.2.2.2.2.2.2.2.2.2.2.2.2.2.2.2.2.2.2.2.2.1 k0_t4
theorem k0_off113_inb : ∀ (v1 : BitVec 32) (k0_hw1 : k0_chk1 v1) (k0_t4 : Fin (k0_t4_loop v1).trips), ∀ a, (k0_off113 v1 k0_t4) a + S1x256.size a ≤ S32x1024.size a := fun v1 k0_hw1 k0_t4 => k0_hw1.2.2.2.1.2.2.2.2.2.2.2.2.2.2.2.2.2.2.2.2.2.2.2.2.2.2.2.1 k0_t4
theorem k0_off114_inb : ∀ (v1 : BitVec 32) (k0_hw1 : k0_chk1 v1) (k0_t4 : Fin (k0_t4_loop v1).trips), ∀ a, (k0_off114 v1 k0_t4) a + S16x256.size a ≤ S256x1024.size a := fun v1 k0_hw1 k0_t4 => k0_hw1.2.2.2.1.2.2.2.2.2.2.2.2.2.2.2.2.2.2.2.2.2.2.2.2.2.2.2.2.1 k0_t4
theorem k0_off115_inb : ∀ (v1 : BitVec 32) (k0_hw1 : k0_chk1 v1) (k0_t4 : Fin (k0_t4_loop v1).trips), ∀ a, (k0_off115 v1 k0_t4) a + S1x256.size a ≤ S32x1024.size a := fun v1 k0_hw1 k0_t4 => k0_hw1.2.2.2.1.2.2.2.2.2.2.2.2.2.2.2.2.2.2.2.2.2.2.2.2.2.2.2.2.2.1 k0_t4
theorem k0_off116_inb : ∀ (v1 : BitVec 32) (k0_hw1 : k0_chk1 v1) (k0_t4 : Fin (k0_t4_loop v1).trips), ∀ a, (k0_off116 v1 k0_t4) a + S16x256.size a ≤ S256x1024.size a := fun v1 k0_hw1 k0_t4 => k0_hw1.2.2.2.1.2.2.2.2.2.2.2.2.2.2.2.2.2.2.2.2.2.2.2.2.2.2.2.2.2.2.1 k0_t4
theorem k0_off117_inb : ∀ (v1 : BitVec 32) (k0_hw1 : k0_chk1 v1) (k0_t4 : Fin (k0_t4_loop v1).trips), ∀ a, (k0_off117 v1 k0_t4) a + S1x256.size a ≤ S32x1024.size a := fun v1 k0_hw1 k0_t4 => k0_hw1.2.2.2.1.2.2.2.2.2.2.2.2.2.2.2.2.2.2.2.2.2.2.2.2.2.2.2.2.2.2.2.1 k0_t4
theorem k0_off118_inb : ∀ (v1 : BitVec 32) (k0_hw1 : k0_chk1 v1) (k0_t4 : Fin (k0_t4_loop v1).trips), ∀ a, (k0_off118 v1 k0_t4) a + S64x256.size a ≤ S256x1024.size a := fun v1 k0_hw1 k0_t4 => k0_hw1.2.2.2.1.2.2.2.2.2.2.2.2.2.2.2.2.2.2.2.2.2.2.2.2.2.2.2.2.2.2.2.2.1 k0_t4
theorem k0_off119_inb : ∀ (v1 : BitVec 32) (k0_hw1 : k0_chk1 v1) (k0_t4 : Fin (k0_t4_loop v1).trips), ∀ a, (k0_off119 v1 k0_t4) a + S16x256.size a ≤ S256x1024.size a := fun v1 k0_hw1 k0_t4 => k0_hw1.2.2.2.1.2.2.2.2.2.2.2.2.2.2.2.2.2.2.2.2.2.2.2.2.2.2.2.2.2.2.2.2.2.1 k0_t4
theorem k0_off120_inb : ∀ (v1 : BitVec 32) (k0_hw1 : k0_chk1 v1) (k0_t4 : Fin (k0_t4_loop v1).trips), ∀ a, (k0_off120 v1 k0_t4) a + S1x256.size a ≤ S32x1024.size a := fun v1 k0_hw1 k0_t4 => k0_hw1.2.2.2.1.2.2.2.2.2.2.2.2.2.2.2.2.2.2.2.2.2.2.2.2.2.2.2.2.2.2.2.2.2.2.1 k0_t4
theorem k0_off121_inb : ∀ (v1 : BitVec 32) (k0_hw1 : k0_chk1 v1) (k0_t4 : Fin (k0_t4_loop v1).trips), ∀ a, (k0_off121 v1 k0_t4) a + S16x256.size a ≤ S256x1024.size a := fun v1 k0_hw1 k0_t4 => k0_hw1.2.2.2.1.2.2.2.2.2.2.2.2.2.2.2.2.2.2.2.2.2.2.2.2.2.2.2.2.2.2.2.2.2.2.2 k0_t4
theorem k0_off122_inb : ∀ (v1 : BitVec 32) (k0_hw1 : k0_chk1 v1) (k0_t4 : Fin (k0_t4_loop v1).trips), ∀ a, (k0_off122 v1 k0_t4) a + S1x256.size a ≤ S32x1024.size a := fun v1 k0_hw1 k0_t4 => k0_hw1.2.2.2.2.1 k0_t4
theorem k0_off123_inb : ∀ (v1 : BitVec 32) (k0_hw1 : k0_chk1 v1) (k0_t4 : Fin (k0_t4_loop v1).trips), ∀ a, (k0_off123 v1 k0_t4) a + S16x256.size a ≤ S256x1024.size a := fun v1 k0_hw1 k0_t4 => k0_hw1.2.2.2.2.2.1 k0_t4
theorem k0_off124_inb : ∀ (v1 : BitVec 32) (k0_hw1 : k0_chk1 v1) (k0_t4 : Fin (k0_t4_loop v1).trips), ∀ a, (k0_off124 v1 k0_t4) a + S1x256.size a ≤ S32x1024.size a := fun v1 k0_hw1 k0_t4 => k0_hw1.2.2.2.2.2.2.1 k0_t4
theorem k0_off125_inb : ∀ (v1 : BitVec 32) (k0_hw1 : k0_chk1 v1) (k0_t4 : Fin (k0_t4_loop v1).trips), ∀ a, (k0_off125 v1 k0_t4) a + S16x256.size a ≤ S256x1024.size a := fun v1 k0_hw1 k0_t4 => k0_hw1.2.2.2.2.2.2.2.1 k0_t4
theorem k0_off126_inb : ∀ (v1 : BitVec 32) (k0_hw1 : k0_chk1 v1) (k0_t4 : Fin (k0_t4_loop v1).trips), ∀ a, (k0_off126 v1 k0_t4) a + S1x256.size a ≤ S32x1024.size a := fun v1 k0_hw1 k0_t4 => k0_hw1.2.2.2.2.2.2.2.2.1 k0_t4
theorem k0_off127_inb : ∀ (v1 : BitVec 32) (k0_hw1 : k0_chk1 v1) (k0_t4 : Fin (k0_t4_loop v1).trips), ∀ a, (k0_off127 v1 k0_t4) a + S64x256.size a ≤ S256x1024.size a := fun v1 k0_hw1 k0_t4 => k0_hw1.2.2.2.2.2.2.2.2.2.1 k0_t4
theorem k0_off128_inb : ∀ (v1 : BitVec 32) (k0_hw1 : k0_chk1 v1) (k0_t4 : Fin (k0_t4_loop v1).trips), ∀ a, (k0_off128 v1 k0_t4) a + S16x256.size a ≤ S256x1024.size a := fun v1 k0_hw1 k0_t4 => k0_hw1.2.2.2.2.2.2.2.2.2.2.1 k0_t4
theorem k0_off129_inb : ∀ (v1 : BitVec 32) (k0_hw1 : k0_chk1 v1) (k0_t4 : Fin (k0_t4_loop v1).trips), ∀ a, (k0_off129 v1 k0_t4) a + S1x256.size a ≤ S32x1024.size a := fun v1 k0_hw1 k0_t4 => k0_hw1.2.2.2.2.2.2.2.2.2.2.2.1 k0_t4
theorem k0_off130_inb : ∀ (v1 : BitVec 32) (k0_hw1 : k0_chk1 v1) (k0_t4 : Fin (k0_t4_loop v1).trips), ∀ a, (k0_off130 v1 k0_t4) a + S16x256.size a ≤ S256x1024.size a := fun v1 k0_hw1 k0_t4 => k0_hw1.2.2.2.2.2.2.2.2.2.2.2.2.1 k0_t4
theorem k0_off131_inb : ∀ (v1 : BitVec 32) (k0_hw1 : k0_chk1 v1) (k0_t4 : Fin (k0_t4_loop v1).trips), ∀ a, (k0_off131 v1 k0_t4) a + S1x256.size a ≤ S32x1024.size a := fun v1 k0_hw1 k0_t4 => k0_hw1.2.2.2.2.2.2.2.2.2.2.2.2.2.1 k0_t4
theorem k0_off132_inb : ∀ (v1 : BitVec 32) (k0_hw1 : k0_chk1 v1) (k0_t4 : Fin (k0_t4_loop v1).trips), ∀ a, (k0_off132 v1 k0_t4) a + S16x256.size a ≤ S256x1024.size a := fun v1 k0_hw1 k0_t4 => k0_hw1.2.2.2.2.2.2.2.2.2.2.2.2.2.2.1 k0_t4
theorem k0_off133_inb : ∀ (v1 : BitVec 32) (k0_hw1 : k0_chk1 v1) (k0_t4 : Fin (k0_t4_loop v1).trips), ∀ a, (k0_off133 v1 k0_t4) a + S1x256.size a ≤ S32x1024.size a := fun v1 k0_hw1 k0_t4 => k0_hw1.2.2.2.2.2.2.2.2.2.2.2.2.2.2.2.1 k0_t4
theorem k0_off134_inb : ∀ (v1 : BitVec 32) (k0_hw1 : k0_chk1 v1) (k0_t4 : Fin (k0_t4_loop v1).trips), ∀ a, (k0_off134 v1 k0_t4) a + S16x256.size a ≤ S256x1024.size a := fun v1 k0_hw1 k0_t4 => k0_hw1.2.2.2.2.2.2.2.2.2.2.2.2.2.2.2.2.1 k0_t4
theorem k0_off135_inb : ∀ (v1 : BitVec 32) (k0_hw1 : k0_chk1 v1) (k0_t4 : Fin (k0_t4_loop v1).trips), ∀ a, (k0_off135 v1 k0_t4) a + S1x256.size a ≤ S32x1024.size a := fun v1 k0_hw1 k0_t4 => k0_hw1.2.2.2.2.2.2.2.2.2.2.2.2.2.2.2.2.2.1 k0_t4
theorem k0_off136_inb : ∀ (v1 : BitVec 32) (k0_hw1 : k0_chk1 v1) (k0_t4 : Fin (k0_t4_loop v1).trips), ∀ a, (k0_off136 v1 k0_t4) a + S64x256.size a ≤ S256x1024.size a := fun v1 k0_hw1 k0_t4 => k0_hw1.2.2.2.2.2.2.2.2.2.2.2.2.2.2.2.2.2.2.1 k0_t4
theorem k0_off137_inb : ∀ (v1 : BitVec 32) (k0_hw1 : k0_chk1 v1) (k0_t4 : Fin (k0_t4_loop v1).trips), ∀ a, (k0_off137 v1 k0_t4) a + S16x256.size a ≤ S256x1024.size a := fun v1 k0_hw1 k0_t4 => k0_hw1.2.2.2.2.2.2.2.2.2.2.2.2.2.2.2.2.2.2.2.1 k0_t4
theorem k0_off138_inb : ∀ (v1 : BitVec 32) (k0_hw1 : k0_chk1 v1) (k0_t4 : Fin (k0_t4_loop v1).trips), ∀ a, (k0_off138 v1 k0_t4) a + S1x256.size a ≤ S32x1024.size a := fun v1 k0_hw1 k0_t4 => k0_hw1.2.2.2.2.2.2.2.2.2.2.2.2.2.2.2.2.2.2.2.2.1 k0_t4
theorem k0_off139_inb : ∀ (v1 : BitVec 32) (k0_hw1 : k0_chk1 v1) (k0_t4 : Fin (k0_t4_loop v1).trips), ∀ a, (k0_off139 v1 k0_t4) a + S16x256.size a ≤ S256x1024.size a := fun v1 k0_hw1 k0_t4 => k0_hw1.2.2.2.2.2.2.2.2.2.2.2.2.2.2.2.2.2.2.2.2.2.1 k0_t4
theorem k0_off140_inb : ∀ (v1 : BitVec 32) (k0_hw1 : k0_chk1 v1) (k0_t4 : Fin (k0_t4_loop v1).trips), ∀ a, (k0_off140 v1 k0_t4) a + S1x256.size a ≤ S32x1024.size a := fun v1 k0_hw1 k0_t4 => k0_hw1.2.2.2.2.2.2.2.2.2.2.2.2.2.2.2.2.2.2.2.2.2.2.1 k0_t4
theorem k0_off141_inb : ∀ (v1 : BitVec 32) (k0_hw1 : k0_chk1 v1) (k0_t4 : Fin (k0_t4_loop v1).trips), ∀ a, (k0_off141 v1 k0_t4) a + S16x256.size a ≤ S256x1024.size a := fun v1 k0_hw1 k0_t4 => k0_hw1.2.2.2.2.2.2.2.2.2.2.2.2.2.2.2.2.2.2.2.2.2.2.2.1 k0_t4
theorem k0_off142_inb : ∀ (v1 : BitVec 32) (k0_hw1 : k0_chk1 v1) (k0_t4 : Fin (k0_t4_loop v1).trips), ∀ a, (k0_off142 v1 k0_t4) a + S1x256.size a ≤ S32x1024.size a := fun v1 k0_hw1 k0_t4 => k0_hw1.2.2.2.2.2.2.2.2.2.2.2.2.2.2.2.2.2.2.2.2.2.2.2.2.1 k0_t4
theorem k0_off143_inb : ∀ (v1 : BitVec 32) (k0_hw1 : k0_chk1 v1) (k0_t4 : Fin (k0_t4_loop v1).trips), ∀ a, (k0_off143 v1 k0_t4) a + S16x256.size a ≤ S256x1024.size a := fun v1 k0_hw1 k0_t4 => k0_hw1.2.2.2.2.2.2.2.2.2.2.2.2.2.2.2.2.2.2.2.2.2.2.2.2.2.1 k0_t4
theorem k0_off144_inb : ∀ (v1 : BitVec 32) (k0_hw1 : k0_chk1 v1) (k0_t4 : Fin (k0_t4_loop v1).trips), ∀ a, (k0_off144 v1 k0_t4) a + S1x256.size a ≤ S32x1024.size a := fun v1 k0_hw1 k0_t4 => k0_hw1.2.2.2.2.2.2.2.2.2.2.2.2.2.2.2.2.2.2.2.2.2.2.2.2.2.2.1 k0_t4
theorem k0_off145_inb : ∀ (v1 : BitVec 32) (k0_hw1 : k0_chk1 v1) (k0_t4 : Fin (k0_t4_loop v1).trips), ∀ a, (k0_off145 v1 k0_t4) a + S64x256.size a ≤ S256x1024.size a := fun v1 k0_hw1 k0_t4 => k0_hw1.2.2.2.2.2.2.2.2.2.2.2.2.2.2.2.2.2.2.2.2.2.2.2.2.2.2.2 k0_t4

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x64 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x64 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S32 : Shape := ⟨1, ![32]⟩
abbrev S32x16x64 : Shape := ⟨3, ![32, 16, 64]⟩
abbrev S32x1x64 : Shape := ⟨3, ![32, 1, 64]⟩
abbrev S256x32768 : Shape := ⟨2, ![256, 32768]⟩
abbrev S32x32768 : Shape := ⟨2, ![32, 32768]⟩
abbrev S_ : Shape := ⟨0, ![]⟩
abbrev S32x1x1 : Shape := ⟨3, ![32, 1, 1]⟩
abbrev S256x1x32768 : Shape := ⟨3, ![256, 1, 32768]⟩
abbrev S256x4x32768 : Shape := ⟨3, ![256, 4, 32768]⟩
abbrev S16x64x32x1024 : Shape := ⟨4, ![16, 64, 32, 1024]⟩
abbrev S32x1024x16x64 : Shape := ⟨4, ![32, 1024, 16, 64]⟩
abbrev S32x16384x64 : Shape := ⟨3, ![32, 16384, 64]⟩
abbrev S16x32768 : Shape := ⟨2, ![16, 32768]⟩
abbrev S16x32x1024 : Shape := ⟨3, ![16, 32, 1024]⟩
abbrev S32x1024x16 : Shape := ⟨3, ![32, 1024, 16]⟩
abbrev S32x16384 : Shape := ⟨2, ![32, 16384]⟩
abbrev S32x16x16384 : Shape := ⟨3, ![32, 16, 16384]⟩
abbrev S32x1x16384 : Shape := ⟨3, ![32, 1, 16384]⟩
abbrev S32x16x1 : Shape := ⟨3, ![32, 16, 1]⟩
abbrev S16384 : Shape := ⟨1, ![16384]⟩
abbrev S1x16384 : Shape := ⟨2, ![1, 16384]⟩
abbrev S32x1 : Shape := ⟨2, ![32, 1]⟩
abbrev S32x16x16385 : Shape := ⟨3, ![32, 16, 16385]⟩
abbrev S32x16 : Shape := ⟨2, ![32, 16]⟩
abbrev S32x1x128 : Shape := ⟨3, ![32, 1, 128]⟩

abbrev nBuf : Space → Nat
  | .hbm => 200
  | .vmem => 0
  | .smem => 0
  | _ => 0

abbrev hbmTy0_0 (i : Nat) : BufTy := match i % 128 with
  | 0 => ⟨S32, .i32⟩
  | 1 => ⟨S32x16x64, .bf16⟩
  | 2 => ⟨S32x1x64, .bf16⟩
  | 3 => ⟨S32x1x64, .bf16⟩
  | 4 => ⟨S256x32768, .i32⟩
  | 5 => ⟨S256x32768, .i32⟩
  | 6 => ⟨S32x32768, .i32⟩
  | 7 => ⟨S32x1x64, .f32⟩
  | 8 => ⟨S32x1x64, .f32⟩
  | 9 => ⟨S_, .f32⟩
  | 10 => ⟨S32, .f32⟩
  | 11 => ⟨S_, .f32⟩
  | 12 => ⟨S32, .f32⟩
  | 13 => ⟨S32, .i1⟩
  | 14 => ⟨S_, .f32⟩
  | 15 => ⟨S32, .f32⟩
  | 16 => ⟨S32, .f32⟩
  | 17 => ⟨S_, .f32⟩
  | 18 => ⟨S_, .f32⟩
  | 19 => ⟨S32, .f32⟩
  | 20 => ⟨S32, .f32⟩
  | 21 => ⟨S32x1x1, .f32⟩
  | 22 => ⟨S32x1x64, .f32⟩
  | 23 => ⟨S32x1x64, .f32⟩
  | 24 => ⟨S32x1x64, .f32⟩
  | 25 => ⟨S_, .f32⟩
  | 26 => ⟨S_, .f32⟩
  | 27 => ⟨S_, .f32⟩
  | 28 => ⟨S32x1x64, .f32⟩
  | 29 => ⟨S32x1x64, .f32⟩
  | 30 => ⟨S_, .f32⟩
  | 31 => ⟨S32x1x64, .f32⟩
  | 32 => ⟨S32x1x64, .f32⟩
  | 33 => ⟨S32x1x64, .f32⟩
  | 34 => ⟨S32x1x64, .f32⟩
  | 35 => ⟨S_, .f32⟩
  | 36 => ⟨S32, .f32⟩
  | 37 => ⟨S_, .f32⟩
  | 38 => ⟨S32, .f32⟩
  | 39 => ⟨S32, .i1⟩
  | 40 => ⟨S_, .f32⟩
  | 41 => ⟨S32, .f32⟩
  | 42 => ⟨S32, .f32⟩
  | 43 => ⟨S_, .f32⟩
  | 44 => ⟨S_, .f32⟩
  | 45 => ⟨S32, .f32⟩
  | 46 => ⟨S32, .f32⟩
  | 47 => ⟨S32x1x1, .f32⟩
  | 48 => ⟨S32x1x64, .f32⟩
  | 49 => ⟨S32x1x64, .f32⟩
  | 50 => ⟨S32x1x64, .f32⟩
  | 51 => ⟨S_, .f32⟩
  | 52 => ⟨S_, .f32⟩
  | 53 => ⟨S_, .f32⟩
  | 54 => ⟨S32x1x64, .f32⟩
  | 55 => ⟨S32x1x64, .f32⟩
  | 56 => ⟨S_, .f32⟩
  | 57 => ⟨S32x1x64, .f32⟩
  | 58 => ⟨S32x1x64, .f32⟩
  | 59 => ⟨S_, .i32⟩
  | 60 => ⟨S256x32768, .i32⟩
  | 61 => ⟨S256x32768, .i32⟩
  | 62 => ⟨S_, .i32⟩
  | 63 => ⟨S256x32768, .i32⟩
  | 64 => ⟨S256x32768, .i32⟩
  | 65 => ⟨S_, .i32⟩
  | 66 => ⟨S256x32768, .i32⟩
  | 67 => ⟨S256x32768, .i32⟩
  | 68 => ⟨S_, .i32⟩
  | 69 => ⟨S256x32768, .i32⟩
  | 70 => ⟨S256x32768, .i32⟩
  | 71 => ⟨S_, .i32⟩
  | 72 => ⟨S256x32768, .i32⟩
  | 73 => ⟨S256x32768, .i32⟩
  | 74 => ⟨S_, .i32⟩
  | 75 => ⟨S256x32768, .i32⟩
  | 76 => ⟨S256x32768, .i32⟩
  | 77 => ⟨S_, .i32⟩
  | 78 => ⟨S256x32768, .i32⟩
  | 79 => ⟨S256x32768, .i32⟩
  | 80 => ⟨S_, .i32⟩
  | 81 => ⟨S256x32768, .i32⟩
  | 82 => ⟨S256x32768, .i32⟩
  | 83 => ⟨S256x1x32768, .i32⟩
  | 84 => ⟨S256x1x32768, .i32⟩
  | 85 => ⟨S256x1x32768, .i32⟩
  | 86 => ⟨S256x1x32768, .i32⟩
  | 87 => ⟨S256x4x32768, .i32⟩
  | 88 => ⟨S16x64x32x1024, .i32⟩
  | 89 => ⟨S32x1024x16x64, .i32⟩
  | 90 => ⟨S32x16384x64, .i32⟩
  | 91 => ⟨S_, .i32⟩
  | 92 => ⟨S256x32768, .i32⟩
  | 93 => ⟨S256x32768, .i32⟩
  | 94 => ⟨S_, .i32⟩
  | 95 => ⟨S256x32768, .i32⟩
  | 96 => ⟨S256x32768, .i32⟩
  | 97 => ⟨S_, .i32⟩
  | 98 => ⟨S256x32768, .i32⟩
  | 99 => ⟨S256x32768, .i32⟩
  | 100 => ⟨S_, .i32⟩
  | 101 => ⟨S256x32768, .i32⟩
  | 102 => ⟨S256x32768, .i32⟩
  | 103 => ⟨S_, .i32⟩
  | 104 => ⟨S256x32768, .i32⟩
  | 105 => ⟨S256x32768, .i32⟩
  | 106 => ⟨S_, .i32⟩
  | 107 => ⟨S256x32768, .i32⟩
  | 108 => ⟨S256x32768, .i32⟩
  | 109 => ⟨S_, .i32⟩
  | 110 => ⟨S256x32768, .i32⟩
  | 111 => ⟨S256x32768, .i32⟩
  | 112 => ⟨S_, .i32⟩
  | 113 => ⟨S256x32768, .i32⟩
  | 114 => ⟨S256x32768, .i32⟩
  | 115 => ⟨S256x1x32768, .i32⟩
  | 116 => ⟨S256x1x32768, .i32⟩
  | 117 => ⟨S256x1x32768, .i32⟩
  | 118 => ⟨S256x1x32768, .i32⟩
  | 119 => ⟨S256x4x32768, .i32⟩
  | 120 => ⟨S16x64x32x1024, .i32⟩
  | 121 => ⟨S32x1024x16x64, .i32⟩
  | 122 => ⟨S32x16384x64, .i32⟩
  | 123 => ⟨S16x32768, .i32⟩
  | 124 => ⟨S16x32768, .f32⟩
  | 125 => ⟨S16x32x1024, .f32⟩
  | 126 => ⟨S32x1024x16, .f32⟩
  | 127 => ⟨S32x16384, .f32⟩
  | _ => ⟨S32, .i32⟩

abbrev hbmTy0_1 (i : Nat) : BufTy := match i % 128 with
  | 0 => ⟨S16x32768, .i32⟩
  | 1 => ⟨S16x32768, .f32⟩
  | 2 => ⟨S16x32x1024, .f32⟩
  | 3 => ⟨S32x1024x16, .f32⟩
  | 4 => ⟨S32x16384, .f32⟩
  | 5 => ⟨S32x16384x64, .bf16⟩
  | 6 => ⟨S32x16x16384, .f32⟩
  | 7 => ⟨S32x1x16384, .f32⟩
  | 8 => ⟨S32x16x16384, .f32⟩
  | 9 => ⟨S32x16x16384, .f32⟩
  | 10 => ⟨S_, .f32⟩
  | 11 => ⟨S32x16x16384, .f32⟩
  | 12 => ⟨S32x16x16384, .f32⟩
  | 13 => ⟨S32x1x64, .bf16⟩
  | 14 => ⟨S32x16x1, .f32⟩
  | 15 => ⟨S32x1x1, .f32⟩
  | 16 => ⟨S32x16x1, .f32⟩
  | 17 => ⟨S32x16x1, .f32⟩
  | 18 => ⟨S_, .f32⟩
  | 19 => ⟨S32x16x1, .f32⟩
  | 20 => ⟨S32x16x1, .f32⟩
  | 21 => ⟨S16384, .i32⟩
  | 22 => ⟨S1x16384, .i32⟩
  | 23 => ⟨S32x1, .i32⟩
  | 24 => ⟨S32x16384, .i32⟩
  | 25 => ⟨S32x16384, .i32⟩
  | 26 => ⟨S32x16384, .i1⟩
  | 27 => ⟨S32x1x16384, .i1⟩
  | 28 => ⟨S_, .f32⟩
  | 29 => ⟨S_, .f32⟩
  | 30 => ⟨S32x16x16384, .i1⟩
  | 31 => ⟨S32x16x16384, .f32⟩
  | 32 => ⟨S32x16x16384, .f32⟩
  | 33 => ⟨S32x16x16385, .f32⟩
  | 34 => ⟨S_, .f32⟩
  | 35 => ⟨S32x16, .f32⟩
  | 36 => ⟨S_, .f32⟩
  | 37 => ⟨S32x16, .f32⟩
  | 38 => ⟨S32x16, .f32⟩
  | 39 => ⟨S32x16x1, .f32⟩
  | 40 => ⟨S32x16x16385, .f32⟩
  | 41 => ⟨S32x16x16385, .f32⟩
  | 42 => ⟨S32x16x16385, .f32⟩
  | 43 => ⟨S_, .f32⟩
  | 44 => ⟨S32x16, .f32⟩
  | 45 => ⟨S32x16x1, .f32⟩
  | 46 => ⟨S32x16x16385, .f32⟩
  | 47 => ⟨S32x16x16385, .f32⟩
  | 48 => ⟨S32x16x16384, .f32⟩
  | 49 => ⟨S32x1x16384, .f32⟩
  | 50 => ⟨S32x16x16384, .f32⟩
  | 51 => ⟨S32x16x16384, .f32⟩
  | 52 => ⟨S32x16x16384, .bf16⟩
  | 53 => ⟨S32x16x1, .f32⟩
  | 54 => ⟨S32x1x1, .f32⟩
  | 55 => ⟨S32x16x1, .f32⟩
  | 56 => ⟨S32x16x1, .f32⟩
  | 57 => ⟨S32x16x1, .bf16⟩
  | 58 => ⟨S32x16384x64, .bf16⟩
  | 59 => ⟨S32x16x64, .f32⟩
  | 60 => ⟨S32x1x64, .bf16⟩
  | 61 => ⟨S32x16x64, .f32⟩
  | 62 => ⟨S32x16x64, .f32⟩
  | 63 => ⟨S32x16x64, .bf16⟩
  | 64 => ⟨S32x1x64, .i32⟩
  | 65 => ⟨S32x1x64, .i8⟩
  | 66 => ⟨S32x1x1, .f32⟩
  | 67 => ⟨S32x1x128, .f32⟩
  | 68 => ⟨S32x1x64, .i32⟩
  | 69 => ⟨S32x1x64, .i8⟩
  | 70 => ⟨S32x1x1, .f32⟩
  | 71 => ⟨S32x1x128, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_cst_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_5 : Ref sig .tc := ⟨.hbm, 35, rfl⟩
abbrev main_v15 : Ref sig .tc := ⟨.hbm, 36, rfl⟩
abbrev main_cst_6 : Ref sig .tc := ⟨.hbm, 37, rfl⟩
abbrev main_v16 : Ref sig .tc := ⟨.hbm, 38, rfl⟩
abbrev main_v17 : Ref sig .tc := ⟨.hbm, 39, rfl⟩
abbrev main_cst_7 : Ref sig .tc := ⟨.hbm, 40, rfl⟩
abbrev main_v18 : Ref sig .tc := ⟨.hbm, 41, rfl⟩
abbrev main_v19 : Ref sig .tc := ⟨.hbm, 42, rfl⟩
abbrev main_cst_8 : Ref sig .tc := ⟨.hbm, 43, rfl⟩
abbrev main_call3_v0 : Ref sig .tc := ⟨.hbm, 44, rfl⟩
abbrev main_call3_v1 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_9 : Ref sig .tc := ⟨.hbm, 51, rfl⟩
abbrev main_cst_10 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_v25 : Ref sig .tc := ⟨.hbm, 58, rfl⟩
abbrev main_c : Ref sig .tc := ⟨.hbm, 59, rfl⟩
abbrev main_v26 : Ref sig .tc := ⟨.hbm, 60, rfl⟩
abbrev main_v27 : Ref sig .tc := ⟨.hbm, 61, rfl⟩
abbrev main_c_11 : Ref sig .tc := ⟨.hbm, 62, rfl⟩
abbrev main_v28 : Ref sig .tc := ⟨.hbm, 63, rfl⟩
abbrev main_v29 : Ref sig .tc := ⟨.hbm, 64, rfl⟩
abbrev main_c_12 : Ref sig .tc := ⟨.hbm, 65, rfl⟩
abbrev main_v30 : Ref sig .tc := ⟨.hbm, 66, rfl⟩
abbrev main_v31 : Ref sig .tc := ⟨.hbm, 67, rfl⟩
abbrev main_c_13 : Ref sig .tc := ⟨.hbm, 68, rfl⟩
abbrev main_v32 : Ref sig .tc := ⟨.hbm, 69, rfl⟩
abbrev main_v33 : Ref sig .tc := ⟨.hbm, 70, rfl⟩
abbrev main_c_14 : Ref sig .tc := ⟨.hbm, 71, rfl⟩
abbrev main_v34 : Ref sig .tc := ⟨.hbm, 72, rfl⟩
abbrev main_v35 : Ref sig .tc := ⟨.hbm, 73, rfl⟩
abbrev main_c_15 : Ref sig .tc := ⟨.hbm, 74, rfl⟩
abbrev main_v36 : Ref sig .tc := ⟨.hbm, 75, rfl⟩
abbrev main_v37 : Ref sig .tc := ⟨.hbm, 76, rfl⟩
abbrev main_c_16 : Ref sig .tc := ⟨.hbm, 77, rfl⟩
abbrev main_v38 : Ref sig .tc := ⟨.hbm, 78, rfl⟩
abbrev main_v39 : Ref sig .tc := ⟨.hbm, 79, rfl⟩
abbrev main_c_17 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_c_18 : Ref sig .tc := ⟨.hbm, 91, rfl⟩
abbrev main_v50 : Ref sig .tc := ⟨.hbm, 92, rfl⟩
abbrev main_v51 : Ref sig .tc := ⟨.hbm, 93, rfl⟩
abbrev main_c_19 : Ref sig .tc := ⟨.hbm, 94, rfl⟩
abbrev main_v52 : Ref sig .tc := ⟨.hbm, 95, rfl⟩
abbrev main_v53 : Ref sig .tc := ⟨.hbm, 96, rfl⟩
abbrev main_c_20 : Ref sig .tc := ⟨.hbm, 97, rfl⟩
abbrev main_v54 : Ref sig .tc := ⟨.hbm, 98, rfl⟩
abbrev main_v55 : Ref sig .tc := ⟨.hbm, 99, rfl⟩
abbrev main_c_21 : Ref sig .tc := ⟨.hbm, 100, rfl⟩
abbrev main_v56 : Ref sig .tc := ⟨.hbm, 101, rfl⟩
abbrev main_v57 : Ref sig .tc := ⟨.hbm, 102, rfl⟩
abbrev main_c_22 : Ref sig .tc := ⟨.hbm, 103, rfl⟩
abbrev main_v58 : Ref sig .tc := ⟨.hbm, 104, rfl⟩
abbrev main_v59 : Ref sig .tc := ⟨.hbm, 105, rfl⟩
abbrev main_c_23 : Ref sig .tc := ⟨.hbm, 106, rfl⟩
abbrev main_v60 : Ref sig .tc := ⟨.hbm, 107, rfl⟩
abbrev main_v61 : Ref sig .tc := ⟨.hbm, 108, rfl⟩
abbrev main_c_24 : Ref sig .tc := ⟨.hbm, 109, rfl⟩
abbrev main_v62 : Ref sig .tc := ⟨.hbm, 110, rfl⟩
abbrev main_v63 : Ref sig .tc := ⟨.hbm, 111, rfl⟩
abbrev main_c_25 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_26 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_27 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_28 : Ref sig .tc := ⟨.hbm, 156, rfl⟩
abbrev main_call6_v0 : Ref sig .tc := ⟨.hbm, 157, rfl⟩
abbrev main_call6_v1 : Ref sig .tc := ⟨.hbm, 158, rfl⟩
abbrev main_call6_v2 : Ref sig .tc := ⟨.hbm, 159, rfl⟩
abbrev main_v105 : Ref sig .tc := ⟨.hbm, 160, rfl⟩
abbrev main_v106 : Ref sig .tc := ⟨.hbm, 161, rfl⟩
abbrev main_cst_29 : Ref sig .tc := ⟨.hbm, 162, rfl⟩
abbrev main_v107 : Ref sig .tc := ⟨.hbm, 163, rfl⟩
abbrev main_cst_30 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_cst_31 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩

abbrev nD : Nat := 1
abbrev τ : Topo := Topo.v7x

variable {F : FTy → Type} [FloatOps F]
-- ==== Proof.Pre.lean ====
/- What the preconditions say: every length fits the page table, the queries and the live key scales are finite. -/
module

public import proofs.«01_k».proof.Defs
public import proofs.«01_k».proof.Proof.Gen.Pre_fits
public import proofs.«01_k».proof.Proof.Gen.Pre_admissible
public import Idealize.ShloMosaic.Lib.ReduceAll
public import Idealize.ShloMosaic.Lib.ValueIdx

@[expose] public section

noncomputable section

namespace Cert.Pre

open Idealize.ShloMosaic

instance : Subsingleton (Shape.Idx ⟨0, ![]⟩) := ⟨fun y z => funext fun a => a.elim0⟩

theorem ofBool_eq_one (p : Bool) : (BitVec.ofBool p = 1#1) ↔ p = true := by cases p <;> decide

theorem andi_eq_one {a b : BitVec 1} : IntOp.andi a b = 1#1 ↔ a = 1#1 ∧ b = 1#1 := by revert a b; decide

theorem ori_eq_one {a b : BitVec 1} : IntOp.ori a b = 1#1 ↔ a = 1#1 ∨ b = 1#1 := by revert a b; decide

theorem sle_one {x y : BitVec 32} (h : IntOp.cmpi .sle x y = 1#1) : x.toInt ≤ y.toInt := by
  unfold IntOp.cmpi at h
  rw [ofBool_eq_one] at h
  simpa [BitVec.sle] using h

/-- Under `fits` every length is at most 16384. -/
theorem fits_len {F : FTy → Type} [FloatOps F] (a0 : IVec Pre_fits.S32 32) (a1 a2 a3 a4 a5 a6)
    (h : Pre_fits.fn (F := F) a0 a1 a2 a3 a4 a5 a6 = fun _ => 1#1) (y : Pre_fits.S32.Idx) : (a0 y).toInt ≤ 16384 := by
  have h0 := congrFun h (fun a => a.elim0)
  unfold Pre_fits.fn at h0
  exact sle_one (Host.reduce_andi_all _ _ _ _ _ h0 y)

end Cert.Pre
-- ==== Proof.Kernel.Points.lean ====
/- When the attention call writes each result back, and its body as the pipeline calls it at a point. -/
module

public import proofs.«01_k».proof.Proof.Gen.Kernel
public import Idealize.ShloMosaic.Lib.Pipeline.Kit

@[expose] public section

noncomputable section

namespace Cert.Kernel.Attend

open Cert.Kernel.Gen
open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%arg3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg4)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 1 (fun _ => rfl) (by decide)) (P := 1) (by decide) t).mpr (Nat.mod_one _) : ∀ t : Fin grid0.N, Pipeline.Window.fetchOf grid0 false cc0_transform_3 t = true)
/-- Window 4 (operand 5 (%arg5)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 1 (fun _ => rfl) (by decide)) (P := 1) (by decide) t).mpr (Nat.mod_one _) : ∀ t : Fin grid0.N, Pipeline.Window.fetchOf grid0 false cc0_transform_4 t = true)
/-- Window 5 (operand 6 (%arg6)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 1 (fun _ => rfl) (by decide)) (P := 1) (by decide) t).mpr (Nat.mod_one _) : ∀ t : Fin grid0.N, Pipeline.Window.fetchOf grid0 false cc0_transform_5 t = true)
/-- Window 6 (result 0 (%0#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)
/-- Window 7 (result 1 (%0#1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)
/-- Window 8 (result 2 (%0#2)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)
/-- Window 9 (result 3 (%0#3)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 0 (by decide) (by decide) (Pipeline.Window.sep_of_coord cc0_transform_9 0 0 (fun _ => rfl) (by decide)) (P := 1) (m := 0) (by decide) rfl t).mpr (Nat.mod_one _) : ∀ t : Fin grid0.N, Pipeline.Window.flushOf grid0 true cc0_transform_9 t = true)
/-- Window 10 (result 4 (%0#4)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _)

end Cert.Kernel.Attend

end
-- ==== Proof.Kernel.Runs.lean ====
/- The attention call's surroundings: what the region is entered with, the windows' blocks, the staging memrefs. -/
module

public import proofs.«01_k».proof.Proof.Gen.Kernel.Launch
public import proofs.«01_k».proof.Proof.Gen.Kernel.Skeleton
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Attend

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Every length fits the page table. -/
def Lens : Prop := ∀ y : S32.Idx, (tbl m 0 y : BitVec 32).toInt ≤ 16384

/-- Each table as the body is handed it: its whole buffer as a memref, and that memref's wholeness. -/
abbrev tbM0_0 : Memref sig .tc .smem S32 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x16x64 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x64 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x64 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x1024 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x1024 .i32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S32x1024 .i32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x16x64 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x64 .i8 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1x64 .i8 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x1x128 .f32 := spec0_10.stage ((cfgM m hO).slots t 10)
abbrev hs0_10 (hO : Ok m) (t : Fin (cfgM m hO).N) : (ms0_10 m hO t).IsWhole := hstage0_10 (((cfgM m hO).slots t 10).cast nbuf0_10)
/-- The scratch operands: whole scoped buffers of the kernel's own, passed beside the windows. -/
abbrev scM0_0 : Memref sig .tc .vmem S256x1024 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Attend

end
-- ==== Proof.Kernel.Chunks.lean ====
/- The chunk loops of the attention body: how many chunks a length takes, and that they stay inside the windows. -/
module

public import proofs.«01_k».proof.Proof.Gen.Kernel.Loops
public import Idealize.ShloMosaic.Lib.LoopRemainder
public import Idealize.ShloMosaic.Lib.Affine

@[expose] public section
noncomputable section
namespace Cert.Kernel.Attend
open Idealize.ShloMosaic Cert.Kernel Cert.Kernel.Gen

theorem ofBool_decide_ne_zero (b : Bool) : (BitVec.ofBool b = 1#1) = (b = true) := by cases b <;> simp

/-- The rounded-down quotient of a word by 4096, as the scalar code spells it. -/
theorem floordiv_toInt (x : BitVec 32) (v : BitVec 32)
    (hv : v = Scalar.select (Scalar.andi (Scalar.cmpi .ne (Scalar.subi (Scalar.extui (Scalar.cmpi .sgt x 0#32)) (Scalar.extui (Scalar.cmpi .slt x 0#32)))
        (Scalar.subi (Scalar.extui (Scalar.cmpi .sgt 4096#32 0#32)) (Scalar.extui (Scalar.cmpi .slt 4096#32 0#32))))
        (Scalar.cmpi .ne (Scalar.remsi x 4096#32) 0#32))
        (Scalar.subi (Scalar.divsi x 4096#32) 1#32) (Scalar.divsi x 4096#32)) :
    v.toInt = x.toInt / 4096 := by
  subst hv
  have hx1 := BitVec.toInt_lt (x := x); have hx2 := BitVec.le_toInt x
  have h4 : (4096#32 : BitVec 32).toInt = 4096 := by decide
  have hq : (0 ≤ x.toInt ∧ x.toInt.tdiv 4096 = x.toInt / 4096) ∨ (x.toInt < 0 ∧ x.toInt % 4096 = 0 ∧ x.toInt.tdiv 4096 = x.toInt / 4096)
      ∨ (x.toInt < 0 ∧ x.toInt % 4096 ≠ 0 ∧ x.toInt.tdiv 4096 = x.toInt / 4096 + 1) := by
    rw [Int.tdiv_eq_ediv, show Int.sign 4096 = 1 from rfl]
    split
    · omega
    · omega
  have hm := Int.mul_tdiv_add_tmod x.toInt 4096
  generalize hqq : x.toInt.tdiv 4096 = q at hq hm
  generalize hrr : x.toInt.tmod 4096 = r at hm
  have hcor : ¬ IntOp.SDivCorner x 4096#32 := by
    unfold IntOp.SDivCorner; simp
  have hd : (Scalar.divsi x 4096#32).toInt = q := by
    unfold Scalar.divsi IntOp.divsi
    rw [if_neg hcor, BitVec.toInt_sdiv, h4, hqq]
    apply Int.bmod_eq_of_le <;> omega
  have hr : (Scalar.remsi x 4096#32).toInt = r := by
    unfold Scalar.remsi IntOp.remsi
    rw [if_neg hcor, BitVec.toInt_srem, h4, hrr]
  have hr0 : (Scalar.remsi x 4096#32 = 0#32) ↔ r = 0 := by
    rw [← hr]; constructor
    · intro h; rw [h]; rfl
    · intro h; exact BitVec.eq_of_toInt_eq (by rw [h]; rfl)
  have hs : (Scalar.subi (Scalar.divsi x 4096#32) 1#32).toInt = q - 1 := by
    unfold Scalar.subi IntOp.subi
    rw [BitVec.toInt_sub, hd, show (1#32 : BitVec 32).toInt = 1 by decide]
    apply Int.bmod_eq_of_le <;> omega
  have hc : Scalar.subi (Scalar.extui (Scalar.cmpi .sgt 4096#32 0#32)) (Scalar.extui (Scalar.cmpi .slt 4096#32 0#32)) = 1#32 := by decide
  rw [hc]
  have hpos : Scalar.cmpi .sgt x 0#32 = BitVec.ofBool (decide (0 < x.toInt)) := by
    simp [Scalar.cmpi, IntOp.cmpi, BitVec.slt]
  have hneg : Scalar.cmpi .slt x 0#32 = BitVec.ofBool (decide (x.toInt < 0)) := by
    simp [Scalar.cmpi, IntOp.cmpi, BitVec.slt]
  have hne : Scalar.cmpi .ne (Scalar.remsi x 4096#32) 0#32 = BitVec.ofBool (decide (r ≠ 0)) := by
    simp only [Scalar.cmpi, IntOp.cmpi]; congr 1
    rw [Bool.eq_iff_iff]; simp [hr0]
  rw [hpos, hneg, hne]
  have hem := Int.emod_nonneg x.toInt (b := 4096) (by decide)
  rcases lt_trichotomy x.toInt 0 with hlt | heq | hgt
  · have e1 : decide (0 < x.toInt) = false := by simp; omega
    have e2 : decide (x.toInt < 0) = true := by simpa using hlt
    rw [e1, e2]
    by_cases hr1 : r = 0
    · have e3 : decide (r ≠ 0) = false := by simpa using hr1
      rw [e3]
      have e4 : Scalar.andi (Scalar.cmpi .ne (Scalar.subi (Scalar.extui (BitVec.ofBool false)) (Scalar.extui (BitVec.ofBool true))) 1#32) (BitVec.ofBool false) = 0#1 := by decide
      rw [e4]; unfold Scalar.select; rw [if_neg (by decide), hd]
      omega
    · have e3 : decide (r ≠ 0) = true := by simpa using hr1
      rw [e3]
      have e4 : Scalar.andi (Scalar.cmpi .ne (Scalar.subi (Scalar.extui (BitVec.ofBool false)) (Scalar.extui (BitVec.ofBool true))) 1#32) (BitVec.ofBool true) = 1#1 := by decide
      rw [e4]; unfold Scalar.select; rw [if_pos (by decide), hs]
      omega
  · have : x = 0#32 := BitVec.eq_of_toInt_eq (by rw [heq]; rfl)
    have hr2 : r = 0 := by omega
    subst hr2; subst this; rfl
  · have e1 : decide (0 < x.toInt) = true := by simpa using hgt
    have e2 : decide (x.toInt < 0) = false := by simp; omega
    rw [e1, e2]
    have e4 : ∀ b, Scalar.andi (Scalar.cmpi .ne (Scalar.subi (Scalar.extui (BitVec.ofBool true)) (Scalar.extui (BitVec.ofBool false))) 1#32) (BitVec.ofBool b) = 0#1 := by decide
    rw [e4]; unfold Scalar.select; rw [if_neg (by decide), hd]
    omega

theorem loop_lb (v1 : BitVec 32) : (k0_t1_loop v1).lb = 0#32 := rfl
theorem loop_st (v1 : BitVec 32) : (k0_t1_loop v1).st = 1#32 := rfl

/-- The number of chunks of 4096 tokens that cover a length. -/
theorem loop_ub (v1 : BitVec 32) (h : v1.toInt ≤ 16384) : (k0_t1_loop v1).ub.toInt = (v1.toInt + 4095) / 4096 := by
  have hx2 := BitVec.le_toInt v1
  have hadd : (Scalar.addi v1 4095#32).toInt = v1.toInt + 4095 := by
    unfold Scalar.addi IntOp.addi
    rw [BitVec.toInt_add]
    apply Int.bmod_eq_of_le <;> simp <;> omega
  have e : (k0_t1_loop v1).ub = Scalar.addi 0#32 (Scalar.muli (Scalar.divsi (Scalar.subi _ 0#32) 1#32) 1#32) := rfl
  rw [e, Scalar.muli_divsi_one]
  have e2 : ∀ y : BitVec 32, Scalar.addi 0#32 (Scalar.subi y 0#32) = y := fun y => by simp [Scalar.addi, Scalar.subi, IntOp.addi, IntOp.subi]
  rw [e2, ← hadd]
  exact floordiv_toInt _ _ rfl

theorem trips_eq (v1 : BitVec 32) (h : v1.toInt ≤ 16384) : (k0_t1_loop v1).trips = ((v1.toInt + 4095) / 4096).toNat := by
  unfold Scf.Loop.trips Scf.trips
  rw [loop_ub v1 h]
  have h0 : (k0_t1_loop v1).lb.toInt = 0 := rfl
  have h1 : (k0_t1_loop v1).st.toInt = 1 := rfl
  rw [h0, h1]
  congr 1; omega

theorem trips_le (v1 : BitVec 32) (h : v1.toInt ≤ 16384) : (k0_t1_loop v1).trips ≤ 4 := by
  rw [trips_eq v1 h]; omega

/-- The first page of chunk `k`, a word, is `256 k`. -/
theorem chunk_word (k : ℕ) (hk : k < 4) :
    (Scalar.indexCast (Scalar.muli (Scf.iv 0#32 1#32 k) 256#32)).toNat = 256 * k := by
  rcases (by omega : k = 0 ∨ k = 1 ∨ k = 2 ∨ k = 3) with rfl | rfl | rfl | rfl <;> decide

/-- The remainder loops make no trip. -/
theorem rem_empty (v1 : BitVec 32) (k : Fin (k0_t2_loop v1).trips) : False := Scf.rem_no_trip _ _ k
theorem rem_empty' (v1 : BitVec 32) (k : Fin (k0_t4_loop v1).trips) : False := Scf.rem_no_trip _ _ k

theorem trips_three (v1 : BitVec 32) : (k0_t3_loop v1).trips = (k0_t1_loop v1).trips := rfl

/-- Inside a two-dimensional window: rows and columns. -/
theorem inside {n0 n1 S0 s0 : ℕ} (h0 : n0 + s0 ≤ S0) (h1 : n1 + 256 ≤ 1024) :
    ∀ a : Fin 2, (![n0, n1] : Fin 2 → ℕ) a + (![s0, 256] : Fin 2 → ℕ) a ≤ (![S0, 1024] : Fin 2 → ℕ) a :=
  Fin.forall_fin_two.mpr ⟨h0, h1⟩

section
variable (v1 : BitVec 32) (h : v1.toInt ≤ 16384)
include h

theorem page1 (k : Fin (k0_t1_loop v1).trips) : (Scalar.indexCast (Scalar.muli (Scf.iv 0#32 1#32 k.val) 256#32)).toNat + 256 ≤ 1024 := by
  have hk : k.val < 4 := lt_of_lt_of_le k.isLt (trips_le v1 h)
  rw [chunk_word k.val hk]; omega

theorem dvd1 (k : Fin (k0_t1_loop v1).trips) : 256 ∣ (k0_mult1 v1 k).toNat :=
  ⟨k.val, chunk_word k.val (lt_of_lt_of_le k.isLt (trips_le v1 h))⟩

theorem ok1 : (k0_t1_loop v1).OK := by
  refine ⟨Int.one_pos, ?_⟩
  have h0 : (k0_t1_loop v1).lb.toInt = 0 := rfl
  have h1 : (k0_t1_loop v1).st.toInt = 1 := rfl
  rw [h0, h1]
  have : Scf.trips (k0_t1_loop v1).lb (k0_t1_loop v1).ub (k0_t1_loop v1).st ≤ 4 := trips_le v1 h
  omega

theorem page3 (k : Fin (k0_t3_loop v1).trips) : (Scalar.indexCast (Scalar.muli (Scf.iv 0#32 1#32 k.val) 256#32)).toNat + 256 ≤ 1024 := by
  have hk : k.val < 4 := lt_of_lt_of_le k.isLt (trips_le v1 h)
  rw [chunk_word k.val hk]; omega

theorem dvd3 (k : Fin (k0_t3_loop v1).trips) : 256 ∣ (k0_mult3 v1 k).toNat :=
  ⟨k.val, chunk_word k.val (lt_of_lt_of_le k.isLt (trips_le v1 h))⟩

theorem ok3 : (k0_t3_loop v1).OK := ok1 v1 h

theorem chk1_0 : k0_chk1_0 v1 := ⟨
  ok1 v1 h,
  dvd1 v1 h,
  fun k => inside (n0 := 0) (s0 := 64) (S0 := 256) (Nat.le_of_ble_eq_true rfl) (page1 v1 h k),
  fun k => inside (n0 := 0) (s0 := 1) (S0 := 32) (Nat.le_of_ble_eq_true rfl) (page1 v1 h k),
  fun k => inside (n0 := 0) (s0 := 16) (S0 := 256) (Nat.le_of_ble_eq_true rfl) (page1 v1 h k),
  fun k => inside (n0 := 1) (s0 := 1) (S0 := 32) (Nat.le_of_ble_eq_true rfl) (page1 v1 h k),
  fun k => inside (n0 := 16) (s0 := 16) (S0 := 256) (Nat.le_of_ble_eq_true rfl) (page1 v1 h k),
  fun k => inside (n0 := 2) (s0 := 1) (S0 := 32) (Nat.le_of_ble_eq_true rfl) (page1 v1 h k),
  fun k => inside (n0 := 32) (s0 := 16) (S0 := 256) (Nat.le_of_ble_eq_true rfl) (page1 v1 h k),
  fun k => inside (n0 := 3) (s0 := 1) (S0 := 32) (Nat.le_of_ble_eq_true rfl) (page1 v1 h k),
  fun k => inside (n0 := 48) (s0 := 16) (S0 := 256) (Nat.le_of_ble_eq_true rfl) (page1 v1 h k),
  fun k => inside (n0 := 64) (s0 := 64) (S0 := 256) (Nat.le_of_ble_eq_true rfl) (page1 v1 h k),
  fun k => inside (n0 := 4) (s0 := 1) (S0 := 32) (Nat.le_of_ble_eq_true rfl) (page1 v1 h k),
  fun k => inside (n0 := 64) (s0 := 16) (S0 := 256) (Nat.le_of_ble_eq_true rfl) (page1 v1 h k),
  fun k => inside (n0 := 5) (s0 := 1) (S0 := 32) (Nat.le_of_ble_eq_true rfl) (page1 v1 h k),
  fun k => inside (n0 := 80) (s0 := 16) (S0 := 256) (Nat.le_of_ble_eq_true rfl) (page1 v1 h k),
  fun k => inside (n0 := 6) (s0 := 1) (S0 := 32) (Nat.le_of_ble_eq_true rfl) (page1 v1 h k),
  fun k => inside (n0 := 96) (s0 := 16) (S0 := 256) (Nat.le_of_ble_eq_true rfl) (page1 v1 h k),
  fun k => inside (n0 := 7) (s0 := 1) (S0 := 32) (Nat.le_of_ble_eq_true rfl) (page1 v1 h k),
  fun k => inside (n0 := 112) (s0 := 16) (S0 := 256) (Nat.le_of_ble_eq_true rfl) (page1 v1 h k),
  fun k => inside (n0 := 128) (s0 := 64) (S0 := 256) (Nat.le_of_ble_eq_true rfl) (page1 v1 h k),
  fun k => inside (n0 := 8) (s0 := 1) (S0 := 32) (Nat.le_of_ble_eq_true rfl) (page1 v1 h k),
  fun k => inside (n0 := 128) (s0 := 16) (S0 := 256) (Nat.le_of_ble_eq_true rfl) (page1 v1 h k),
  fun k => inside (n0 := 9) (s0 := 1) (S0 := 32) (Nat.le_of_ble_eq_true rfl) (page1 v1 h k),
  fun k => inside (n0 := 144) (s0 := 16) (S0 := 256) (Nat.le_of_ble_eq_true rfl) (page1 v1 h k),
  fun k => inside (n0 := 10) (s0 := 1) (S0 := 32) (Nat.le_of_ble_eq_true rfl) (page1 v1 h k),
  fun k => inside (n0 := 160) (s0 := 16) (S0 := 256) (Nat.le_of_ble_eq_true rfl) (page1 v1 h k),
  fun k => inside (n0 := 11) (s0 := 1) (S0 := 32) (Nat.le_of_ble_eq_true rfl) (page1 v1 h k),
  fun k => inside (n0 := 176) (s0 := 16) (S0 := 256) (Nat.le_of_ble_eq_true rfl) (page1 v1 h k),
  fun k => inside (n0 := 192) (s0 := 64) (S0 := 256) (Nat.le_of_ble_eq_true rfl) (page1 v1 h k),
  fun k => inside (n0 := 12) (s0 := 1) (S0 := 32) (Nat.le_of_ble_eq_true rfl) (page1 v1 h k),
  fun k => inside (n0 := 192) (s0 := 16) (S0 := 256) (Nat.le_of_ble_eq_true rfl) (page1 v1 h k)⟩

theorem chk1_1 : k0_chk1_1 v1 := ⟨
  fun k => inside (n0 := 13) (s0 := 1) (S0 := 32) (Nat.le_of_ble_eq_true rfl) (page1 v1 h k),
  fun k => inside (n0 := 208) (s0 := 16) (S0 := 256) (Nat.le_of_ble_eq_true rfl) (page1 v1 h k),
  fun k => inside (n0 := 14) (s0 := 1) (S0 := 32) (Nat.le_of_ble_eq_true rfl) (page1 v1 h k),
  fun k => inside (n0 := 224) (s0 := 16) (S0 := 256) (Nat.le_of_ble_eq_true rfl) (page1 v1 h k),
  fun k => inside (n0 := 15) (s0 := 1) (S0 := 32) (Nat.le_of_ble_eq_true rfl) (page1 v1 h k),
  fun k => inside (n0 := 240) (s0 := 16) (S0 := 256) (Nat.le_of_ble_eq_true rfl) (page1 v1 h k),
  Scf.rem_ok _ _,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim⟩

theorem chk1_2 : k0_chk1_2 v1 := ⟨
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  ok3 v1 h,
  dvd3 v1 h,
  fun k => inside (n0 := 0) (s0 := 16) (S0 := 256) (Nat.le_of_ble_eq_true rfl) (page3 v1 h k),
  fun k => inside (n0 := 16) (s0 := 1) (S0 := 32) (Nat.le_of_ble_eq_true rfl) (page3 v1 h k),
  fun k => inside (n0 := 16) (s0 := 16) (S0 := 256) (Nat.le_of_ble_eq_true rfl) (page3 v1 h k),
  fun k => inside (n0 := 17) (s0 := 1) (S0 := 32) (Nat.le_of_ble_eq_true rfl) (page3 v1 h k),
  fun k => inside (n0 := 32) (s0 := 16) (S0 := 256) (Nat.le_of_ble_eq_true rfl) (page3 v1 h k),
  fun k => inside (n0 := 18) (s0 := 1) (S0 := 32) (Nat.le_of_ble_eq_true rfl) (page3 v1 h k),
  fun k => inside (n0 := 48) (s0 := 16) (S0 := 256) (Nat.le_of_ble_eq_true rfl) (page3 v1 h k),
  fun k => inside (n0 := 19) (s0 := 1) (S0 := 32) (Nat.le_of_ble_eq_true rfl) (page3 v1 h k),
  fun k => inside (n0 := 0) (s0 := 64) (S0 := 256) (Nat.le_of_ble_eq_true rfl) (page3 v1 h k),
  fun k => inside (n0 := 64) (s0 := 16) (S0 := 256) (Nat.le_of_ble_eq_true rfl) (page3 v1 h k),
  fun k => inside (n0 := 20) (s0 := 1) (S0 := 32) (Nat.le_of_ble_eq_true rfl) (page3 v1 h k),
  fun k => inside (n0 := 80) (s0 := 16) (S0 := 256) (Nat.le_of_ble_eq_true rfl) (page3 v1 h k),
  fun k => inside (n0 := 21) (s0 := 1) (S0 := 32) (Nat.le_of_ble_eq_true rfl) (page3 v1 h k),
  fun k => inside (n0 := 96) (s0 := 16) (S0 := 256) (Nat.le_of_ble_eq_true rfl) (page3 v1 h k),
  fun k => inside (n0 := 22) (s0 := 1) (S0 := 32) (Nat.le_of_ble_eq_true rfl) (page3 v1 h k),
  fun k => inside (n0 := 112) (s0 := 16) (S0 := 256) (Nat.le_of_ble_eq_true rfl) (page3 v1 h k),
  fun k => inside (n0 := 23) (s0 := 1) (S0 := 32) (Nat.le_of_ble_eq_true rfl) (page3 v1 h k),
  fun k => inside (n0 := 64) (s0 := 64) (S0 := 256) (Nat.le_of_ble_eq_true rfl) (page3 v1 h k)⟩

theorem chk1_3 : k0_chk1_3 v1 := ⟨
  fun k => inside (n0 := 128) (s0 := 16) (S0 := 256) (Nat.le_of_ble_eq_true rfl) (page3 v1 h k),
  fun k => inside (n0 := 24) (s0 := 1) (S0 := 32) (Nat.le_of_ble_eq_true rfl) (page3 v1 h k),
  fun k => inside (n0 := 144) (s0 := 16) (S0 := 256) (Nat.le_of_ble_eq_true rfl) (page3 v1 h k),
  fun k => inside (n0 := 25) (s0 := 1) (S0 := 32) (Nat.le_of_ble_eq_true rfl) (page3 v1 h k),
  fun k => inside (n0 := 160) (s0 := 16) (S0 := 256) (Nat.le_of_ble_eq_true rfl) (page3 v1 h k),
  fun k => inside (n0 := 26) (s0 := 1) (S0 := 32) (Nat.le_of_ble_eq_true rfl) (page3 v1 h k),
  fun k => inside (n0 := 176) (s0 := 16) (S0 := 256) (Nat.le_of_ble_eq_true rfl) (page3 v1 h k),
  fun k => inside (n0 := 27) (s0 := 1) (S0 := 32) (Nat.le_of_ble_eq_true rfl) (page3 v1 h k),
  fun k => inside (n0 := 128) (s0 := 64) (S0 := 256) (Nat.le_of_ble_eq_true rfl) (page3 v1 h k),
  fun k => inside (n0 := 192) (s0 := 16) (S0 := 256) (Nat.le_of_ble_eq_true rfl) (page3 v1 h k),
  fun k => inside (n0 := 28) (s0 := 1) (S0 := 32) (Nat.le_of_ble_eq_true rfl) (page3 v1 h k),
  fun k => inside (n0 := 208) (s0 := 16) (S0 := 256) (Nat.le_of_ble_eq_true rfl) (page3 v1 h k),
  fun k => inside (n0 := 29) (s0 := 1) (S0 := 32) (Nat.le_of_ble_eq_true rfl) (page3 v1 h k),
  fun k => inside (n0 := 224) (s0 := 16) (S0 := 256) (Nat.le_of_ble_eq_true rfl) (page3 v1 h k),
  fun k => inside (n0 := 30) (s0 := 1) (S0 := 32) (Nat.le_of_ble_eq_true rfl) (page3 v1 h k),
  fun k => inside (n0 := 240) (s0 := 16) (S0 := 256) (Nat.le_of_ble_eq_true rfl) (page3 v1 h k),
  fun k => inside (n0 := 31) (s0 := 1) (S0 := 32) (Nat.le_of_ble_eq_true rfl) (page3 v1 h k),
  fun k => inside (n0 := 192) (s0 := 64) (S0 := 256) (Nat.le_of_ble_eq_true rfl) (page3 v1 h k),
  Scf.rem_ok _ _,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim⟩

theorem chk1_4 : k0_chk1_4 v1 := ⟨
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim⟩

/-- Every length of at most 16384 tokens keeps the chunks inside the windows. -/
theorem chk1 : k0_chk1 v1 := ⟨chk1_0 v1 h, chk1_1 v1 h, chk1_2 v1 h, chk1_3 v1 h, chk1_4 v1 h⟩

end

end Cert.Kernel.Attend
-- ==== Proof.Kernel.RunA.lean ====
/- One run of the attention body on whole memrefs. -/
module

public import proofs.«01_k».proof.Proof.Kernel.Runs
public import proofs.«01_k».proof.Proof.Kernel.Chunks
public import proofs.«01_k».proof.Proof.Gen.Kernel.Loops

@[expose] public section

-- membership in a rectangle of production extents (`View.cover_of_tiled`): the elaborator's structural look
-- recurses once per coordinate of the long axes
set_option maxRecDepth 16384

noncomputable section

namespace Cert.Kernel.Attend

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x16x64 .bf16) (harg2 : arg2.IsWhole) (arg3 : Memref sig .tc .vmem S1x1x64 .bf16) (harg3 : arg3.IsWhole) (arg4 : Memref sig .tc .vmem S1x1x64 .bf16) (harg4 : arg4.IsWhole) (arg5 : Memref sig .tc .vmem S256x1024 .i32) (harg5 : arg5.IsWhole) (arg6 : Memref sig .tc .vmem S256x1024 .i32) (harg6 : arg6.IsWhole) (arg7 : Memref sig .tc .vmem S32x1024 .i32) (harg7 : arg7.IsWhole) (arg8 : Memref sig .tc .vmem S1x16x64 .bf16) (harg8 : arg8.IsWhole) (arg9 : Memref sig .tc .vmem S1x1x64 .i8) (harg9 : arg9.IsWhole) (arg10 : Memref sig .tc .vmem S1x1x128 .f32) (harg10 : arg10.IsWhole) (arg11 : Memref sig .tc .vmem S1x1x64 .i8) (harg11 : arg11.IsWhole) (arg12 : Memref sig .tc .vmem S1x1x128 .f32) (harg12 : arg12.IsWhole) (arg13 : Memref sig .tc .vmem S256x1024 .f32) (harg13 : arg13.IsWhole)
    (x0 : Vec F S1x16x64 .bf16) (x1 : Vec F S1x1x64 .bf16) (x2 : Vec F S1x1x64 .bf16) (x3 : Vec F S256x1024 .i32) (x4 : Vec F S256x1024 .i32) (x5 : Vec F S32x1024 .i32) (xt0 : TbBuf0 (F := F) c tbM0_0) (hL : ∀ y : S32.Idx, (xt0 y : BitVec 32).toInt ≤ 16384) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := F)) Variants.none c none) E (cc0_attend i tbM0_0 htbM0_0 arg2 harg2 arg3 harg3 arg4 harg4 arg5 harg5 arg6 harg6 arg7 harg7 arg8 harg8 arg9 harg9 arg10 harg10 arg11 harg11 arg12 harg12 arg13 harg13) K := by
    intro E K
    simp only [cc0_attend_eq_skeleton]; unfold cc0_attend_skel
    simp only [k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := exact chk1 _ (hL _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    iexact HT0

end Cert.Kernel.Attend

end
-- ==== Proof.Kernel.Frame.lean ====
/- The attention call's run and its frame. -/
module

public import proofs.«01_k».proof.Proof.Kernel.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Attend

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8, 9, 10): nothing reads what the kernel leaves in them, so nothing
    of it is named (Lib/Pipeline/Dat.lean `Dat.toRForget`). -/
def forgets0 : Fin 11 → Bool := fun w => w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hL : Lens m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hL : Lens m) (c : Dev nD) (w : Fin (cfgM m hO).W) : (dats m hO hL 0 c).A w = V m c (Pipeline.arrRef spec0 w) := by
  dsimp only [dats]

/-- What the body leaves, window by window (the proof data's `match` reduced by `dsimp`). -/
theorem after0_0 (hO : Ok m) (hL : Lens m) (c : Dev nD) (t : Fin (cfgM m hO).N) : (dats m hO hL 0 c).after 0 t = iblk m hO c 0 t := by dsimp only [dats]; try rfl
theorem after0_1 (hO : Ok m) (hL : Lens m) (c : Dev nD) (t : Fin (cfgM m hO).N) : (dats m hO hL 0 c).after 1 t = iblk m hO c 1 t := by dsimp only [dats]; try rfl
theorem after0_2 (hO : Ok m) (hL : Lens m) (c : Dev nD) (t : Fin (cfgM m hO).N) : (dats m hO hL 0 c).after 2 t = iblk m hO c 2 t := by dsimp only [dats]; try rfl
theorem after0_3 (hO : Ok m) (hL : Lens m) (c : Dev nD) (t : Fin (cfgM m hO).N) : (dats m hO hL 0 c).after 3 t = iblk m hO c 3 t := by dsimp only [dats]; try rfl
theorem after0_4 (hO : Ok m) (hL : Lens m) (c : Dev nD) (t : Fin (cfgM m hO).N) : (dats m hO hL 0 c).after 4 t = iblk m hO c 4 t := by dsimp only [dats]; try rfl
theorem after0_5 (hO : Ok m) (hL : Lens m) (c : Dev nD) (t : Fin (cfgM m hO).N) : (dats m hO hL 0 c).after 5 t = iblk m hO c 5 t := by dsimp only [dats]; try rfl

/-- Each input's current staging buffer holds its block at every point, fetched there or not (`beforeK_W_of`). -/
theorem before0_0 (hO : Ok m) (hL : Lens m) (c : Dev nD) (t : Fin (cfgM m hO).N) (d) : (dats m hO hL 0 c).before 0 t d = iblk m hO c 0 t :=
  before0_0_of m hO (dats m hO hL 0 c) (A_eq m hO hL c 0) (after0_0 m hO hL c) t d
theorem before0_1 (hO : Ok m) (hL : Lens m) (c : Dev nD) (t : Fin (cfgM m hO).N) (d) : (dats m hO hL 0 c).before 1 t d = iblk m hO c 1 t :=
  before0_1_of m hO (dats m hO hL 0 c) (A_eq m hO hL c 1) (after0_1 m hO hL c) t d
theorem before0_2 (hO : Ok m) (hL : Lens m) (c : Dev nD) (t : Fin (cfgM m hO).N) (d) : (dats m hO hL 0 c).before 2 t d = iblk m hO c 2 t :=
  before0_2_of m hO (dats m hO hL 0 c) (A_eq m hO hL c 2) (after0_2 m hO hL c) t d
theorem before0_3 (hO : Ok m) (hL : Lens m) (c : Dev nD) (t : Fin (cfgM m hO).N) (d) : (dats m hO hL 0 c).before 3 t d = iblk m hO c 3 t :=
  before0_3_of m hO (dats m hO hL 0 c) (A_eq m hO hL c 3) (after0_3 m hO hL c) t d
theorem before0_4 (hO : Ok m) (hL : Lens m) (c : Dev nD) (t : Fin (cfgM m hO).N) (d) : (dats m hO hL 0 c).before 4 t d = iblk m hO c 4 t :=
  before0_4_of m hO (dats m hO hL 0 c) (A_eq m hO hL c 4) (after0_4 m hO hL c) t d
theorem before0_5 (hO : Ok m) (hL : Lens m) (c : Dev nD) (t : Fin (cfgM m hO).N) (d) : (dats m hO hL 0 c).before 5 t d = iblk m hO c 5 t :=
  before0_5_of m hO (dats m hO hL 0 c) (A_eq m hO hL c 5) (after0_5 m hO hL c) t d

/-! ## The body obligation, at a generic point -/

/-- What the body is called with at point `t` (Lib/Pipeline.lean `BodyObligation`'s precondition, the windows one by one), -/
def bodyPre (hO : Ok m) (hL : Lens m) (c : Dev nD) (t : Fin (cfgM m hO).N) : sProp 𝕄 :=
  iprop((dats m hO hL 0 c).Φ t.castSucc ∗ (dats m hO hL 0 c).owesAt () t.castSucc
    ∗ (∃ d, owns (c : Thread nD τ) (ms0_0 m hO t) fullShare ((dats m hO hL 0 c).before 0 t d))
    ∗ (∃ d, owns (c : Thread nD τ) (ms0_1 m hO t) fullShare ((dats m hO hL 0 c).before 1 t d))
    ∗ (∃ d, owns (c : Thread nD τ) (ms0_2 m hO t) fullShare ((dats m hO hL 0 c).before 2 t d))
    ∗ (∃ d, owns (c : Thread nD τ) (ms0_3 m hO t) fullShare ((dats m hO hL 0 c).before 3 t d))
    ∗ (∃ d, owns (c : Thread nD τ) (ms0_4 m hO t) fullShare ((dats m hO hL 0 c).before 4 t d))
    ∗ (∃ d, owns (c : Thread nD τ) (ms0_5 m hO t) fullShare ((dats m hO hL 0 c).before 5 t d))
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

/-- and what it returns. -/
def bodyPost (hO : Ok m) (hL : Lens m) (c : Dev nD) (t : Fin (cfgM m hO).N) : sProp 𝕄 :=
  iprop((dats m hO hL 0 c).Φ t.succ ∗ (dats m hO hL 0 c).owesAt () t.succ
    ∗ owns (c : Thread nD τ) (ms0_0 m hO t) fullShare ((dats m hO hL 0 c).after 0 t)
    ∗ owns (c : Thread nD τ) (ms0_1 m hO t) fullShare ((dats m hO hL 0 c).after 1 t)
    ∗ owns (c : Thread nD τ) (ms0_2 m hO t) fullShare ((dats m hO hL 0 c).after 2 t)
    ∗ owns (c : Thread nD τ) (ms0_3 m hO t) fullShare ((dats m hO hL 0 c).after 3 t)
    ∗ owns (c : Thread nD τ) (ms0_4 m hO t) fullShare ((dats m hO hL 0 c).after 4 t)
    ∗ owns (c : Thread nD τ) (ms0_5 m hO t) fullShare ((dats m hO hL 0 c).after 5 t)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hL : Lens m) (c : Dev nD) (t : Fin (cfgM m hO).N) :
    bodyPre m hO hL c t ⊢ wp frame (wpE (defs₀ (F := F)) Variants.none c none) Set.univ (bodyAt0 (adm m hO) t) (fun _ => bodyPost m hO hL c t) := by
  unfold bodyPre bodyPost bodyAt0
  simp only [before0_0, before0_1, before0_2, before0_3, before0_4, before0_5]
  rw [show (dats m hO hL 0 c).Φ t.succ = (dats m hO hL 0 c).Φ t.castSucc from rfl,
    show (dats m hO hL 0 c).owesAt () t.succ = (dats m hO hL 0 c).owesAt () t.castSucc from rfl,
    after0_0, after0_1, after0_2, after0_3, after0_4, after0_5]
  rw [show (dats m hO hL 0 c).Φ t.castSucc = iprop(Pipeline.ΦA spec0 c ∗ Pipeline.ΦT pre0 (tbl m) c) from rfl, PhiT0_eq, PhiA0_eq]
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) hL) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HT0]; · iexact HT0
  iintro ⟨H0, H1, H2, H3, H4, H5, H6, H7, H8, H9, H10, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (hO : Ok m) (hL : Lens m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hL : Lens m) (c : Dev nD) : BodyObligation (dats (F := F) m hO hL 0 c) (defs₀ (F := F)) Variants.none () Set.univ forgets0 := fun t => by
  rw [bigSep_W0, bigSep_W0, defs₀_row m hO hL]
  exact triple_restated (sound_body m hO hL c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hL : Lens m) : θ_run defs (onTc (τ := τ) (main (F := F))) (s₀ m ρ) (fun r => (Pipeline.RDat.FramePost ((Pipeline.pin pcfgs fun _ => adm m hO) 0) (fun c => (dats m hO hL 0 c).toRForget forgets0) (V m)) r ∧ r.2.sem = fun _ => 0) :=
  Pipeline.θ_run_frameP_forget (Q' := _) pcfgs (fun _ => adm m hO) (dats m hO hL) (0 : Fin 1) launch0 defs₀ Variants.none forgets0 m ρ main
    (hbody := fun c => (body_obligation m hO hL c).loose) (hshare := fun c => (dats m hO hL 0 c).share_full fun _ => rfl)
    (howed := fun _ _ => rfl) (V := V m) (hmain := hmain m Variants.none) (hA := A_eq m hO hL) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10) (Lib/Pipeline/Frame.lean `RDat.FramePost` over the proof data with those windows
    forgotten, Dat.lean `Dat.toRForget`), and every other unscoped buffer at its region-entry contents. -/
theorem run_main (hO : Ok m) (hL : Lens m) : θ_run defs (onTc (τ := τ) (main (F := F))) (s₀ m ρ) (Pipeline.RDat.FramePost ((Pipeline.pin pcfgs fun _ => adm m hO) 0) (fun c => (dats m hO hL 0 c).toRForget forgets0) (V m)) :=
  (θ_run defs _ _).mono (fun _ h => h.1) (run_main_quiescent m ρ hO hL)

/-- `frame` without the counters: the argument arrays end unchanged. -/
theorem unchanged (hO : Ok m) (hL : Lens m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO hL 0 c).toRForget forgets0) (A_eq m hO hL) (run_main m ρ hO hL)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) (hL : Lens m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hL) ((θ_run defs _ _).mono (fun _ h => h.2) (run_main_quiescent m ρ hO hL))

end Cert.Kernel.Attend

end
-- ==== Proof.KernelIdeal.Points.lean ====
/- When the attention call writes each result back, and its body as the pipeline calls it at a point. -/
module

public import proofs.«01_k».proof.Proof.Gen.KernelIdeal
public import Idealize.ShloMosaic.Lib.Pipeline.Kit

@[expose] public section

noncomputable section

namespace Cert.KernelIdeal.Attend

open Cert.KernelIdeal.Gen
open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%arg3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg4)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 1 (fun _ => rfl) (by decide)) (P := 1) (by decide) t).mpr (Nat.mod_one _) : ∀ t : Fin grid0.N, Pipeline.Window.fetchOf grid0 false cc0_transform_3 t = true)
/-- Window 4 (operand 5 (%arg5)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 1 (fun _ => rfl) (by decide)) (P := 1) (by decide) t).mpr (Nat.mod_one _) : ∀ t : Fin grid0.N, Pipeline.Window.fetchOf grid0 false cc0_transform_4 t = true)
/-- Window 5 (operand 6 (%arg6)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 1 (fun _ => rfl) (by decide)) (P := 1) (by decide) t).mpr (Nat.mod_one _) : ∀ t : Fin grid0.N, Pipeline.Window.fetchOf grid0 false cc0_transform_5 t = true)
/-- Window 6 (result 0 (%0#0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)
/-- Window 7 (result 1 (%0#1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)
/-- Window 8 (result 2 (%0#2)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)
/-- Window 9 (result 3 (%0#3)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 0 (by decide) (by decide) (Pipeline.Window.sep_of_coord cc0_transform_9 0 0 (fun _ => rfl) (by decide)) (P := 1) (m := 0) (by decide) rfl t).mpr (Nat.mod_one _) : ∀ t : Fin grid0.N, Pipeline.Window.flushOf grid0 true cc0_transform_9 t = true)
/-- Window 10 (result 4 (%0#4)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _)

end Cert.KernelIdeal.Attend

end
-- ==== Proof.KernelIdeal.Runs.lean ====
/- The attention call's surroundings: what the region is entered with, the windows' blocks, the staging memrefs. -/
module

public import proofs.«01_k».proof.Proof.Gen.KernelIdeal.Launch
public import proofs.«01_k».proof.Proof.Gen.KernelIdeal.Skeleton
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Attend

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Every length fits the page table. -/
def Lens : Prop := ∀ y : S32.Idx, (tbl m 0 y : BitVec 32).toInt ≤ 16384

/-- Each table as the body is handed it: its whole buffer as a memref, and that memref's wholeness. -/
abbrev tbM0_0 : Memref sig .tc .smem S32 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x16x64 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x64 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x64 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x1024 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x1024 .i32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S32x1024 .i32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x16x64 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x64 .i8 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1x64 .i8 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x1x128 .f32 := spec0_10.stage ((cfgM m hO).slots t 10)
abbrev hs0_10 (hO : Ok m) (t : Fin (cfgM m hO).N) : (ms0_10 m hO t).IsWhole := hstage0_10 (((cfgM m hO).slots t 10).cast nbuf0_10)
/-- The scratch operands: whole scoped buffers of the kernel's own, passed beside the windows. -/
abbrev scM0_0 : Memref sig .tc .vmem S256x1024 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Attend

end
-- ==== Proof.KernelIdeal.Chunks.lean ====
/- The chunk loops of the attention body: how many chunks a length takes, and that they stay inside the windows. -/
module

public import proofs.«01_k».proof.Proof.Gen.KernelIdeal.Loops
public import Idealize.ShloMosaic.Lib.LoopRemainder
public import Idealize.ShloMosaic.Lib.Affine

@[expose] public section
noncomputable section
namespace Cert.KernelIdeal.Attend
open Idealize.ShloMosaic Cert.KernelIdeal Cert.KernelIdeal.Gen

theorem ofBool_decide_ne_zero (b : Bool) : (BitVec.ofBool b = 1#1) = (b = true) := by cases b <;> simp

/-- The rounded-down quotient of a word by 4096, as the scalar code spells it. -/
theorem floordiv_toInt (x : BitVec 32) (v : BitVec 32)
    (hv : v = Scalar.select (Scalar.andi (Scalar.cmpi .ne (Scalar.subi (Scalar.extui (Scalar.cmpi .sgt x 0#32)) (Scalar.extui (Scalar.cmpi .slt x 0#32)))
        (Scalar.subi (Scalar.extui (Scalar.cmpi .sgt 4096#32 0#32)) (Scalar.extui (Scalar.cmpi .slt 4096#32 0#32))))
        (Scalar.cmpi .ne (Scalar.remsi x 4096#32) 0#32))
        (Scalar.subi (Scalar.divsi x 4096#32) 1#32) (Scalar.divsi x 4096#32)) :
    v.toInt = x.toInt / 4096 := by
  subst hv
  have hx1 := BitVec.toInt_lt (x := x); have hx2 := BitVec.le_toInt x
  have h4 : (4096#32 : BitVec 32).toInt = 4096 := by decide
  have hq : (0 ≤ x.toInt ∧ x.toInt.tdiv 4096 = x.toInt / 4096) ∨ (x.toInt < 0 ∧ x.toInt % 4096 = 0 ∧ x.toInt.tdiv 4096 = x.toInt / 4096)
      ∨ (x.toInt < 0 ∧ x.toInt % 4096 ≠ 0 ∧ x.toInt.tdiv 4096 = x.toInt / 4096 + 1) := by
    rw [Int.tdiv_eq_ediv, show Int.sign 4096 = 1 from rfl]
    split
    · omega
    · omega
  have hm := Int.mul_tdiv_add_tmod x.toInt 4096
  generalize hqq : x.toInt.tdiv 4096 = q at hq hm
  generalize hrr : x.toInt.tmod 4096 = r at hm
  have hcor : ¬ IntOp.SDivCorner x 4096#32 := by
    unfold IntOp.SDivCorner; simp
  have hd : (Scalar.divsi x 4096#32).toInt = q := by
    unfold Scalar.divsi IntOp.divsi
    rw [if_neg hcor, BitVec.toInt_sdiv, h4, hqq]
    apply Int.bmod_eq_of_le <;> omega
  have hr : (Scalar.remsi x 4096#32).toInt = r := by
    unfold Scalar.remsi IntOp.remsi
    rw [if_neg hcor, BitVec.toInt_srem, h4, hrr]
  have hr0 : (Scalar.remsi x 4096#32 = 0#32) ↔ r = 0 := by
    rw [← hr]; constructor
    · intro h; rw [h]; rfl
    · intro h; exact BitVec.eq_of_toInt_eq (by rw [h]; rfl)
  have hs : (Scalar.subi (Scalar.divsi x 4096#32) 1#32).toInt = q - 1 := by
    unfold Scalar.subi IntOp.subi
    rw [BitVec.toInt_sub, hd, show (1#32 : BitVec 32).toInt = 1 by decide]
    apply Int.bmod_eq_of_le <;> omega
  have hc : Scalar.subi (Scalar.extui (Scalar.cmpi .sgt 4096#32 0#32)) (Scalar.extui (Scalar.cmpi .slt 4096#32 0#32)) = 1#32 := by decide
  rw [hc]
  have hpos : Scalar.cmpi .sgt x 0#32 = BitVec.ofBool (decide (0 < x.toInt)) := by
    simp [Scalar.cmpi, IntOp.cmpi, BitVec.slt]
  have hneg : Scalar.cmpi .slt x 0#32 = BitVec.ofBool (decide (x.toInt < 0)) := by
    simp [Scalar.cmpi, IntOp.cmpi, BitVec.slt]
  have hne : Scalar.cmpi .ne (Scalar.remsi x 4096#32) 0#32 = BitVec.ofBool (decide (r ≠ 0)) := by
    simp only [Scalar.cmpi, IntOp.cmpi]; congr 1
    rw [Bool.eq_iff_iff]; simp [hr0]
  rw [hpos, hneg, hne]
  have hem := Int.emod_nonneg x.toInt (b := 4096) (by decide)
  rcases lt_trichotomy x.toInt 0 with hlt | heq | hgt
  · have e1 : decide (0 < x.toInt) = false := by simp; omega
    have e2 : decide (x.toInt < 0) = true := by simpa using hlt
    rw [e1, e2]
    by_cases hr1 : r = 0
    · have e3 : decide (r ≠ 0) = false := by simpa using hr1
      rw [e3]
      have e4 : Scalar.andi (Scalar.cmpi .ne (Scalar.subi (Scalar.extui (BitVec.ofBool false)) (Scalar.extui (BitVec.ofBool true))) 1#32) (BitVec.ofBool false) = 0#1 := by decide
      rw [e4]; unfold Scalar.select; rw [if_neg (by decide), hd]
      omega
    · have e3 : decide (r ≠ 0) = true := by simpa using hr1
      rw [e3]
      have e4 : Scalar.andi (Scalar.cmpi .ne (Scalar.subi (Scalar.extui (BitVec.ofBool false)) (Scalar.extui (BitVec.ofBool true))) 1#32) (BitVec.ofBool true) = 1#1 := by decide
      rw [e4]; unfold Scalar.select; rw [if_pos (by decide), hs]
      omega
  · have : x = 0#32 := BitVec.eq_of_toInt_eq (by rw [heq]; rfl)
    have hr2 : r = 0 := by omega
    subst hr2; subst this; rfl
  · have e1 : decide (0 < x.toInt) = true := by simpa using hgt
    have e2 : decide (x.toInt < 0) = false := by simp; omega
    rw [e1, e2]
    have e4 : ∀ b, Scalar.andi (Scalar.cmpi .ne (Scalar.subi (Scalar.extui (BitVec.ofBool true)) (Scalar.extui (BitVec.ofBool false))) 1#32) (BitVec.ofBool b) = 0#1 := by decide
    rw [e4]; unfold Scalar.select; rw [if_neg (by decide), hd]
    omega

theorem loop_lb (v1 : BitVec 32) : (k0_t1_loop v1).lb = 0#32 := rfl
theorem loop_st (v1 : BitVec 32) : (k0_t1_loop v1).st = 1#32 := rfl

/-- The number of chunks of 4096 tokens that cover a length. -/
theorem loop_ub (v1 : BitVec 32) (h : v1.toInt ≤ 16384) : (k0_t1_loop v1).ub.toInt = (v1.toInt + 4095) / 4096 := by
  have hx2 := BitVec.le_toInt v1
  have hadd : (Scalar.addi v1 4095#32).toInt = v1.toInt + 4095 := by
    unfold Scalar.addi IntOp.addi
    rw [BitVec.toInt_add]
    apply Int.bmod_eq_of_le <;> simp <;> omega
  have e : (k0_t1_loop v1).ub = Scalar.addi 0#32 (Scalar.muli (Scalar.divsi (Scalar.subi _ 0#32) 1#32) 1#32) := rfl
  rw [e, Scalar.muli_divsi_one]
  have e2 : ∀ y : BitVec 32, Scalar.addi 0#32 (Scalar.subi y 0#32) = y := fun y => by simp [Scalar.addi, Scalar.subi, IntOp.addi, IntOp.subi]
  rw [e2, ← hadd]
  exact floordiv_toInt _ _ rfl

theorem trips_eq (v1 : BitVec 32) (h : v1.toInt ≤ 16384) : (k0_t1_loop v1).trips = ((v1.toInt + 4095) / 4096).toNat := by
  unfold Scf.Loop.trips Scf.trips
  rw [loop_ub v1 h]
  have h0 : (k0_t1_loop v1).lb.toInt = 0 := rfl
  have h1 : (k0_t1_loop v1).st.toInt = 1 := rfl
  rw [h0, h1]
  congr 1; omega

theorem trips_le (v1 : BitVec 32) (h : v1.toInt ≤ 16384) : (k0_t1_loop v1).trips ≤ 4 := by
  rw [trips_eq v1 h]; omega

/-- The first page of chunk `k`, a word, is `256 k`. -/
theorem chunk_word (k : ℕ) (hk : k < 4) :
    (Scalar.indexCast (Scalar.muli (Scf.iv 0#32 1#32 k) 256#32)).toNat = 256 * k := by
  rcases (by omega : k = 0 ∨ k = 1 ∨ k = 2 ∨ k = 3) with rfl | rfl | rfl | rfl <;> decide

/-- The remainder loops make no trip. -/
theorem rem_empty (v1 : BitVec 32) (k : Fin (k0_t2_loop v1).trips) : False := Scf.rem_no_trip _ _ k
theorem rem_empty' (v1 : BitVec 32) (k : Fin (k0_t4_loop v1).trips) : False := Scf.rem_no_trip _ _ k

theorem trips_three (v1 : BitVec 32) : (k0_t3_loop v1).trips = (k0_t1_loop v1).trips := rfl

/-- Inside a two-dimensional window: rows and columns. -/
theorem inside {n0 n1 S0 s0 : ℕ} (h0 : n0 + s0 ≤ S0) (h1 : n1 + 256 ≤ 1024) :
    ∀ a : Fin 2, (![n0, n1] : Fin 2 → ℕ) a + (![s0, 256] : Fin 2 → ℕ) a ≤ (![S0, 1024] : Fin 2 → ℕ) a :=
  Fin.forall_fin_two.mpr ⟨h0, h1⟩

section
variable (v1 : BitVec 32) (h : v1.toInt ≤ 16384)
include h

theorem page1 (k : Fin (k0_t1_loop v1).trips) : (Scalar.indexCast (Scalar.muli (Scf.iv 0#32 1#32 k.val) 256#32)).toNat + 256 ≤ 1024 := by
  have hk : k.val < 4 := lt_of_lt_of_le k.isLt (trips_le v1 h)
  rw [chunk_word k.val hk]; omega

theorem dvd1 (k : Fin (k0_t1_loop v1).trips) : 256 ∣ (k0_mult1 v1 k).toNat :=
  ⟨k.val, chunk_word k.val (lt_of_lt_of_le k.isLt (trips_le v1 h))⟩

theorem ok1 : (k0_t1_loop v1).OK := by
  refine ⟨Int.one_pos, ?_⟩
  have h0 : (k0_t1_loop v1).lb.toInt = 0 := rfl
  have h1 : (k0_t1_loop v1).st.toInt = 1 := rfl
  rw [h0, h1]
  have : Scf.trips (k0_t1_loop v1).lb (k0_t1_loop v1).ub (k0_t1_loop v1).st ≤ 4 := trips_le v1 h
  omega

theorem page3 (k : Fin (k0_t3_loop v1).trips) : (Scalar.indexCast (Scalar.muli (Scf.iv 0#32 1#32 k.val) 256#32)).toNat + 256 ≤ 1024 := by
  have hk : k.val < 4 := lt_of_lt_of_le k.isLt (trips_le v1 h)
  rw [chunk_word k.val hk]; omega

theorem dvd3 (k : Fin (k0_t3_loop v1).trips) : 256 ∣ (k0_mult3 v1 k).toNat :=
  ⟨k.val, chunk_word k.val (lt_of_lt_of_le k.isLt (trips_le v1 h))⟩

theorem ok3 : (k0_t3_loop v1).OK := ok1 v1 h

theorem chk1_0 : k0_chk1_0 v1 := ⟨
  ok1 v1 h,
  dvd1 v1 h,
  fun k => inside (n0 := 0) (s0 := 64) (S0 := 256) (Nat.le_of_ble_eq_true rfl) (page1 v1 h k),
  fun k => inside (n0 := 0) (s0 := 1) (S0 := 32) (Nat.le_of_ble_eq_true rfl) (page1 v1 h k),
  fun k => inside (n0 := 0) (s0 := 16) (S0 := 256) (Nat.le_of_ble_eq_true rfl) (page1 v1 h k),
  fun k => inside (n0 := 1) (s0 := 1) (S0 := 32) (Nat.le_of_ble_eq_true rfl) (page1 v1 h k),
  fun k => inside (n0 := 16) (s0 := 16) (S0 := 256) (Nat.le_of_ble_eq_true rfl) (page1 v1 h k),
  fun k => inside (n0 := 2) (s0 := 1) (S0 := 32) (Nat.le_of_ble_eq_true rfl) (page1 v1 h k),
  fun k => inside (n0 := 32) (s0 := 16) (S0 := 256) (Nat.le_of_ble_eq_true rfl) (page1 v1 h k),
  fun k => inside (n0 := 3) (s0 := 1) (S0 := 32) (Nat.le_of_ble_eq_true rfl) (page1 v1 h k),
  fun k => inside (n0 := 48) (s0 := 16) (S0 := 256) (Nat.le_of_ble_eq_true rfl) (page1 v1 h k),
  fun k => inside (n0 := 64) (s0 := 64) (S0 := 256) (Nat.le_of_ble_eq_true rfl) (page1 v1 h k),
  fun k => inside (n0 := 4) (s0 := 1) (S0 := 32) (Nat.le_of_ble_eq_true rfl) (page1 v1 h k),
  fun k => inside (n0 := 64) (s0 := 16) (S0 := 256) (Nat.le_of_ble_eq_true rfl) (page1 v1 h k),
  fun k => inside (n0 := 5) (s0 := 1) (S0 := 32) (Nat.le_of_ble_eq_true rfl) (page1 v1 h k),
  fun k => inside (n0 := 80) (s0 := 16) (S0 := 256) (Nat.le_of_ble_eq_true rfl) (page1 v1 h k),
  fun k => inside (n0 := 6) (s0 := 1) (S0 := 32) (Nat.le_of_ble_eq_true rfl) (page1 v1 h k),
  fun k => inside (n0 := 96) (s0 := 16) (S0 := 256) (Nat.le_of_ble_eq_true rfl) (page1 v1 h k),
  fun k => inside (n0 := 7) (s0 := 1) (S0 := 32) (Nat.le_of_ble_eq_true rfl) (page1 v1 h k),
  fun k => inside (n0 := 112) (s0 := 16) (S0 := 256) (Nat.le_of_ble_eq_true rfl) (page1 v1 h k),
  fun k => inside (n0 := 128) (s0 := 64) (S0 := 256) (Nat.le_of_ble_eq_true rfl) (page1 v1 h k),
  fun k => inside (n0 := 8) (s0 := 1) (S0 := 32) (Nat.le_of_ble_eq_true rfl) (page1 v1 h k),
  fun k => inside (n0 := 128) (s0 := 16) (S0 := 256) (Nat.le_of_ble_eq_true rfl) (page1 v1 h k),
  fun k => inside (n0 := 9) (s0 := 1) (S0 := 32) (Nat.le_of_ble_eq_true rfl) (page1 v1 h k),
  fun k => inside (n0 := 144) (s0 := 16) (S0 := 256) (Nat.le_of_ble_eq_true rfl) (page1 v1 h k),
  fun k => inside (n0 := 10) (s0 := 1) (S0 := 32) (Nat.le_of_ble_eq_true rfl) (page1 v1 h k),
  fun k => inside (n0 := 160) (s0 := 16) (S0 := 256) (Nat.le_of_ble_eq_true rfl) (page1 v1 h k),
  fun k => inside (n0 := 11) (s0 := 1) (S0 := 32) (Nat.le_of_ble_eq_true rfl) (page1 v1 h k),
  fun k => inside (n0 := 176) (s0 := 16) (S0 := 256) (Nat.le_of_ble_eq_true rfl) (page1 v1 h k),
  fun k => inside (n0 := 192) (s0 := 64) (S0 := 256) (Nat.le_of_ble_eq_true rfl) (page1 v1 h k),
  fun k => inside (n0 := 12) (s0 := 1) (S0 := 32) (Nat.le_of_ble_eq_true rfl) (page1 v1 h k),
  fun k => inside (n0 := 192) (s0 := 16) (S0 := 256) (Nat.le_of_ble_eq_true rfl) (page1 v1 h k)⟩

theorem chk1_1 : k0_chk1_1 v1 := ⟨
  fun k => inside (n0 := 13) (s0 := 1) (S0 := 32) (Nat.le_of_ble_eq_true rfl) (page1 v1 h k),
  fun k => inside (n0 := 208) (s0 := 16) (S0 := 256) (Nat.le_of_ble_eq_true rfl) (page1 v1 h k),
  fun k => inside (n0 := 14) (s0 := 1) (S0 := 32) (Nat.le_of_ble_eq_true rfl) (page1 v1 h k),
  fun k => inside (n0 := 224) (s0 := 16) (S0 := 256) (Nat.le_of_ble_eq_true rfl) (page1 v1 h k),
  fun k => inside (n0 := 15) (s0 := 1) (S0 := 32) (Nat.le_of_ble_eq_true rfl) (page1 v1 h k),
  fun k => inside (n0 := 240) (s0 := 16) (S0 := 256) (Nat.le_of_ble_eq_true rfl) (page1 v1 h k),
  Scf.rem_ok _ _,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim⟩

theorem chk1_2 : k0_chk1_2 v1 := ⟨
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  fun k => (rem_empty v1 k).elim,
  ok3 v1 h,
  dvd3 v1 h,
  fun k => inside (n0 := 0) (s0 := 16) (S0 := 256) (Nat.le_of_ble_eq_true rfl) (page3 v1 h k),
  fun k => inside (n0 := 16) (s0 := 1) (S0 := 32) (Nat.le_of_ble_eq_true rfl) (page3 v1 h k),
  fun k => inside (n0 := 16) (s0 := 16) (S0 := 256) (Nat.le_of_ble_eq_true rfl) (page3 v1 h k),
  fun k => inside (n0 := 17) (s0 := 1) (S0 := 32) (Nat.le_of_ble_eq_true rfl) (page3 v1 h k),
  fun k => inside (n0 := 32) (s0 := 16) (S0 := 256) (Nat.le_of_ble_eq_true rfl) (page3 v1 h k),
  fun k => inside (n0 := 18) (s0 := 1) (S0 := 32) (Nat.le_of_ble_eq_true rfl) (page3 v1 h k),
  fun k => inside (n0 := 48) (s0 := 16) (S0 := 256) (Nat.le_of_ble_eq_true rfl) (page3 v1 h k),
  fun k => inside (n0 := 19) (s0 := 1) (S0 := 32) (Nat.le_of_ble_eq_true rfl) (page3 v1 h k),
  fun k => inside (n0 := 0) (s0 := 64) (S0 := 256) (Nat.le_of_ble_eq_true rfl) (page3 v1 h k),
  fun k => inside (n0 := 64) (s0 := 16) (S0 := 256) (Nat.le_of_ble_eq_true rfl) (page3 v1 h k),
  fun k => inside (n0 := 20) (s0 := 1) (S0 := 32) (Nat.le_of_ble_eq_true rfl) (page3 v1 h k),
  fun k => inside (n0 := 80) (s0 := 16) (S0 := 256) (Nat.le_of_ble_eq_true rfl) (page3 v1 h k),
  fun k => inside (n0 := 21) (s0 := 1) (S0 := 32) (Nat.le_of_ble_eq_true rfl) (page3 v1 h k),
  fun k => inside (n0 := 96) (s0 := 16) (S0 := 256) (Nat.le_of_ble_eq_true rfl) (page3 v1 h k),
  fun k => inside (n0 := 22) (s0 := 1) (S0 := 32) (Nat.le_of_ble_eq_true rfl) (page3 v1 h k),
  fun k => inside (n0 := 112) (s0 := 16) (S0 := 256) (Nat.le_of_ble_eq_true rfl) (page3 v1 h k),
  fun k => inside (n0 := 23) (s0 := 1) (S0 := 32) (Nat.le_of_ble_eq_true rfl) (page3 v1 h k),
  fun k => inside (n0 := 64) (s0 := 64) (S0 := 256) (Nat.le_of_ble_eq_true rfl) (page3 v1 h k)⟩

theorem chk1_3 : k0_chk1_3 v1 := ⟨
  fun k => inside (n0 := 128) (s0 := 16) (S0 := 256) (Nat.le_of_ble_eq_true rfl) (page3 v1 h k),
  fun k => inside (n0 := 24) (s0 := 1) (S0 := 32) (Nat.le_of_ble_eq_true rfl) (page3 v1 h k),
  fun k => inside (n0 := 144) (s0 := 16) (S0 := 256) (Nat.le_of_ble_eq_true rfl) (page3 v1 h k),
  fun k => inside (n0 := 25) (s0 := 1) (S0 := 32) (Nat.le_of_ble_eq_true rfl) (page3 v1 h k),
  fun k => inside (n0 := 160) (s0 := 16) (S0 := 256) (Nat.le_of_ble_eq_true rfl) (page3 v1 h k),
  fun k => inside (n0 := 26) (s0 := 1) (S0 := 32) (Nat.le_of_ble_eq_true rfl) (page3 v1 h k),
  fun k => inside (n0 := 176) (s0 := 16) (S0 := 256) (Nat.le_of_ble_eq_true rfl) (page3 v1 h k),
  fun k => inside (n0 := 27) (s0 := 1) (S0 := 32) (Nat.le_of_ble_eq_true rfl) (page3 v1 h k),
  fun k => inside (n0 := 128) (s0 := 64) (S0 := 256) (Nat.le_of_ble_eq_true rfl) (page3 v1 h k),
  fun k => inside (n0 := 192) (s0 := 16) (S0 := 256) (Nat.le_of_ble_eq_true rfl) (page3 v1 h k),
  fun k => inside (n0 := 28) (s0 := 1) (S0 := 32) (Nat.le_of_ble_eq_true rfl) (page3 v1 h k),
  fun k => inside (n0 := 208) (s0 := 16) (S0 := 256) (Nat.le_of_ble_eq_true rfl) (page3 v1 h k),
  fun k => inside (n0 := 29) (s0 := 1) (S0 := 32) (Nat.le_of_ble_eq_true rfl) (page3 v1 h k),
  fun k => inside (n0 := 224) (s0 := 16) (S0 := 256) (Nat.le_of_ble_eq_true rfl) (page3 v1 h k),
  fun k => inside (n0 := 30) (s0 := 1) (S0 := 32) (Nat.le_of_ble_eq_true rfl) (page3 v1 h k),
  fun k => inside (n0 := 240) (s0 := 16) (S0 := 256) (Nat.le_of_ble_eq_true rfl) (page3 v1 h k),
  fun k => inside (n0 := 31) (s0 := 1) (S0 := 32) (Nat.le_of_ble_eq_true rfl) (page3 v1 h k),
  fun k => inside (n0 := 192) (s0 := 64) (S0 := 256) (Nat.le_of_ble_eq_true rfl) (page3 v1 h k),
  Scf.rem_ok _ _,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim⟩

theorem chk1_4 : k0_chk1_4 v1 := ⟨
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim,
  fun k => (rem_empty' v1 k).elim⟩

/-- Every length of at most 16384 tokens keeps the chunks inside the windows. -/
theorem chk1 : k0_chk1 v1 := ⟨chk1_0 v1 h, chk1_1 v1 h, chk1_2 v1 h, chk1_3 v1 h, chk1_4 v1 h⟩

end

end Cert.KernelIdeal.Attend
-- ==== Proof.KernelIdeal.RunA.lean ====
/- One run of the attention body on whole memrefs. -/
module

public import proofs.«01_k».proof.Proof.KernelIdeal.Runs
public import proofs.«01_k».proof.Proof.KernelIdeal.Chunks
public import proofs.«01_k».proof.Proof.Gen.KernelIdeal.Loops

@[expose] public section

-- membership in a rectangle of production extents (`View.cover_of_tiled`): the elaborator's structural look
-- recurses once per coordinate of the long axes
set_option maxRecDepth 16384

noncomputable section

namespace Cert.KernelIdeal.Attend

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x16x64 .bf16) (harg2 : arg2.IsWhole) (arg3 : Memref sig .tc .vmem S1x1x64 .bf16) (harg3 : arg3.IsWhole) (arg4 : Memref sig .tc .vmem S1x1x64 .bf16) (harg4 : arg4.IsWhole) (arg5 : Memref sig .tc .vmem S256x1024 .i32) (harg5 : arg5.IsWhole) (arg6 : Memref sig .tc .vmem S256x1024 .i32) (harg6 : arg6.IsWhole) (arg7 : Memref sig .tc .vmem S32x1024 .i32) (harg7 : arg7.IsWhole) (arg8 : Memref sig .tc .vmem S1x16x64 .bf16) (harg8 : arg8.IsWhole) (arg9 : Memref sig .tc .vmem S1x1x64 .i8) (harg9 : arg9.IsWhole) (arg10 : Memref sig .tc .vmem S1x1x128 .f32) (harg10 : arg10.IsWhole) (arg11 : Memref sig .tc .vmem S1x1x64 .i8) (harg11 : arg11.IsWhole) (arg12 : Memref sig .tc .vmem S1x1x128 .f32) (harg12 : arg12.IsWhole) (arg13 : Memref sig .tc .vmem S256x1024 .f32) (harg13 : arg13.IsWhole)
    (x0 : Vec F S1x16x64 .bf16) (x1 : Vec F S1x1x64 .bf16) (x2 : Vec F S1x1x64 .bf16) (x3 : Vec F S256x1024 .i32) (x4 : Vec F S256x1024 .i32) (x5 : Vec F S32x1024 .i32) (xt0 : TbBuf0 (F := F) c tbM0_0) (hL : ∀ y : S32.Idx, (xt0 y : BitVec 32).toInt ≤ 16384) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := F)) Variants.none c none) E (cc0_attend i tbM0_0 htbM0_0 arg2 harg2 arg3 harg3 arg4 harg4 arg5 harg5 arg6 harg6 arg7 harg7 arg8 harg8 arg9 harg9 arg10 harg10 arg11 harg11 arg12 harg12 arg13 harg13) K := by
    intro E K
    simp only [cc0_attend_eq_skeleton]; unfold cc0_attend_skel
    simp only [k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := exact chk1 _ (hL _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    iexact HT0

end Cert.KernelIdeal.Attend

end
-- ==== Proof.KernelIdeal.Frame.lean ====
/- The attention call's run and its frame. -/
module

public import proofs.«01_k».proof.Proof.KernelIdeal.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Attend

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8, 9, 10): nothing reads what the kernel leaves in them, so nothing
    of it is named (Lib/Pipeline/Dat.lean `Dat.toRForget`). -/
def forgets0 : Fin 11 → Bool := fun w => w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hL : Lens m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hL : Lens m) (c : Dev nD) (w : Fin (cfgM m hO).W) : (dats m hO hL 0 c).A w = V m c (Pipeline.arrRef spec0 w) := by
  dsimp only [dats]

/-- What the body leaves, window by window (the proof data's `match` reduced by `dsimp`). -/
theorem after0_0 (hO : Ok m) (hL : Lens m) (c : Dev nD) (t : Fin (cfgM m hO).N) : (dats m hO hL 0 c).after 0 t = iblk m hO c 0 t := by dsimp only [dats]; try rfl
theorem after0_1 (hO : Ok m) (hL : Lens m) (c : Dev nD) (t : Fin (cfgM m hO).N) : (dats m hO hL 0 c).after 1 t = iblk m hO c 1 t := by dsimp only [dats]; try rfl
theorem after0_2 (hO : Ok m) (hL : Lens m) (c : Dev nD) (t : Fin (cfgM m hO).N) : (dats m hO hL 0 c).after 2 t = iblk m hO c 2 t := by dsimp only [dats]; try rfl
theorem after0_3 (hO : Ok m) (hL : Lens m) (c : Dev nD) (t : Fin (cfgM m hO).N) : (dats m hO hL 0 c).after 3 t = iblk m hO c 3 t := by dsimp only [dats]; try rfl
theorem after0_4 (hO : Ok m) (hL : Lens m) (c : Dev nD) (t : Fin (cfgM m hO).N) : (dats m hO hL 0 c).after 4 t = iblk m hO c 4 t := by dsimp only [dats]; try rfl
theorem after0_5 (hO : Ok m) (hL : Lens m) (c : Dev nD) (t : Fin (cfgM m hO).N) : (dats m hO hL 0 c).after 5 t = iblk m hO c 5 t := by dsimp only [dats]; try rfl

/-- Each input's current staging buffer holds its block at every point, fetched there or not (`beforeK_W_of`). -/
theorem before0_0 (hO : Ok m) (hL : Lens m) (c : Dev nD) (t : Fin (cfgM m hO).N) (d) : (dats m hO hL 0 c).before 0 t d = iblk m hO c 0 t :=
  before0_0_of m hO (dats m hO hL 0 c) (A_eq m hO hL c 0) (after0_0 m hO hL c) t d
theorem before0_1 (hO : Ok m) (hL : Lens m) (c : Dev nD) (t : Fin (cfgM m hO).N) (d) : (dats m hO hL 0 c).before 1 t d = iblk m hO c 1 t :=
  before0_1_of m hO (dats m hO hL 0 c) (A_eq m hO hL c 1) (after0_1 m hO hL c) t d
theorem before0_2 (hO : Ok m) (hL : Lens m) (c : Dev nD) (t : Fin (cfgM m hO).N) (d) : (dats m hO hL 0 c).before 2 t d = iblk m hO c 2 t :=
  before0_2_of m hO (dats m hO hL 0 c) (A_eq m hO hL c 2) (after0_2 m hO hL c) t d
theorem before0_3 (hO : Ok m) (hL : Lens m) (c : Dev nD) (t : Fin (cfgM m hO).N) (d) : (dats m hO hL 0 c).before 3 t d = iblk m hO c 3 t :=
  before0_3_of m hO (dats m hO hL 0 c) (A_eq m hO hL c 3) (after0_3 m hO hL c) t d
theorem before0_4 (hO : Ok m) (hL : Lens m) (c : Dev nD) (t : Fin (cfgM m hO).N) (d) : (dats m hO hL 0 c).before 4 t d = iblk m hO c 4 t :=
  before0_4_of m hO (dats m hO hL 0 c) (A_eq m hO hL c 4) (after0_4 m hO hL c) t d
theorem before0_5 (hO : Ok m) (hL : Lens m) (c : Dev nD) (t : Fin (cfgM m hO).N) (d) : (dats m hO hL 0 c).before 5 t d = iblk m hO c 5 t :=
  before0_5_of m hO (dats m hO hL 0 c) (A_eq m hO hL c 5) (after0_5 m hO hL c) t d

/-! ## The body obligation, at a generic point -/

/-- What the body is called with at point `t` (Lib/Pipeline.lean `BodyObligation`'s precondition, the windows one by one), -/
def bodyPre (hO : Ok m) (hL : Lens m) (c : Dev nD) (t : Fin (cfgM m hO).N) : sProp 𝕄 :=
  iprop((dats m hO hL 0 c).Φ t.castSucc ∗ (dats m hO hL 0 c).owesAt () t.castSucc
    ∗ (∃ d, owns (c : Thread nD τ) (ms0_0 m hO t) fullShare ((dats m hO hL 0 c).before 0 t d))
    ∗ (∃ d, owns (c : Thread nD τ) (ms0_1 m hO t) fullShare ((dats m hO hL 0 c).before 1 t d))
    ∗ (∃ d, owns (c : Thread nD τ) (ms0_2 m hO t) fullShare ((dats m hO hL 0 c).before 2 t d))
    ∗ (∃ d, owns (c : Thread nD τ) (ms0_3 m hO t) fullShare ((dats m hO hL 0 c).before 3 t d))
    ∗ (∃ d, owns (c : Thread nD τ) (ms0_4 m hO t) fullShare ((dats m hO hL 0 c).before 4 t d))
    ∗ (∃ d, owns (c : Thread nD τ) (ms0_5 m hO t) fullShare ((dats m hO hL 0 c).before 5 t d))
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

/-- and what it returns. -/
def bodyPost (hO : Ok m) (hL : Lens m) (c : Dev nD) (t : Fin (cfgM m hO).N) : sProp 𝕄 :=
  iprop((dats m hO hL 0 c).Φ t.succ ∗ (dats m hO hL 0 c).owesAt () t.succ
    ∗ owns (c : Thread nD τ) (ms0_0 m hO t) fullShare ((dats m hO hL 0 c).after 0 t)
    ∗ owns (c : Thread nD τ) (ms0_1 m hO t) fullShare ((dats m hO hL 0 c).after 1 t)
    ∗ owns (c : Thread nD τ) (ms0_2 m hO t) fullShare ((dats m hO hL 0 c).after 2 t)
    ∗ owns (c : Thread nD τ) (ms0_3 m hO t) fullShare ((dats m hO hL 0 c).after 3 t)
    ∗ owns (c : Thread nD τ) (ms0_4 m hO t) fullShare ((dats m hO hL 0 c).after 4 t)
    ∗ owns (c : Thread nD τ) (ms0_5 m hO t) fullShare ((dats m hO hL 0 c).after 5 t)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hL : Lens m) (c : Dev nD) (t : Fin (cfgM m hO).N) :
    bodyPre m hO hL c t ⊢ wp frame (wpE (defs₀ (F := F)) Variants.none c none) Set.univ (bodyAt0 (adm m hO) t) (fun _ => bodyPost m hO hL c t) := by
  unfold bodyPre bodyPost bodyAt0
  simp only [before0_0, before0_1, before0_2, before0_3, before0_4, before0_5]
  rw [show (dats m hO hL 0 c).Φ t.succ = (dats m hO hL 0 c).Φ t.castSucc from rfl,
    show (dats m hO hL 0 c).owesAt () t.succ = (dats m hO hL 0 c).owesAt () t.castSucc from rfl,
    after0_0, after0_1, after0_2, after0_3, after0_4, after0_5]
  rw [show (dats m hO hL 0 c).Φ t.castSucc = iprop(Pipeline.ΦA spec0 c ∗ Pipeline.ΦT pre0 (tbl m) c) from rfl, PhiT0_eq, PhiA0_eq]
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) hL) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HT0]; · iexact HT0
  iintro ⟨H0, H1, H2, H3, H4, H5, H6, H7, H8, H9, H10, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (hO : Ok m) (hL : Lens m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hL : Lens m) (c : Dev nD) : BodyObligation (dats (F := F) m hO hL 0 c) (defs₀ (F := F)) Variants.none () Set.univ forgets0 := fun t => by
  rw [bigSep_W0, bigSep_W0, defs₀_row m hO hL]
  exact triple_restated (sound_body m hO hL c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hL : Lens m) : θ_run defs (onTc (τ := τ) (main (F := F))) (s₀ m ρ) (fun r => (Pipeline.RDat.FramePost ((Pipeline.pin pcfgs fun _ => adm m hO) 0) (fun c => (dats m hO hL 0 c).toRForget forgets0) (V m)) r ∧ r.2.sem = fun _ => 0) :=
  Pipeline.θ_run_frameP_forget (Q' := _) pcfgs (fun _ => adm m hO) (dats m hO hL) (0 : Fin 1) launch0 defs₀ Variants.none forgets0 m ρ main
    (hbody := fun c => (body_obligation m hO hL c).loose) (hshare := fun c => (dats m hO hL 0 c).share_full fun _ => rfl)
    (howed := fun _ _ => rfl) (V := V m) (hmain := hmain m Variants.none) (hA := A_eq m hO hL) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10) (Lib/Pipeline/Frame.lean `RDat.FramePost` over the proof data with those windows
    forgotten, Dat.lean `Dat.toRForget`), and every other unscoped buffer at its region-entry contents. -/
theorem run_main (hO : Ok m) (hL : Lens m) : θ_run defs (onTc (τ := τ) (main (F := F))) (s₀ m ρ) (Pipeline.RDat.FramePost ((Pipeline.pin pcfgs fun _ => adm m hO) 0) (fun c => (dats m hO hL 0 c).toRForget forgets0) (V m)) :=
  (θ_run defs _ _).mono (fun _ h => h.1) (run_main_quiescent m ρ hO hL)

/-- `frame` without the counters: the argument arrays end unchanged. -/
theorem unchanged (hO : Ok m) (hL : Lens m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (fun c => (dats m hO hL 0 c).toRForget forgets0) (A_eq m hO hL) (run_main m ρ hO hL)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) (hL : Lens m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hL) ((θ_run defs _ _).mono (fun _ h => h.2) (run_main_quiescent m ρ hO hL))

end Cert.KernelIdeal.Attend

end
-- ==== Proof.Bytes.lean ====
/- The signed bytes of a 32-bit word: read by a bitcast to 8-bit rows, and by a shift up and an arithmetic shift down. -/
module

public import Idealize.ShloMosaic.Lib.Pointwise
public import Idealize.ShloMosaic.Lib.BitcastFour

@[expose] public section

noncomputable section

namespace Cert.Attn

open Idealize.ShloMosaic Idealize.ShloMosaic.Pointwise

/-- Byte `r` of a word, the lowest first. -/
def byte (w : BitVec 32) (r : Fin 4) : BitVec 8 := w.extractLsb' (8 * r.val) 8

/-- The signed value of byte `r` of a word. -/
def code (w : BitVec 32) (r : Fin 4) : EReal := (((byte w r).toInt : ℝ) : EReal)

/-- A block of words read as four times as many rows of bytes. -/
theorem bitcast_byte {R : ℕ} {n : ℕ} (x : (⟨2, ![R, n]⟩ : Shape).Idx → BitVec 32)
    (h : (⟨2, ![R, n]⟩ : Shape).Bitcasts 32 ⟨2, ![4 * R, n]⟩ 8) (e : Fin (4 * R)) (j : Fin n) :
    bitcast ⟨2, ![4 * R, n]⟩ 8 x h (ix2 e j) = byte (x (ix2 ⟨e.val / 4, by omega⟩ j)) ⟨e.val % 4, by omega⟩ := by
  apply BitVec.eq_of_getLsbD_eq
  intro q hq
  rw [bitcast_getLsbD x h _ q hq (by decide)]
  have ep : (e.val * 8 + q) / 32 = e.val / 4 := by omega
  have eq : (e.val * 8 + q) % 32 = 8 * (e.val % 4) + q := by omega
  have hx : h.srcIdx (ix2 e j) ((e.val * 8 + q) / 32) (fun a ha => (Nat.div_lt_iff_lt_mul (by decide)).2 (h.pos_lt (ix2 e j) q hq a ha))
      = ix2 ⟨e.val / 4, by omega⟩ j := by
    funext c
    match c with
    | ⟨0, _⟩ => exact Fin.ext ep
    | ⟨1, _⟩ => rfl
  show (x (h.srcIdx (ix2 e j) ((e.val * 8 + q) / 32) _)).getLsbD ((e.val * 8 + q) % 32) = _
  rw [hx, eq]
  simp only [byte, BitVec.getLsbD_extractLsb', hq, decide_true, Bool.true_and]

/-- A word shifted up until byte `r` is highest, then arithmetically down: byte `r` with its sign. -/
theorem shifts_byte (w : BitVec 32) (r : Fin 4) :
    ((w <<< (24 - 8 * r.val)).sshiftRight 24).toInt = (byte w r).toInt := by
  have h : (w <<< (24 - 8 * r.val)).sshiftRight 24 = (byte w r).signExtend 32 := by
    apply BitVec.eq_of_getLsbD_eq
    intro i hi
    have hr := r.isLt
    rw [BitVec.getLsbD_sshiftRight, BitVec.getLsbD_signExtend]
    simp only [byte, BitVec.getLsbD_extractLsb', BitVec.msb_eq_getLsbD_last, BitVec.getLsbD_shiftLeft]
    have h1 : ¬ (32 ≤ i) := by omega
    by_cases h8 : i < 8
    · have e1 : 24 + i < 32 := by omega
      have e2 : ¬ (24 + i < 24 - 8 * r.val) := by omega
      have e3 : 24 + i - (24 - 8 * r.val) = 8 * r.val + i := by omega
      simp [h1, h8, e1, e2, e3, hi]
    · have e1 : ¬ (24 + i < 32) := by omega
      have e3 : 31 - (24 - 8 * r.val) = 8 * r.val + 7 := by omega
      simp [h1, h8, e1, e3, hi]
      omega
  rw [h, BitVec.toInt_signExtend_of_le (by decide)]

end Cert.Attn

end
-- ==== Proof.Attention.lean ====
/- Attention of one query row over a sequence's tokens and its new token, over the extended reals: the quantiser, the
   scores, the normalised sum, and the same sum divided once at its end. -/
module

public import proofs.«01_k».proof.Proof.Bytes

@[expose] public section

noncomputable section

namespace Cert.Attn

open Idealize.ShloMosaic

/-- The greatest magnitude of a row. -/
def amax (x : Fin 64 → EReal) : EReal := Finset.univ.sup fun d => max (x d) (-(x d))

/-- The scale of a row: its greatest magnitude over 127, or one. -/
def scale (x : Fin 64 → EReal) : EReal :=
  if 0 < amax x then Ideal.div (amax x) (Ideal.ofBits .f32 0x42FE0000#32) else 1

/-- The codes of a row, before they are made integers. -/
def quant (x : Fin 64 → EReal) (d : Fin 64) : EReal :=
  min (Ideal.ofBits .f32 0x42FE0000#32) (max (Ideal.ofBits .f32 0xC2FE0000#32)
    (Ideal.liftRound Ideal.roundHalfEven (Ideal.div (x d) (scale x))))

/-- The code of feature `d` of token `t` in the packed words of a sequence. -/
def tokCode (w : Fin 256 → Fin 1024 → BitVec 32) (t : Fin 16384) (d : Fin 64) : EReal :=
  code (w ⟨16 * (t.val % 16) + d.val / 4, by omega⟩ ⟨t.val / 16, by omega⟩) ⟨d.val % 4, by omega⟩

/-- The scale of token `t` in the scale words of a sequence. -/
def tokScale (w : Fin 16 → Fin 1024 → BitVec 32) (t : Fin 16384) : EReal :=
  Ideal.ofBits .f32 (w ⟨t.val % 16, by omega⟩ ⟨t.val / 16, by omega⟩)

/-- Whether token `t` is below the length `n`. -/
def Live (n : BitVec 32) (t : Fin 16384) : Prop := IntOp.cmpi .slt (BitVec.ofNat 32 t.val) n = 1#1

instance (n : BitVec 32) (t : Fin 16384) : Decidable (Live n t) := by unfold Live; infer_instance

/-- The score of token `t`: the scaled product below the length, minus infinity past it. -/
def score (n : BitVec 32) (q : Fin 64 → EReal) (kw : Fin 256 → Fin 1024 → BitVec 32) (ks : Fin 16 → Fin 1024 → BitVec 32)
    (t : Fin 16384) : EReal :=
  if Live n t then (∑ d, q d * tokCode kw t d) * tokScale ks t * Ideal.ofBits .f32 0x3E000000#32 else ⊥

/-- The score of the new token. -/
def newScore (q : Fin 64 → EReal) (x : Fin 64 → EReal) : EReal :=
  (∑ d, q d * quant x d) * scale x * Ideal.ofBits .f32 0x3E000000#32

/-- The packed words of sequence `b`. -/
def seqWords (x : (⟨2, ![256, 32768]⟩ : Shape).Idx → BitVec 32) (b : Fin 32) (a : Fin 256) (p : Fin 1024) : BitVec 32 :=
  x (ix2 a ⟨b.val * 1024 + p.val, by omega⟩)

/-- The words of the key scales of sequence `b`. -/
def seqKeyScales (x : (⟨2, ![32, 32768]⟩ : Shape).Idx → BitVec 32) (b : Fin 32) (a : Fin 16) (p : Fin 1024) : BitVec 32 :=
  x (ix2 ⟨a.val, by omega⟩ ⟨b.val * 1024 + p.val, by omega⟩)

/-- The words of the value scales of sequence `b`. -/
def seqValScales (x : (⟨2, ![32, 32768]⟩ : Shape).Idx → BitVec 32) (b : Fin 32) (a : Fin 16) (p : Fin 1024) : BitVec 32 :=
  x (ix2 ⟨16 + a.val, by omega⟩ ⟨b.val * 1024 + p.val, by omega⟩)

/-- The greatest score. -/
def top (S : Fin 16384 → EReal) (s : EReal) : EReal := max (Finset.univ.sup S) s

/-- The sum of the unnormalised weights. -/
def total (S : Fin 16384 → EReal) (s : EReal) : EReal := ∑ t, Ideal.exp (S t - top S s) + Ideal.exp (s - top S s)

/-- The weighted sum of values, each weight normalised before it is used. -/
def attend (S : Fin 16384 → EReal) (s : EReal) (vs V : Fin 16384 → EReal) (vn vc : EReal) : EReal :=
  ∑ t, Ideal.div (Ideal.exp (S t - top S s)) (total S s) * vs t * V t
    + Ideal.div (Ideal.exp (s - top S s)) (total S s) * vn * vc

/-- Entry `(b, h, d)` of the attention result, from the problem's arrays. -/
def result (len : (⟨1, ![32]⟩ : Shape).Idx → BitVec 32) (q : (⟨3, ![32, 16, 64]⟩ : Shape).Idx → EReal)
    (kn vn : (⟨3, ![32, 1, 64]⟩ : Shape).Idx → EReal) (kw vw : (⟨2, ![256, 32768]⟩ : Shape).Idx → BitVec 32)
    (sw : (⟨2, ![32, 32768]⟩ : Shape).Idx → BitVec 32) (b : Fin 32) (h : Fin 16) (d : Fin 64) : EReal :=
  attend (score (len (ix1 b)) (fun e => q (ix3 b h e)) (seqWords kw b) (seqKeyScales sw b))
    (newScore (fun e => q (ix3 b h e)) fun e => kn (ix3 b (0 : Fin 1) e))
    (tokScale (seqValScales sw b)) (fun t => tokCode (seqWords vw b) t d)
    (scale fun e => vn (ix3 b (0 : Fin 1) e)) (quant (fun e => vn (ix3 b (0 : Fin 1) e)) d)

theorem top_le_iff (S : Fin 16384 → EReal) (s c : EReal) : top S s ≤ c ↔ (∀ t, S t ≤ c) ∧ s ≤ c := by
  unfold top
  rw [max_le_iff, Finset.sup_le_iff]
  simp

theorem top_ne_top {S : Fin 16384 → EReal} {s : EReal} (hS : ∀ t, S t ≠ ⊤) (hs : s ≠ ⊤) : top S s ≠ ⊤ := by
  unfold top
  refine ne_of_lt (max_lt ?_ (lt_top_iff_ne_top.2 hs))
  exact (Finset.sup_lt_iff bot_lt_top).2 fun t _ => lt_top_iff_ne_top.2 (hS t)

theorem top_ne_bot {S : Fin 16384 → EReal} {s : EReal} (hs : s ≠ ⊥) : top S s ≠ ⊥ := by
  unfold top
  exact ne_of_gt (lt_of_lt_of_le (bot_lt_iff_ne_bot.2 hs) (le_max_right _ _))

theorem exp_nonneg (x : EReal) : 0 ≤ Ideal.exp x := by
  induction x using EReal.rec with
  | bot => simp
  | top => simp
  | coe r => simpa using EReal.coe_nonneg.2 (Real.exp_pos r).le

theorem exp_ne_top {x : EReal} (h : x ≠ ⊤) : Ideal.exp x ≠ ⊤ := by
  induction x using EReal.rec with
  | bot => simp
  | top => exact absurd rfl h
  | coe r => simp

theorem exp_pos {x : EReal} (h : x ≠ ⊥) : 0 < Ideal.exp x := by
  induction x using EReal.rec with
  | bot => exact absurd rfl h
  | top => simp
  | coe r => simpa using EReal.coe_pos.2 (Real.exp_pos r)

theorem sub_ne_top {x y : EReal} (hx : x ≠ ⊤) (hy : y ≠ ⊥) : x - y ≠ ⊤ := by
  induction x using EReal.rec <;> induction y using EReal.rec <;> simp_all
  · exact EReal.coe_ne_top _

theorem sub_ne_bot {x y : EReal} (hx : x ≠ ⊥) (hy : y ≠ ⊤) : x - y ≠ ⊥ := by
  induction x using EReal.rec <;> induction y using EReal.rec <;> simp_all
  · exact EReal.coe_ne_bot _

theorem sum_ne_top {ι : Type} (s : Finset ι) (f : ι → EReal) (h : ∀ i, f i ≠ ⊤) : ∑ i ∈ s, f i ≠ ⊤ := by
  classical
  induction s using Finset.induction_on with
  | empty => simp
  | insert a s ha ih => rw [Finset.sum_insert ha]; exact EReal.add_ne_top (h a) ih

theorem sum_ne_bot {ι : Type} (s : Finset ι) (f : ι → EReal) (h : ∀ i, f i ≠ ⊥) : ∑ i ∈ s, f i ≠ ⊥ := by
  classical
  induction s using Finset.induction_on with
  | empty => simp
  | insert a s ha ih =>
    rw [Finset.sum_insert ha]
    intro e
    rcases EReal.add_eq_bot_iff.1 e with h' | h'
    · exact h a h'
    · exact ih h'

theorem sum_mul {ι : Type} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

theorem four (a b c d : EReal) : a * b * c * d = a * c * d * b := by
  rw [mul_right_comm a b c, mul_right_comm (a * c) b d]

section
variable {S : Fin 16384 → EReal} {s : EReal} (hS : ∀ t, S t ≠ ⊤) (h0 : s ≠ ⊥) (h1 : s ≠ ⊤)
include hS h0 h1

theorem total_pos : 0 < total S s := by
  unfold total
  have h : 0 < Ideal.exp (s - top S s) := exp_pos (sub_ne_bot h0 (top_ne_top hS h1))
  exact lt_of_lt_of_le h (le_add_of_nonneg_left (Finset.sum_nonneg fun t _ => exp_nonneg _))

theorem total_ne_top : total S s ≠ ⊤ := by
  unfold total
  exact EReal.add_ne_top (sum_ne_top _ _ fun t => exp_ne_top (sub_ne_top (hS t) (top_ne_bot h0)))
    (exp_ne_top (sub_ne_top h1 (top_ne_bot h0)))

/-- Attention divided once: the weighted sum over the live tokens and the new one, over the sum of the weights. -/
theorem attend_late {live : Fin 16384 → Prop} [DecidablePred live] (hd : ∀ t, ¬ live t → S t = ⊥)
    (vs V : Fin 16384 → EReal) (vn vc : EReal) :
    attend S s vs V vn vc = Ideal.div (Ideal.exp (s - top S s) * vn * vc
      + ∑ t, (if live t then Ideal.exp (S t - top S s) * vs t else 0) * V t) (total S s) := by
  have hp := total_pos hS h0 h1
  have hc0 : 0 ≤ (total S s)⁻¹ := EReal.inv_nonneg_of_nonneg hp.le
  have hc1 : (total S s)⁻¹ ≠ ⊤ := by
    have hb : total S s ≠ ⊥ := ne_of_gt (lt_trans EReal.bot_lt_zero hp)
    lift total S s to ℝ using ⟨total_ne_top hS h0 h1, hb⟩ with r
    rw [← EReal.coe_inv]
    exact EReal.coe_ne_top _
  unfold attend Ideal.div
  simp only [if_neg hp.ne']
  rw [EReal.right_distrib_of_nonneg_of_ne_top hc0 hc1, sum_mul _ _ hc0 hc1, add_comm]
  refine congrArg₂ (· + ·) (four _ _ _ _) ?_
  · refine Finset.sum_congr rfl fun t _ => ?_
    by_cases h : live t
    · rw [if_pos h]; exact four _ _ _ _
    · have e : Ideal.exp (S t - top S s) = 0 := by
        rw [hd t h, EReal.bot_sub]; rfl
      rw [if_neg h, e]; simp
end

/-- Token number of lane `j`, slot `s` of chunk `k`. -/
def tok (k : Fin 4) (s : Fin 16) (j : Fin 256) : Fin 16384 := ⟨16 * (256 * k.val + j.val) + s.val, by omega⟩

/-- The tokens by chunk, slot and lane. -/
def tokEquiv : Fin 4 × Fin 16 × Fin 256 ≃ Fin 16384 where
  toFun x := tok x.1 x.2.1 x.2.2
  invFun t := (⟨t.val / 4096, by omega⟩, ⟨t.val % 16, by omega⟩, ⟨t.val / 16 % 256, by omega⟩)
  left_inv x := by
    obtain ⟨k, s, j⟩ := x
    refine Prod.ext (Fin.ext ?_) (Prod.ext (Fin.ext ?_) (Fin.ext ?_)) <;> simp only [tok] <;> omega
  right_inv t := Fin.ext (by simp only [tok]; omega)

theorem sum_tokens (f : Fin 16384 → EReal) : ∑ k, ∑ s, ∑ j, f (tok k s j) = ∑ t, f t := by
  rw [← tokEquiv.sum_comp f, Fintype.sum_prod_type]
  refine Finset.sum_congr rfl fun k _ => ?_
  rw [Fintype.sum_prod_type]
  rfl

theorem forall_tokens (p : Fin 16384 → Prop) : (∀ t, p t) ↔ ∀ k s j, p (tok k s j) := by
  refine ⟨fun h k s j => h _, fun h t => ?_⟩
  rw [← tokEquiv.apply_symm_apply t]
  exact h _ _ _

end Cert.Attn

end
-- ==== Proof.Finite.lean ====
/- Which scores are real: the new token's always, a live token's where its scale is finite. -/
module

public import proofs.«01_k».proof.Proof.Attention

@[expose] public section

noncomputable section

namespace Cert.Attn

open Idealize.ShloMosaic

/-- A value that is neither infinity. -/
def Fin' (x : EReal) : Prop := x ≠ ⊥ ∧ x ≠ ⊤

theorem fin_iff (x : EReal) : Fin' x ↔ ∃ r : ℝ, x = r := by
  refine ⟨fun h => ⟨x.toReal, (EReal.coe_toReal h.2 h.1).symm⟩, ?_⟩
  rintro ⟨r, rfl⟩
  exact ⟨EReal.coe_ne_bot _, EReal.coe_ne_top _⟩

theorem Fin'.mul {x y : EReal} (hx : Fin' x) (hy : Fin' y) : Fin' (x * y) := by
  obtain ⟨a, rfl⟩ := (fin_iff x).1 hx
  obtain ⟨b, rfl⟩ := (fin_iff y).1 hy
  exact (fin_iff _).2 ⟨a * b, (EReal.coe_mul a b).symm⟩

theorem Fin'.sum {ι : Type} (s : Finset ι) (f : ι → EReal) (h : ∀ i, Fin' (f i)) : Fin' (∑ i ∈ s, f i) :=
  ⟨sum_ne_bot s f fun i => (h i).1, sum_ne_top s f fun i => (h i).2⟩

/-- A magnitude below infinity is that of a real number. -/
theorem fin_of_abs {x : EReal} (h : max x (-x) < ⊤) : Fin' x := by
  refine ⟨?_, ?_⟩ <;> rintro rfl <;> simp at h

theorem c127 : Ideal.ofBits .f32 0x42FE0000#32 = ((127 : ℝ) : EReal) := by
  simp [Ideal.ofBits, Ideal.ieee]
  rw [← EReal.coe_mul]
  norm_num

theorem cm127 : Ideal.ofBits .f32 0xC2FE0000#32 = ((-127 : ℝ) : EReal) := by
  simp [Ideal.ofBits, Ideal.ieee]
  rw [← EReal.coe_mul]
  norm_num

theorem c8 : Ideal.ofBits .f32 0x3E000000#32 = ((1 / 8 : ℝ) : EReal) := by
  simp [Ideal.ofBits, Ideal.ieee]
  rw [← EReal.coe_mul]
  norm_num

theorem code_fin (w : BitVec 32) (r : Fin 4) : Fin' (code w r) := (fin_iff _).2 ⟨_, rfl⟩

theorem quant_fin (x : Fin 64 → EReal) (d : Fin 64) : Fin' (quant x d) := by
  unfold quant
  rw [c127, cm127]
  refine ⟨?_, ?_⟩
  · exact ne_of_gt (lt_min (EReal.bot_lt_coe _) (lt_max_of_lt_left (EReal.bot_lt_coe _)))
  · exact ne_of_lt (min_lt_of_left_lt (EReal.coe_lt_top _))

theorem quant_of_top (x : Fin 64 → EReal) (d : Fin 64) (h : scale x = ⊤) : quant x d = 0 := by
  unfold quant Ideal.div
  rw [h, c127, cm127, if_neg (by simp), EReal.inv_top, mul_zero]
  have e : Ideal.liftRound Ideal.roundHalfEven (0 : EReal) = 0 := by
    show (((Ideal.roundHalfEven 0 : ℤ) : ℝ) : EReal) = 0
    simp [Ideal.roundHalfEven]
  rw [e]
  rw [max_eq_right (by exact_mod_cast (by norm_num : (-127 : ℝ) ≤ 0)), min_eq_right (by exact_mod_cast (by norm_num : (0 : ℝ) ≤ 127))]

theorem scale_ne_bot (x : Fin 64 → EReal) : scale x ≠ ⊥ := by
  unfold scale
  split_ifs with h
  · refine ne_of_gt (lt_of_lt_of_le EReal.bot_lt_zero ?_)
    unfold Ideal.div
    rw [c127, if_neg (by exact_mod_cast (by norm_num : (127 : ℝ) ≠ 0))]
    exact mul_nonneg h.le (EReal.inv_nonneg_of_nonneg (by exact_mod_cast (by norm_num : (0 : ℝ) ≤ 127)))
  · exact EReal.coe_ne_bot 1

/-- The new token's score is real for real queries. -/
theorem newScore_fin (q x : Fin 64 → EReal) (hq : ∀ d, Fin' (q d)) : Fin' (newScore q x) := by
  unfold newScore
  by_cases h : scale x = ⊤
  · have e : ∑ d, q d * quant x d = 0 := Finset.sum_eq_zero fun d _ => by rw [quant_of_top x d h, mul_zero]
    rw [e, zero_mul, zero_mul]
    exact (fin_iff _).2 ⟨0, rfl⟩
  · refine ((Fin'.sum _ _ fun d => (hq d).mul (quant_fin x d)).mul ⟨scale_ne_bot x, h⟩).mul ?_
    rw [c8]
    exact (fin_iff _).2 ⟨_, rfl⟩

/-- No score is plus infinity where the queries are real and the live tokens' scales are. -/
theorem score_ne_top (n : BitVec 32) (q : Fin 64 → EReal) (kw : Fin 256 → Fin 1024 → BitVec 32) (ks : Fin 16 → Fin 1024 → BitVec 32)
    (hq : ∀ d, Fin' (q d)) (hk : ∀ t, Live n t → Fin' (tokScale ks t)) (t : Fin 16384) : score n q kw ks t ≠ ⊤ := by
  unfold score
  split_ifs with h
  · refine (((Fin'.sum _ _ fun d => (hq d).mul (code_fin _ _)).mul (hk t h)).mul ?_).2
    rw [c8]
    exact (fin_iff _).2 ⟨_, rfl⟩
  · exact bot_ne_top

end Cert.Attn

end
-- ==== Proof.Admissible.lean ====
/- What the precondition of the value claim says: every length fits the page table, every query element is finite, every
   scale of a cached key below the length is finite. -/
module

public import proofs.«01_k».proof.Proof.Pre
public import proofs.«01_k».proof.Proof.Finite
public import Idealize.ShloMosaic.Lib.Pointwise
public import Idealize.ShloMosaic.Lib.Pipeline.Value

@[expose] public section

noncomputable section

namespace Cert.Pre

open Cert.Attn Cert.Pre_admissible
open Idealize.ShloMosaic Idealize.ShloMosaic.Pointwise Idealize.ShloMosaic.Tactic
open Cert.Pre_admissible.Facts

theorem inf16 : Ideal.ofBits .bf16 0x7F80#16 = ⊤ := by
  simp [Ideal.ofBits, Ideal.ieee]

theorem inf32 : Ideal.ofBits .f32 0x7F800000#32 = ⊤ := by
  simp [Ideal.ofBits, Ideal.ieee]

/-- A finite magnitude, as the comparison of a query element states it. -/
theorem abs16 (x : FVec Ideal S32x16x64 .bf16) (b : Fin 32) (h : Fin 16) (d : Fin 64)
    (e : cmpf .olt (Host.absf x) (broadcastInDim S32x16x64 ![] bcast_S_S32x16x64 (constant S_ .bf16 0x7F80#16)) (ix3 b h d) = 1#1) :
    Fin' (x (ix3 b h d) : EReal) := by
  have e' : cmpf .olt (Host.absf x) (broadcastInDim S32x16x64 ![] bcast_S_S32x16x64 (constant S_ .bf16 0x7F80#16)) (ix3 b h d)
      = BitVec.ofBool (decide (max (x (ix3 b h d) : EReal) (-(x (ix3 b h d) : EReal)) < ⊤)) := by
    rw [← inf16]
    pointwise
    rfl
  rw [e', ofBool_eq_one] at e
  exact fin_of_abs (of_decide_eq_true e)

/-- A finite magnitude, as the comparison of a scale states it. -/
theorem abs32 (x : FVec Ideal S16x32x1024 .f32) (s : Fin 16) (b : Fin 32) (p : Fin 1024)
    (e : cmpf .olt (Host.absf x) (broadcastInDim S16x32x1024 ![] bcast_S_S16x32x1024 (constant S_ .f32 0x7F800000#32)) (ix3 s b p) = 1#1) :
    Fin' (x (ix3 s b p) : EReal) := by
  have e' : cmpf .olt (Host.absf x) (broadcastInDim S16x32x1024 ![] bcast_S_S16x32x1024 (constant S_ .f32 0x7F800000#32)) (ix3 s b p)
      = BitVec.ofBool (decide (max (x (ix3 s b p) : EReal) (-(x (ix3 s b p) : EReal)) < ⊤)) := by
    rw [← inf32]
    pointwise
    rfl
  rw [e', ofBool_eq_one] at e
  exact fin_of_abs (of_decide_eq_true e)

/-- The key scale words, sliced, viewed as floats and reshaped, at an entry. -/
theorem scale_word (x : IVec S32x32768 32) (s : Fin 16) (b : Fin 32) (p : Fin 1024) :
    shapeCast S16x32x1024 (bitcastToFloat (F := Ideal) .f32 (extractStridedSlice S16x32768 ![0, 0] x slices_S32x32768_S16x32768_0_0)) shapeCasts_S16x32768_S16x32x1024 (ix3 s b p)
      = Ideal.ofBits .f32 (seqKeyScales x b s p) := by
  rw [shapeCast_apply _ _ _ (ix2 s (⟨b.val * 1024 + p.val, by omega⟩ : Fin 32768))]
  · pointwise
    rfl
  · rw [Shape.rowMajor_val_three, Shape.rowMajor_val_two]
    show s.val * 32768 + (b.val * 1024 + p.val) = (s.val * 32 + b.val) * 1024 + p.val
    omega

/-- The word that says whether a token is below the length. -/
theorem live_word (a0 : IVec S32 32) (s : Fin 16) (b : Fin 32) (p : Fin 1024) :
    cmpi .slt (addi (muli (iotaInDim S16x32x1024 32 2) (broadcastInDim S16x32x1024 ![] bcast_S_S16x32x1024 (constantI S_ 32 16#32))) (iotaInDim S16x32x1024 32 0))
      (broadcastInDim S16x32x1024 ![0, 1, 2] bcast_S1x32x1_S16x32x1024_0_1_2 (broadcastInDim S1x32x1 ![1] bcast_S32_S1x32x1_1 a0)) (ix3 s b p)
      = IntOp.cmpi .slt (BitVec.ofNat 32 (16 * p.val + s.val)) (a0 (ix1 b)) := by
  pointwise
  refine congrArg (fun w => IntOp.cmpi .slt w (a0 (ix1 b))) ?_
  show BitVec.ofNat 32 p.val * BitVec.ofNat 32 16 + BitVec.ofNat 32 s.val = _
  rw [← BitVec.ofNat_mul, ← BitVec.ofNat_add, Nat.mul_comm]

theorem noti_one (x : BitVec 1) (h : ~~~x = 1#1) (hx : x = 1#1) : False := by
  revert x
  decide

/-- What `admissible` says of the arrays. -/
theorem admissible_parts (a0 : IVec S32 32) (a1 : FVec Ideal S32x16x64 .bf16) (a2 a3 a4 a5) (a6 : IVec S32x32768 32)
    (h : Pre_admissible.fn (F := Ideal) a0 a1 a2 a3 a4 a5 a6 = fun _ => 1#1) :
    (∀ y, (a0 y).toInt ≤ 16384) ∧ (∀ b h d, Fin' (a1 (ix3 b h d) : EReal))
      ∧ ∀ b t, Live (a0 (ix1 b)) t → Fin' (tokScale (seqKeyScales a6 b) t) := by
  have h0 := congrFun h (fun a => a.elim0)
  unfold Pre_admissible.fn Pre_admissible.fn_part1 at h0
  obtain ⟨h1, h3⟩ := andi_eq_one.1 h0
  obtain ⟨h1, h2⟩ := andi_eq_one.1 h1
  refine ⟨fun y => sle_one (Host.reduce_andi_all _ _ _ _ _ h1 y), fun b h d => abs16 _ b h d (Host.reduce_andi_all _ _ _ _ _ h2 (ix3 b h d)), fun b t ht => ?_⟩
  have hs : t.val % 16 < 16 := by omega
  have hp : t.val / 16 < 1024 := by omega
  have h4 := Host.reduce_andi_all _ _ _ _ _ h3 (ix3 (⟨t.val % 16, hs⟩ : Fin 16) b (⟨t.val / 16, hp⟩ : Fin 1024))
  rcases ori_eq_one.1 h4 with h5 | h5
  · have h6 := abs32 _ _ _ _ h5
    rw [scale_word] at h6
    exact h6
  · refine (noti_one _ h5 ?_).elim
    refine (live_word a0 _ _ _).trans ?_
    rw [show 16 * (t.val / 16) + t.val % 16 = t.val by omega]
    exact ht

end Cert.Pre

end
-- ==== Proof.KernelIdeal.Slot.lean ====
/- One slot of one chunk of the attention body: its scores, its weights, its share of the weighted values. -/
module

public import proofs.«01_k».proof.Proof.Gen.KernelIdeal.Skeleton

@[expose] public section

set_option maxRecDepth 16384

noncomputable section

namespace Cert.KernelIdeal.Attend

open Cert.KernelIdeal.Gen
open Idealize.ShloMosaic Idealize.ShloMosaic.TcCoe Idealize.ShloMosaic.Tactic

variable {F : FTy → Type} [FloatOps F]

/-- The page of each lane of chunk `k`. -/
def page (k : ℕ) : IVec S16x256 32 :=
  addi (broadcast S16x256 (Scalar.muli (Scf.iv 0#32 1#32 k) 256#32)) (iota .tc S16x256 32 [1] iota_S16x256_d1_w32)

/-- Which lanes of chunk `k` hold, at a slot, a token below the length `n`. -/
def live (n : BitVec 32) (k : ℕ) (slot : BitVec 32) : IVec S16x256 1 :=
  cmpi .slt (addi (muli (page k) (broadcast S16x256 16#32)) (broadcast S16x256 slot)) (broadcast S16x256 n)

/-- The scores of one slot over chunk `k`: the 16 rows of the block product at `off`, scaled, minus infinity past the length. -/
def score (n : BitVec 32) (qb : FVec F S64x256 .bf16) (k : ℕ) (slot : BitVec 32) (off : Fin 2 → ℕ) (h : S64x256.Slices off S16x256)
    (kw : Vec F S64x256 .i32) (sw : Vec F S1x256 .i32) : FVec F S16x256 .f32 :=
  select (live n k slot)
    (mulf (mulf (extractStridedSlice S16x256 off (k0_pay3 qb kw) h)
        (broadcastTo S16x256 (bitcastToFloat .f32 sw : FVec F S1x256 .f32) broadcasts_S1x256_S16x256))
      (broadcast S16x256 (Scalar.ofBits .f32 0x3E000000#32)))
    (broadcast S16x256 (Scalar.ofBits .f32 0xFF800000#32))

/-- The unnormalised weights of scores `s` against the maximum `mx`. -/
def weight (mx : FVec F S16x1 .f32) (s : Vec F S16x256 .f32) : FVec F S16x256 .f32 :=
  exp (subf s (broadcastTo S16x256 mx broadcasts_S16x1_S16x256))

/-- The weights times the scales of the values, zero past the length, in bf16. -/
def weighted (n : BitVec 32) (mx : FVec F S16x1 .f32) (k : ℕ) (slot : BitVec 32) (s : Vec F S16x256 .f32) (sw : Vec F S1x256 .i32) :
    FVec F S16x256 .bf16 :=
  truncf .bf16 (select (live n k slot)
    (mulf (weight mx s) (broadcastTo S16x256 (bitcastToFloat .f32 sw : FVec F S1x256 .f32) broadcasts_S1x256_S16x256))
    (broadcast S16x256 (Scalar.ofBits .f32 0x00000000#32))) bitsLt_bf16_f32

/-- Four slots' weighted codes added to the running block product. -/
def addGroup (acc : FVec F S64x256 .f32) (p0 p1 p2 p3 : FVec F S16x256 .bf16) (vw : Vec F S64x256 .i32) : FVec F S64x256 .f32 :=
  addf acc (matmul dot_S64x256_S256x256_S64x256_1_1_0_0_n_n none
    (concatenate S64x256 0 [⟨S16x256, p0⟩, ⟨S16x256, p1⟩, ⟨S16x256, p2⟩, ⟨S16x256, p3⟩]
      concatenates_S16x256_S16x256_S16x256_S16x256_S64x256_d0)
    (sitofp .bf16 (bitcast S256x256 8 vw bitcasts_S64x256_w32_S256x256_w8) : FVec F S256x256 .bf16)
    (constant S64x256 .f32 0x00000000#32))

end Cert.KernelIdeal.Attend

end
-- ==== Proof.KernelIdeal.ScoreTrip.lean ====
/- One trip of the score loop, in the terms of Slot.lean. -/
module

public import proofs.«01_k».proof.Proof.KernelIdeal.Slot
public import proofs.«01_k».proof.Proof.Gen.KernelIdeal.Loops

@[expose] public section

set_option maxRecDepth 16384

noncomputable section

namespace Cert.KernelIdeal.Attend

open Cert.KernelIdeal.Gen
open Idealize.ShloMosaic Idealize.ShloMosaic.TcCoe Idealize.ShloMosaic.Tactic

variable {F : FTy → Type} [FloatOps F]

/-- What a trip of the score loop yields: the running maximum with the scores of its sixteen slots. -/
theorem scores_yield (𝒱 : Variants) (c : Dev nD) (bd : Option 𝒱.V) (i : grid0.Coords) (arg1 : Memref sig .tc .smem S32 .i32) (harg1 : arg1.IsWhole) (arg2 : Memref sig .tc .vmem S1x16x64 .bf16) (harg2 : arg2.IsWhole) (arg3 : Memref sig .tc .vmem S1x1x64 .bf16) (harg3 : arg3.IsWhole) (arg4 : Memref sig .tc .vmem S1x1x64 .bf16) (harg4 : arg4.IsWhole) (arg5 : Memref sig .tc .vmem S256x1024 .i32) (harg5 : arg5.IsWhole) (arg6 : Memref sig .tc .vmem S256x1024 .i32) (harg6 : arg6.IsWhole) (arg7 : Memref sig .tc .vmem S32x1024 .i32) (harg7 : arg7.IsWhole) (arg8 : Memref sig .tc .vmem S1x16x64 .bf16) (harg8 : arg8.IsWhole) (arg9 : Memref sig .tc .vmem S1x1x64 .i8) (harg9 : arg9.IsWhole) (arg10 : Memref sig .tc .vmem S1x1x128 .f32) (harg10 : arg10.IsWhole) (arg11 : Memref sig .tc .vmem S1x1x64 .i8) (harg11 : arg11.IsWhole) (arg12 : Memref sig .tc .vmem S1x1x128 .f32) (harg12 : arg12.IsWhole) (arg13 : Memref sig .tc .vmem S256x1024 .f32) (harg13 : arg13.IsWhole) (v1 : Elt F .i32) (k0_hw1 : k0_chk1 v1) (v19 : BitVec 32) (v31 : FVec F S1x1 .f32) (v38 : FVec F S1x64 .f32) (v77 : FVec F S16x64 .bf16) (v79 : FVec F S64x256 .bf16) (v104 : IVec S64x256 32) (v105 : IVec S64x256 32) (c64_i32 : BitVec 32) (v107 : IVec S64x256 32) (v114 : IVec S64x256 32) (v120 : IVec S64x256 32) (X_arg5 : BufTy.Contents (Elt F) arg5.view.ty) (X_arg7 : BufTy.Contents (Elt F) arg7.view.ty) (k : Fin (k0_t1_loop v1).trips) (acc : FVec F S16x256 .f32) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 X_arg5 X_arg7 k).1 acc = (maximumf (maximumf (maximumf (maximumf (maximumf (maximumf (maximumf (maximumf (maximumf (maximumf (maximumf (maximumf (maximumf (maximumf (maximumf (maximumf acc
    (score v1 (k0_pay206 v79 v104 v105 c64_i32 v107 v114 v120) k.val 0#32 ![0, 0] slices_S64x256_o0_0_S16x256 (View.readAt (Elt F) arg5.view (Rect.unit (s := S256x1024) (k0_off2 v1 k) S64x256.size (k0_off2_inb v1 k0_hw1 k)).toLoadRect X_arg5) (View.readAt (Elt F) arg7.view (Rect.unit (s := S32x1024) (k0_off3 v1 k) S1x256.size (k0_off3_inb v1 k0_hw1 k)).toLoadRect X_arg7)))
    (score v1 (k0_pay206 v79 v104 v105 c64_i32 v107 v114 v120) k.val 1#32 ![16, 0] slices_S64x256_o16_0_S16x256 (View.readAt (Elt F) arg5.view (Rect.unit (s := S256x1024) (k0_off2 v1 k) S64x256.size (k0_off2_inb v1 k0_hw1 k)).toLoadRect X_arg5) (View.readAt (Elt F) arg7.view (Rect.unit (s := S32x1024) (k0_off5 v1 k) S1x256.size (k0_off5_inb v1 k0_hw1 k)).toLoadRect X_arg7)))
    (score v1 (k0_pay206 v79 v104 v105 c64_i32 v107 v114 v120) k.val 2#32 ![32, 0] slices_S64x256_o32_0_S16x256 (View.readAt (Elt F) arg5.view (Rect.unit (s := S256x1024) (k0_off2 v1 k) S64x256.size (k0_off2_inb v1 k0_hw1 k)).toLoadRect X_arg5) (View.readAt (Elt F) arg7.view (Rect.unit (s := S32x1024) (k0_off7 v1 k) S1x256.size (k0_off7_inb v1 k0_hw1 k)).toLoadRect X_arg7)))
    (score v1 (k0_pay206 v79 v104 v105 c64_i32 v107 v114 v120) k.val 3#32 ![48, 0] slices_S64x256_o48_0_S16x256 (View.readAt (Elt F) arg5.view (Rect.unit (s := S256x1024) (k0_off2 v1 k) S64x256.size (k0_off2_inb v1 k0_hw1 k)).toLoadRect X_arg5) (View.readAt (Elt F) arg7.view (Rect.unit (s := S32x1024) (k0_off9 v1 k) S1x256.size (k0_off9_inb v1 k0_hw1 k)).toLoadRect X_arg7)))
    (score v1 (k0_pay206 v79 v104 v105 c64_i32 v107 v114 v120) k.val 4#32 ![0, 0] slices_S64x256_o0_0_S16x256 (View.readAt (Elt F) arg5.view (Rect.unit (s := S256x1024) (k0_off11 v1 k) S64x256.size (k0_off11_inb v1 k0_hw1 k)).toLoadRect X_arg5) (View.readAt (Elt F) arg7.view (Rect.unit (s := S32x1024) (k0_off12 v1 k) S1x256.size (k0_off12_inb v1 k0_hw1 k)).toLoadRect X_arg7)))
    (score v1 (k0_pay206 v79 v104 v105 c64_i32 v107 v114 v120) k.val 5#32 ![16, 0] slices_S64x256_o16_0_S16x256 (View.readAt (Elt F) arg5.view (Rect.unit (s := S256x1024) (k0_off11 v1 k) S64x256.size (k0_off11_inb v1 k0_hw1 k)).toLoadRect X_arg5) (View.readAt (Elt F) arg7.view (Rect.unit (s := S32x1024) (k0_off14 v1 k) S1x256.size (k0_off14_inb v1 k0_hw1 k)).toLoadRect X_arg7)))
    (score v1 (k0_pay206 v79 v104 v105 c64_i32 v107 v114 v120) k.val 6#32 ![32, 0] slices_S64x256_o32_0_S16x256 (View.readAt (Elt F) arg5.view (Rect.unit (s := S256x1024) (k0_off11 v1 k) S64x256.size (k0_off11_inb v1 k0_hw1 k)).toLoadRect X_arg5) (View.readAt (Elt F) arg7.view (Rect.unit (s := S32x1024) (k0_off16 v1 k) S1x256.size (k0_off16_inb v1 k0_hw1 k)).toLoadRect X_arg7)))
    (score v1 (k0_pay206 v79 v104 v105 c64_i32 v107 v114 v120) k.val 7#32 ![48, 0] slices_S64x256_o48_0_S16x256 (View.readAt (Elt F) arg5.view (Rect.unit (s := S256x1024) (k0_off11 v1 k) S64x256.size (k0_off11_inb v1 k0_hw1 k)).toLoadRect X_arg5) (View.readAt (Elt F) arg7.view (Rect.unit (s := S32x1024) (k0_off18 v1 k) S1x256.size (k0_off18_inb v1 k0_hw1 k)).toLoadRect X_arg7)))
    (score v1 (k0_pay206 v79 v104 v105 c64_i32 v107 v114 v120) k.val 8#32 ![0, 0] slices_S64x256_o0_0_S16x256 (View.readAt (Elt F) arg5.view (Rect.unit (s := S256x1024) (k0_off20 v1 k) S64x256.size (k0_off20_inb v1 k0_hw1 k)).toLoadRect X_arg5) (View.readAt (Elt F) arg7.view (Rect.unit (s := S32x1024) (k0_off21 v1 k) S1x256.size (k0_off21_inb v1 k0_hw1 k)).toLoadRect X_arg7)))
    (score v1 (k0_pay206 v79 v104 v105 c64_i32 v107 v114 v120) k.val 9#32 ![16, 0] slices_S64x256_o16_0_S16x256 (View.readAt (Elt F) arg5.view (Rect.unit (s := S256x1024) (k0_off20 v1 k) S64x256.size (k0_off20_inb v1 k0_hw1 k)).toLoadRect X_arg5) (View.readAt (Elt F) arg7.view (Rect.unit (s := S32x1024) (k0_off23 v1 k) S1x256.size (k0_off23_inb v1 k0_hw1 k)).toLoadRect X_arg7)))
    (score v1 (k0_pay206 v79 v104 v105 c64_i32 v107 v114 v120) k.val 10#32 ![32, 0] slices_S64x256_o32_0_S16x256 (View.readAt (Elt F) arg5.view (Rect.unit (s := S256x1024) (k0_off20 v1 k) S64x256.size (k0_off20_inb v1 k0_hw1 k)).toLoadRect X_arg5) (View.readAt (Elt F) arg7.view (Rect.unit (s := S32x1024) (k0_off25 v1 k) S1x256.size (k0_off25_inb v1 k0_hw1 k)).toLoadRect X_arg7)))
    (score v1 (k0_pay206 v79 v104 v105 c64_i32 v107 v114 v120) k.val 11#32 ![48, 0] slices_S64x256_o48_0_S16x256 (View.readAt (Elt F) arg5.view (Rect.unit (s := S256x1024) (k0_off20 v1 k) S64x256.size (k0_off20_inb v1 k0_hw1 k)).toLoadRect X_arg5) (View.readAt (Elt F) arg7.view (Rect.unit (s := S32x1024) (k0_off27 v1 k) S1x256.size (k0_off27_inb v1 k0_hw1 k)).toLoadRect X_arg7)))
    (score v1 (k0_pay206 v79 v104 v105 c64_i32 v107 v114 v120) k.val 12#32 ![0, 0] slices_S64x256_o0_0_S16x256 (View.readAt (Elt F) arg5.view (Rect.unit (s := S256x1024) (k0_off29 v1 k) S64x256.size (k0_off29_inb v1 k0_hw1 k)).toLoadRect X_arg5) (View.readAt (Elt F) arg7.view (Rect.unit (s := S32x1024) (k0_off30 v1 k) S1x256.size (k0_off30_inb v1 k0_hw1 k)).toLoadRect X_arg7)))
    (score v1 (k0_pay206 v79 v104 v105 c64_i32 v107 v114 v120) k.val 13#32 ![16, 0] slices_S64x256_o16_0_S16x256 (View.readAt (Elt F) arg5.view (Rect.unit (s := S256x1024) (k0_off29 v1 k) S64x256.size (k0_off29_inb v1 k0_hw1 k)).toLoadRect X_arg5) (View.readAt (Elt F) arg7.view (Rect.unit (s := S32x1024) (k0_off32 v1 k) S1x256.size (k0_off32_inb v1 k0_hw1 k)).toLoadRect X_arg7)))
    (score v1 (k0_pay206 v79 v104 v105 c64_i32 v107 v114 v120) k.val 14#32 ![32, 0] slices_S64x256_o32_0_S16x256 (View.readAt (Elt F) arg5.view (Rect.unit (s := S256x1024) (k0_off29 v1 k) S64x256.size (k0_off29_inb v1 k0_hw1 k)).toLoadRect X_arg5) (View.readAt (Elt F) arg7.view (Rect.unit (s := S32x1024) (k0_off34 v1 k) S1x256.size (k0_off34_inb v1 k0_hw1 k)).toLoadRect X_arg7)))
    (score v1 (k0_pay206 v79 v104 v105 c64_i32 v107 v114 v120) k.val 15#32 ![48, 0] slices_S64x256_o48_0_S16x256 (View.readAt (Elt F) arg5.view (Rect.unit (s := S256x1024) (k0_off29 v1 k) S64x256.size (k0_off29_inb v1 k0_hw1 k)).toLoadRect X_arg5) (View.readAt (Elt F) arg7.view (Rect.unit (s := S32x1024) (k0_off36 v1 k) S1x256.size (k0_off36_inb v1 k0_hw1 k)).toLoadRect X_arg7))) := by
  unfold trip_k0_t1; rfl

/-- What a trip of the score loop writes: the scores of its sixteen slots, last slot first. -/
theorem scores_pieces (𝒱 : Variants) (c : Dev nD) (bd : Option 𝒱.V) (i : grid0.Coords) (arg1 : Memref sig .tc .smem S32 .i32) (harg1 : arg1.IsWhole) (arg2 : Memref sig .tc .vmem S1x16x64 .bf16) (harg2 : arg2.IsWhole) (arg3 : Memref sig .tc .vmem S1x1x64 .bf16) (harg3 : arg3.IsWhole) (arg4 : Memref sig .tc .vmem S1x1x64 .bf16) (harg4 : arg4.IsWhole) (arg5 : Memref sig .tc .vmem S256x1024 .i32) (harg5 : arg5.IsWhole) (arg6 : Memref sig .tc .vmem S256x1024 .i32) (harg6 : arg6.IsWhole) (arg7 : Memref sig .tc .vmem S32x1024 .i32) (harg7 : arg7.IsWhole) (arg8 : Memref sig .tc .vmem S1x16x64 .bf16) (harg8 : arg8.IsWhole) (arg9 : Memref sig .tc .vmem S1x1x64 .i8) (harg9 : arg9.IsWhole) (arg10 : Memref sig .tc .vmem S1x1x128 .f32) (harg10 : arg10.IsWhole) (arg11 : Memref sig .tc .vmem S1x1x64 .i8) (harg11 : arg11.IsWhole) (arg12 : Memref sig .tc .vmem S1x1x128 .f32) (harg12 : arg12.IsWhole) (arg13 : Memref sig .tc .vmem S256x1024 .f32) (harg13 : arg13.IsWhole) (v1 : Elt F .i32) (k0_hw1 : k0_chk1 v1) (v19 : BitVec 32) (v31 : FVec F S1x1 .f32) (v38 : FVec F S1x64 .f32) (v77 : FVec F S16x64 .bf16) (v79 : FVec F S64x256 .bf16) (v104 : IVec S64x256 32) (v105 : IVec S64x256 32) (c64_i32 : BitVec 32) (v107 : IVec S64x256 32) (v114 : IVec S64x256 32) (v120 : IVec S64x256 32) (X_arg5 : BufTy.Contents (Elt F) arg5.view.ty) (X_arg7 : BufTy.Contents (Elt F) arg7.view.ty) (k : Fin (k0_t1_loop v1).trips) (acc : FVec F S16x256 .f32) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 X_arg5 X_arg7 k).2.1 acc = [
      (⟨Rect.unit (s := S256x1024) (k0_off37 v1 k) S16x256.size (k0_off37_inb v1 k0_hw1 k), shapeCast S16x256 (score v1 (k0_pay206 v79 v104 v105 c64_i32 v107 v114 v120) k.val 15#32 ![48, 0] slices_S64x256_o48_0_S16x256 (View.readAt (Elt F) arg5.view (Rect.unit (s := S256x1024) (k0_off29 v1 k) S64x256.size (k0_off29_inb v1 k0_hw1 k)).toLoadRect X_arg5) (View.readAt (Elt F) arg7.view (Rect.unit (s := S32x1024) (k0_off36 v1 k) S1x256.size (k0_off36_inb v1 k0_hw1 k)).toLoadRect X_arg7)) shapeCasts_S16x256_S16x256⟩ : View.Piece (Elt F) S256x1024 .f32),
      (⟨Rect.unit (s := S256x1024) (k0_off35 v1 k) S16x256.size (k0_off35_inb v1 k0_hw1 k), shapeCast S16x256 (score v1 (k0_pay206 v79 v104 v105 c64_i32 v107 v114 v120) k.val 14#32 ![32, 0] slices_S64x256_o32_0_S16x256 (View.readAt (Elt F) arg5.view (Rect.unit (s := S256x1024) (k0_off29 v1 k) S64x256.size (k0_off29_inb v1 k0_hw1 k)).toLoadRect X_arg5) (View.readAt (Elt F) arg7.view (Rect.unit (s := S32x1024) (k0_off34 v1 k) S1x256.size (k0_off34_inb v1 k0_hw1 k)).toLoadRect X_arg7)) shapeCasts_S16x256_S16x256⟩ : View.Piece (Elt F) S256x1024 .f32),
      (⟨Rect.unit (s := S256x1024) (k0_off33 v1 k) S16x256.size (k0_off33_inb v1 k0_hw1 k), shapeCast S16x256 (score v1 (k0_pay206 v79 v104 v105 c64_i32 v107 v114 v120) k.val 13#32 ![16, 0] slices_S64x256_o16_0_S16x256 (View.readAt (Elt F) arg5.view (Rect.unit (s := S256x1024) (k0_off29 v1 k) S64x256.size (k0_off29_inb v1 k0_hw1 k)).toLoadRect X_arg5) (View.readAt (Elt F) arg7.view (Rect.unit (s := S32x1024) (k0_off32 v1 k) S1x256.size (k0_off32_inb v1 k0_hw1 k)).toLoadRect X_arg7)) shapeCasts_S16x256_S16x256⟩ : View.Piece (Elt F) S256x1024 .f32),
      (⟨Rect.unit (s := S256x1024) (k0_off31 v1 k) S16x256.size (k0_off31_inb v1 k0_hw1 k), shapeCast S16x256 (score v1 (k0_pay206 v79 v104 v105 c64_i32 v107 v114 v120) k.val 12#32 ![0, 0] slices_S64x256_o0_0_S16x256 (View.readAt (Elt F) arg5.view (Rect.unit (s := S256x1024) (k0_off29 v1 k) S64x256.size (k0_off29_inb v1 k0_hw1 k)).toLoadRect X_arg5) (View.readAt (Elt F) arg7.view (Rect.unit (s := S32x1024) (k0_off30 v1 k) S1x256.size (k0_off30_inb v1 k0_hw1 k)).toLoadRect X_arg7)) shapeCasts_S16x256_S16x256⟩ : View.Piece (Elt F) S256x1024 .f32),
      (⟨Rect.unit (s := S256x1024) (k0_off28 v1 k) S16x256.size (k0_off28_inb v1 k0_hw1 k), shapeCast S16x256 (score v1 (k0_pay206 v79 v104 v105 c64_i32 v107 v114 v120) k.val 11#32 ![48, 0] slices_S64x256_o48_0_S16x256 (View.readAt (Elt F) arg5.view (Rect.unit (s := S256x1024) (k0_off20 v1 k) S64x256.size (k0_off20_inb v1 k0_hw1 k)).toLoadRect X_arg5) (View.readAt (Elt F) arg7.view (Rect.unit (s := S32x1024) (k0_off27 v1 k) S1x256.size (k0_off27_inb v1 k0_hw1 k)).toLoadRect X_arg7)) shapeCasts_S16x256_S16x256⟩ : View.Piece (Elt F) S256x1024 .f32),
      (⟨Rect.unit (s := S256x1024) (k0_off26 v1 k) S16x256.size (k0_off26_inb v1 k0_hw1 k), shapeCast S16x256 (score v1 (k0_pay206 v79 v104 v105 c64_i32 v107 v114 v120) k.val 10#32 ![32, 0] slices_S64x256_o32_0_S16x256 (View.readAt (Elt F) arg5.view (Rect.unit (s := S256x1024) (k0_off20 v1 k) S64x256.size (k0_off20_inb v1 k0_hw1 k)).toLoadRect X_arg5) (View.readAt (Elt F) arg7.view (Rect.unit (s := S32x1024) (k0_off25 v1 k) S1x256.size (k0_off25_inb v1 k0_hw1 k)).toLoadRect X_arg7)) shapeCasts_S16x256_S16x256⟩ : View.Piece (Elt F) S256x1024 .f32),
      (⟨Rect.unit (s := S256x1024) (k0_off24 v1 k) S16x256.size (k0_off24_inb v1 k0_hw1 k), shapeCast S16x256 (score v1 (k0_pay206 v79 v104 v105 c64_i32 v107 v114 v120) k.val 9#32 ![16, 0] slices_S64x256_o16_0_S16x256 (View.readAt (Elt F) arg5.view (Rect.unit (s := S256x1024) (k0_off20 v1 k) S64x256.size (k0_off20_inb v1 k0_hw1 k)).toLoadRect X_arg5) (View.readAt (Elt F) arg7.view (Rect.unit (s := S32x1024) (k0_off23 v1 k) S1x256.size (k0_off23_inb v1 k0_hw1 k)).toLoadRect X_arg7)) shapeCasts_S16x256_S16x256⟩ : View.Piece (Elt F) S256x1024 .f32),
      (⟨Rect.unit (s := S256x1024) (k0_off22 v1 k) S16x256.size (k0_off22_inb v1 k0_hw1 k), shapeCast S16x256 (score v1 (k0_pay206 v79 v104 v105 c64_i32 v107 v114 v120) k.val 8#32 ![0, 0] slices_S64x256_o0_0_S16x256 (View.readAt (Elt F) arg5.view (Rect.unit (s := S256x1024) (k0_off20 v1 k) S64x256.size (k0_off20_inb v1 k0_hw1 k)).toLoadRect X_arg5) (View.readAt (Elt F) arg7.view (Rect.unit (s := S32x1024) (k0_off21 v1 k) S1x256.size (k0_off21_inb v1 k0_hw1 k)).toLoadRect X_arg7)) shapeCasts_S16x256_S16x256⟩ : View.Piece (Elt F) S256x1024 .f32),
      (⟨Rect.unit (s := S256x1024) (k0_off19 v1 k) S16x256.size (k0_off19_inb v1 k0_hw1 k), shapeCast S16x256 (score v1 (k0_pay206 v79 v104 v105 c64_i32 v107 v114 v120) k.val 7#32 ![48, 0] slices_S64x256_o48_0_S16x256 (View.readAt (Elt F) arg5.view (Rect.unit (s := S256x1024) (k0_off11 v1 k) S64x256.size (k0_off11_inb v1 k0_hw1 k)).toLoadRect X_arg5) (View.readAt (Elt F) arg7.view (Rect.unit (s := S32x1024) (k0_off18 v1 k) S1x256.size (k0_off18_inb v1 k0_hw1 k)).toLoadRect X_arg7)) shapeCasts_S16x256_S16x256⟩ : View.Piece (Elt F) S256x1024 .f32),
      (⟨Rect.unit (s := S256x1024) (k0_off17 v1 k) S16x256.size (k0_off17_inb v1 k0_hw1 k), shapeCast S16x256 (score v1 (k0_pay206 v79 v104 v105 c64_i32 v107 v114 v120) k.val 6#32 ![32, 0] slices_S64x256_o32_0_S16x256 (View.readAt (Elt F) arg5.view (Rect.unit (s := S256x1024) (k0_off11 v1 k) S64x256.size (k0_off11_inb v1 k0_hw1 k)).toLoadRect X_arg5) (View.readAt (Elt F) arg7.view (Rect.unit (s := S32x1024) (k0_off16 v1 k) S1x256.size (k0_off16_inb v1 k0_hw1 k)).toLoadRect X_arg7)) shapeCasts_S16x256_S16x256⟩ : View.Piece (Elt F) S256x1024 .f32),
      (⟨Rect.unit (s := S256x1024) (k0_off15 v1 k) S16x256.size (k0_off15_inb v1 k0_hw1 k), shapeCast S16x256 (score v1 (k0_pay206 v79 v104 v105 c64_i32 v107 v114 v120) k.val 5#32 ![16, 0] slices_S64x256_o16_0_S16x256 (View.readAt (Elt F) arg5.view (Rect.unit (s := S256x1024) (k0_off11 v1 k) S64x256.size (k0_off11_inb v1 k0_hw1 k)).toLoadRect X_arg5) (View.readAt (Elt F) arg7.view (Rect.unit (s := S32x1024) (k0_off14 v1 k) S1x256.size (k0_off14_inb v1 k0_hw1 k)).toLoadRect X_arg7)) shapeCasts_S16x256_S16x256⟩ : View.Piece (Elt F) S256x1024 .f32),
      (⟨Rect.unit (s := S256x1024) (k0_off13 v1 k) S16x256.size (k0_off13_inb v1 k0_hw1 k), shapeCast S16x256 (score v1 (k0_pay206 v79 v104 v105 c64_i32 v107 v114 v120) k.val 4#32 ![0, 0] slices_S64x256_o0_0_S16x256 (View.readAt (Elt F) arg5.view (Rect.unit (s := S256x1024) (k0_off11 v1 k) S64x256.size (k0_off11_inb v1 k0_hw1 k)).toLoadRect X_arg5) (View.readAt (Elt F) arg7.view (Rect.unit (s := S32x1024) (k0_off12 v1 k) S1x256.size (k0_off12_inb v1 k0_hw1 k)).toLoadRect X_arg7)) shapeCasts_S16x256_S16x256⟩ : View.Piece (Elt F) S256x1024 .f32),
      (⟨Rect.unit (s := S256x1024) (k0_off10 v1 k) S16x256.size (k0_off10_inb v1 k0_hw1 k), shapeCast S16x256 (score v1 (k0_pay206 v79 v104 v105 c64_i32 v107 v114 v120) k.val 3#32 ![48, 0] slices_S64x256_o48_0_S16x256 (View.readAt (Elt F) arg5.view (Rect.unit (s := S256x1024) (k0_off2 v1 k) S64x256.size (k0_off2_inb v1 k0_hw1 k)).toLoadRect X_arg5) (View.readAt (Elt F) arg7.view (Rect.unit (s := S32x1024) (k0_off9 v1 k) S1x256.size (k0_off9_inb v1 k0_hw1 k)).toLoadRect X_arg7)) shapeCasts_S16x256_S16x256⟩ : View.Piece (Elt F) S256x1024 .f32),
      (⟨Rect.unit (s := S256x1024) (k0_off8 v1 k) S16x256.size (k0_off8_inb v1 k0_hw1 k), shapeCast S16x256 (score v1 (k0_pay206 v79 v104 v105 c64_i32 v107 v114 v120) k.val 2#32 ![32, 0] slices_S64x256_o32_0_S16x256 (View.readAt (Elt F) arg5.view (Rect.unit (s := S256x1024) (k0_off2 v1 k) S64x256.size (k0_off2_inb v1 k0_hw1 k)).toLoadRect X_arg5) (View.readAt (Elt F) arg7.view (Rect.unit (s := S32x1024) (k0_off7 v1 k) S1x256.size (k0_off7_inb v1 k0_hw1 k)).toLoadRect X_arg7)) shapeCasts_S16x256_S16x256⟩ : View.Piece (Elt F) S256x1024 .f32),
      (⟨Rect.unit (s := S256x1024) (k0_off6 v1 k) S16x256.size (k0_off6_inb v1 k0_hw1 k), shapeCast S16x256 (score v1 (k0_pay206 v79 v104 v105 c64_i32 v107 v114 v120) k.val 1#32 ![16, 0] slices_S64x256_o16_0_S16x256 (View.readAt (Elt F) arg5.view (Rect.unit (s := S256x1024) (k0_off2 v1 k) S64x256.size (k0_off2_inb v1 k0_hw1 k)).toLoadRect X_arg5) (View.readAt (Elt F) arg7.view (Rect.unit (s := S32x1024) (k0_off5 v1 k) S1x256.size (k0_off5_inb v1 k0_hw1 k)).toLoadRect X_arg7)) shapeCasts_S16x256_S16x256⟩ : View.Piece (Elt F) S256x1024 .f32),
      (⟨Rect.unit (s := S256x1024) (k0_off4 v1 k) S16x256.size (k0_off4_inb v1 k0_hw1 k), shapeCast S16x256 (score v1 (k0_pay206 v79 v104 v105 c64_i32 v107 v114 v120) k.val 0#32 ![0, 0] slices_S64x256_o0_0_S16x256 (View.readAt (Elt F) arg5.view (Rect.unit (s := S256x1024) (k0_off2 v1 k) S64x256.size (k0_off2_inb v1 k0_hw1 k)).toLoadRect X_arg5) (View.readAt (Elt F) arg7.view (Rect.unit (s := S32x1024) (k0_off3 v1 k) S1x256.size (k0_off3_inb v1 k0_hw1 k)).toLoadRect X_arg7)) shapeCasts_S16x256_S16x256⟩ : View.Piece (Elt F) S256x1024 .f32)] := by
  unfold trip_k0_t1; rfl

end Cert.KernelIdeal.Attend

end
-- ==== Proof.KernelIdeal.Spec.lean ====
/- The two chunk loops as folds over chunks and slots of the windows' words. -/
module

public import proofs.«01_k».proof.Proof.KernelIdeal.Slot
public import proofs.«01_k».proof.Proof.KernelIdeal.Chunks
public import Idealize.ShloMosaic.Lib.WholeRead
public import Idealize.ShloMosaic.Lib.WritesUnit
public import Idealize.ShloMosaic.Lib.Pointwise

@[expose] public section

set_option maxRecDepth 16384

noncomputable section

namespace Cert.KernelIdeal.Attend

open Cert.KernelIdeal.Gen
open Idealize.ShloMosaic Idealize.ShloMosaic.TcCoe Idealize.ShloMosaic.Tactic Idealize.ShloMosaic.Pointwise

variable {F : FTy → Type} [FloatOps F]

/-- The four slots `4g … 4g+3` of chunk `k`: 64 rows of code words, 256 pages. -/
def codes (x : S256x1024.Idx → Elt F .i32) (g : Fin 4) (k : Fin 4) : Vec F S64x256 .i32 :=
  fun i => x (ix2 ⟨64 * g.val + (i 0).val, by have := (i 0).isLt; simp at this; omega⟩
    ⟨256 * k.val + (i 1).val, by have := (i 1).isLt; simp at this; omega⟩)

/-- Row `r` of the scale words over chunk `k`. -/
def scales (x : S32x1024.Idx → Elt F .i32) (r : Fin 32) (k : Fin 4) : Vec F S1x256 .i32 :=
  fun i => x (ix2 r ⟨256 * k.val + (i 1).val, by have := (i 1).isLt; simp at this; omega⟩)

/-- The scratch entry of a slot, a query row and a lane of chunk `k`. -/
def cell (k : Fin 4) (s : Fin 16) (i : S16x256.Idx) : S256x1024.Idx :=
  ix2 ⟨16 * s.val + (i 0).val, by have := (i 0).isLt; simp at this; omega⟩
    ⟨256 * k.val + (i 1).val, by have := (i 1).isLt; simp at this; omega⟩

theorem slices16 (t : Fin 4) : S64x256.Slices ![16 * t.val, 0] S16x256 := by
  revert t; decide

/-- The slots in order. -/
def slots : List (Fin 16) := [0, 1, 2, 3, 4, 5, 6, 7, 8, 9, 10, 11, 12, 13, 14, 15]

theorem mem_slots (s : Fin 16) : s ∈ slots.reverse := by revert s; decide

/-- The group of four slots a slot lies in, and its place there. -/
def grp (s : Fin 16) : Fin 4 := ⟨s.val / 4, by omega⟩
def plc (s : Fin 16) : Fin 4 := ⟨s.val % 4, by omega⟩

/-- The scores of slot `s` over chunk `k`. -/
def sc (n : BitVec 32) (qb : FVec F S64x256 .bf16) (x3 : S256x1024.Idx → Elt F .i32) (x5 : S32x1024.Idx → Elt F .i32)
    (k : Fin 4) (s : Fin 16) : FVec F S16x256 .f32 :=
  score n qb k.val (BitVec.ofNat 32 s.val) ![16 * (plc s).val, 0] (slices16 (plc s)) (codes x3 (grp s) k)
    (scales x5 ⟨s.val, by omega⟩ k)

/-- One chunk's scores taken into the running maximum. -/
def maxStep (f : Fin 16 → FVec F S16x256 .f32) (acc : FVec F S16x256 .f32) : FVec F S16x256 .f32 :=
  slots.foldl (fun a s => maximumf a (f s)) acc

/-- One chunk's weights added to the running sums. -/
def sumStep (mx : FVec F S16x1 .f32) (f : Fin 16 → FVec F S16x256 .f32) (acc : FVec F S16x256 .f32) : FVec F S16x256 .f32 :=
  slots.foldl (fun a s => addf a (weight mx (f s))) acc

/-- The weighted slots of chunk `k`. -/
def wt (n : BitVec 32) (mx : FVec F S16x1 .f32) (x5 : S32x1024.Idx → Elt F .i32) (k : Fin 4) (f : Fin 16 → FVec F S16x256 .f32)
    (s : Fin 16) : FVec F S16x256 .bf16 :=
  weighted n mx k.val (BitVec.ofNat 32 s.val) (f s) (scales x5 ⟨16 + s.val, by omega⟩ k)

/-- One chunk's weighted codes added to the running block product. -/
def valStep (n : BitVec 32) (mx : FVec F S16x1 .f32) (x4 : S256x1024.Idx → Elt F .i32) (x5 : S32x1024.Idx → Elt F .i32)
    (k : Fin 4) (f : Fin 16 → FVec F S16x256 .f32) (acc : FVec F S64x256 .f32) : FVec F S64x256 .f32 :=
  ([0, 1, 2, 3] : List (Fin 4)).foldl (fun a g => addGroup a
    (wt n mx x5 k f ⟨4 * g.val, by omega⟩) (wt n mx x5 k f ⟨4 * g.val + 1, by omega⟩)
    (wt n mx x5 k f ⟨4 * g.val + 2, by omega⟩) (wt n mx x5 k f ⟨4 * g.val + 3, by omega⟩) (codes x4 g k)) acc

/-- Chunk number `k`, at most the last. -/
def chunk (k : ℕ) : Fin 4 := ⟨k % 4, by omega⟩

/-- The running maximum before chunk `k`. -/
def runMax (n : BitVec 32) (qb : FVec F S64x256 .bf16) (x3 : S256x1024.Idx → Elt F .i32) (x5 : S32x1024.Idx → Elt F .i32) :
    ℕ → FVec F S16x256 .f32
  | 0 => k0_pay208
  | k + 1 => maxStep (sc n qb x3 x5 (chunk k)) (runMax n qb x3 x5 k)

/-- The running sums before chunk `k`. -/
def runSum (n : BitVec 32) (qb : FVec F S64x256 .bf16) (mx : FVec F S16x1 .f32) (x3 : S256x1024.Idx → Elt F .i32)
    (x5 : S32x1024.Idx → Elt F .i32) : ℕ → FVec F S16x256 .f32
  | 0 => k0_pay214
  | k + 1 => sumStep mx (sc n qb x3 x5 (chunk k)) (runSum n qb mx x3 x5 k)

/-- The running block product before chunk `k`. -/
def runVal (n : BitVec 32) (qb : FVec F S64x256 .bf16) (mx : FVec F S16x1 .f32) (x3 x4 : S256x1024.Idx → Elt F .i32)
    (x5 : S32x1024.Idx → Elt F .i32) : ℕ → FVec F S64x256 .f32
  | 0 => k0_pay215
  | k + 1 => valStep n mx x4 x5 (chunk k) (sc n qb x3 x5 (chunk k)) (runVal n qb mx x3 x4 x5 k)

section
variable {m : Memref sig .tc .vmem S256x1024 .i32} (hm : m.IsWhole) (x : S256x1024.Idx → Elt F .i32)

/-- A load of 64 rows of a words window over chunk `k`. -/
theorem load_codes (g k : Fin 4) {off : Fin 2 → ℕ} (inb : ∀ a, off a + S64x256.size a ≤ S256x1024.size a)
    (ho : off = ![64 * g.val, 256 * k.val]) :
    View.readAt (Elt F) m.view (Rect.unit (s := S256x1024) off S64x256.size inb).toLoadRect (hm.unread x) = codes x g k := by
  subst ho; funext i
  rw [hm.readAt_unread]
  refine congrArg x (funext (Fin.forall_fin_two.mpr ⟨Fin.ext ?_, Fin.ext ?_⟩))
  · show 64 * g.val + 1 * (i 0).val = 64 * g.val + (i 0).val
    omega
  · show 256 * k.val + 1 * (i 1).val = 256 * k.val + (i 1).val
    omega
end

/-- A load of one row of the scale words over chunk `k`. -/
theorem load_scales {m : Memref sig .tc .vmem S32x1024 .i32} (hm : m.IsWhole) (x : S32x1024.Idx → Elt F .i32)
    (r : Fin 32) (k : Fin 4) {off : Fin 2 → ℕ} (inb : ∀ a, off a + S1x256.size a ≤ S32x1024.size a)
    (ho : off = ![r.val, 256 * k.val]) :
    View.readAt (Elt F) m.view (Rect.unit (s := S32x1024) off S1x256.size inb).toLoadRect (hm.unread x) = scales x r k := by
  subst ho; funext i
  rw [hm.readAt_unread]
  refine congrArg x (funext (Fin.forall_fin_two.mpr ⟨Fin.ext ?_, Fin.ext ?_⟩))
  · show r.val + 1 * (i 0).val = r.val
    have := (i 0).isLt
    simp at this
    omega
  · show 256 * k.val + 1 * (i 1).val = 256 * k.val + (i 1).val
    omega

/-- A load of a slot's 16 rows of the scratch over chunk `k`. -/
theorem load_cells {m : Memref sig .tc .vmem S256x1024 .f32} (G : m.view.ty.Contents (Elt F)) (s : Fin 16) (k : Fin 4)
    (w : FVec F S16x256 .f32) (hG : ∀ i, m.view.read (Elt F) G (cell k s i) = w i)
    {off : Fin 2 → ℕ} (inb : ∀ a, off a + S16x256.size a ≤ S256x1024.size a)
    (ho : off = ![16 * s.val, 256 * k.val]) :
    View.readAt (Elt F) m.view (Rect.unit (s := S256x1024) off S16x256.size inb).toLoadRect G = w := by
  subst ho; funext i
  rw [← hG i]
  refine congrArg (m.view.read (Elt F) G) (funext (Fin.forall_fin_two.mpr ⟨Fin.ext ?_, Fin.ext ?_⟩))
  · show 16 * s.val + 1 * (i 0).val = 16 * s.val + (i 0).val
    omega
  · show 256 * k.val + 1 * (i 1).val = 256 * k.val + (i 1).val
    omega

theorem cell_inb (k : Fin 4) (s : Fin 16) : ∀ a, (![16 * s.val, 256 * k.val] : Fin 2 → ℕ) a + S16x256.size a ≤ S256x1024.size a :=
  Fin.forall_fin_two.mpr ⟨by show 16 * s.val + 16 ≤ 256; omega, by show 256 * k.val + 256 ≤ 1024; omega⟩

/-- The piece of the scratch a slot's scores over chunk `k` are written to. -/
def cellPiece (k : Fin 4) (f : Fin 16 → FVec F S16x256 .f32) (s : Fin 16) : View.Piece (Elt F) S256x1024 .f32 :=
  ⟨Rect.unit (s := S256x1024) ![16 * s.val, 256 * k.val] S16x256.size (cell_inb k s), f s⟩

theorem piece_eq {off off' : Fin 2 → ℕ} {inb : ∀ a, off a + S16x256.size a ≤ S256x1024.size a}
    {inb' : ∀ a, off' a + S16x256.size a ≤ S256x1024.size a} {w w' : FVec F S16x256 .f32} (ho : off = off') (hw : w = w') :
    (⟨Rect.unit (s := S256x1024) off S16x256.size inb, w⟩ : View.Piece (Elt F) S256x1024 .f32)
      = ⟨Rect.unit (s := S256x1024) off' S16x256.size inb', w'⟩ := by
  subst ho; subst hw; rfl

/-- Reading the scratch after one chunk's slots were written: that chunk's scores, else what was there. -/
theorem read_cells (v : View sig .tc .vmem S256x1024 .f32) (f0 : v.ty.Contents (Elt F)) (k k' : Fin 4)
    (f : Fin 16 → FVec F S16x256 .f32) (L : List (View.Piece (Elt F) S256x1024 .f32)) (s : Fin 16) (i : S16x256.Idx)
    (l : List (Fin 16)) :
    v.read (Elt F) (v.writes (Elt F) f0 (l.map (cellPiece k f) ++ L)) (cell k' s i)
      = if k' = k ∧ s ∈ l then f s i else v.read (Elt F) (v.writes (Elt F) f0 L) (cell k' s i) := by
  have hi0 : (i 0).val < 16 := (i 0).isLt
  have hi1 : (i 1).val < 256 := (i 1).isLt
  induction l with
  | nil => simp
  | cons t l ih =>
    rw [List.map_cons, List.cons_append]
    by_cases hk : k' = k
    · subst hk
      by_cases hs : s = t
      · subst hs
        rw [if_pos ⟨rfl, List.mem_cons_self⟩]
        exact View.read_writes_cons_unit_of_mem v f0 (cell_inb k' s) (f s) _ (cell k' s i) i rfl
          (Fin.forall_fin_two.mpr ⟨rfl, rfl⟩)
      · refine (View.read_writes_cons_unit_of_not_mem v f0 (cell_inb k' t) (f t) _ (cell k' s i) rfl 0 ?_).trans ?_
        · show 16 * s.val + (i 0).val < 16 * t.val ∨ 16 * t.val + 16 ≤ 16 * s.val + (i 0).val
          have : s.val ≠ t.val := fun h => hs (Fin.ext h)
          omega
        · rw [ih]; simp [hs]
    · refine (View.read_writes_cons_unit_of_not_mem v f0 (cell_inb k t) (f t) _ (cell k' s i) rfl 1 ?_).trans ?_
      · show 256 * k'.val + (i 1).val < 256 * k.val ∨ 256 * k.val + 256 ≤ 256 * k'.val + (i 1).val
        have : k'.val ≠ k.val := fun h => hk (Fin.ext h)
        omega
      · rw [ih]; simp [hk]

end Cert.KernelIdeal.Attend

end
-- ==== Proof.KernelIdeal.ScoreState.lean ====
/- The score loop before each chunk: its running maximum, and the scratch it has written. -/
module

public import proofs.«01_k».proof.Proof.KernelIdeal.ScoreTrip
public import proofs.«01_k».proof.Proof.KernelIdeal.Spec

@[expose] public section

set_option maxRecDepth 16384

noncomputable section

namespace Cert.KernelIdeal.Attend

open Cert.KernelIdeal.Gen
open Idealize.ShloMosaic Idealize.ShloMosaic.TcCoe Idealize.ShloMosaic.Tactic

variable {F : FTy → Type} [FloatOps F]

/-- A trip of the score loop takes its chunk's scores into the running maximum. -/
theorem scores_step (𝒱 : Variants) (c : Dev nD) (bd : Option 𝒱.V) (i : grid0.Coords) (arg1 : Memref sig .tc .smem S32 .i32) (harg1 : arg1.IsWhole) (arg2 : Memref sig .tc .vmem S1x16x64 .bf16) (harg2 : arg2.IsWhole) (arg3 : Memref sig .tc .vmem S1x1x64 .bf16) (harg3 : arg3.IsWhole) (arg4 : Memref sig .tc .vmem S1x1x64 .bf16) (harg4 : arg4.IsWhole) (arg5 : Memref sig .tc .vmem S256x1024 .i32) (harg5 : arg5.IsWhole) (arg6 : Memref sig .tc .vmem S256x1024 .i32) (harg6 : arg6.IsWhole) (arg7 : Memref sig .tc .vmem S32x1024 .i32) (harg7 : arg7.IsWhole) (arg8 : Memref sig .tc .vmem S1x16x64 .bf16) (harg8 : arg8.IsWhole) (arg9 : Memref sig .tc .vmem S1x1x64 .i8) (harg9 : arg9.IsWhole) (arg10 : Memref sig .tc .vmem S1x1x128 .f32) (harg10 : arg10.IsWhole) (arg11 : Memref sig .tc .vmem S1x1x64 .i8) (harg11 : arg11.IsWhole) (arg12 : Memref sig .tc .vmem S1x1x128 .f32) (harg12 : arg12.IsWhole) (arg13 : Memref sig .tc .vmem S256x1024 .f32) (harg13 : arg13.IsWhole) (v1 : Elt F .i32) (k0_hw1 : k0_chk1 v1) (v19 : BitVec 32) (v31 : FVec F S1x1 .f32) (v38 : FVec F S1x64 .f32) (v77 : FVec F S16x64 .bf16) (v79 : FVec F S64x256 .bf16) (v104 : IVec S64x256 32) (v105 : IVec S64x256 32) (c64_i32 : BitVec 32) (v107 : IVec S64x256 32) (v114 : IVec S64x256 32) (v120 : IVec S64x256 32) (k : Fin (k0_t1_loop v1).trips) (x3 : S256x1024.Idx → Elt F .i32) (x5 : S32x1024.Idx → Elt F .i32) (hk : k.val < 4) (acc) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (harg5.unread x3) (harg7.unread x5) k).1 acc = maxStep (sc v1 (k0_pay206 v79 v104 v105 c64_i32 v107 v114 v120) x3 x5 ⟨k.val, hk⟩) acc := by
  rw [scores_yield,
    load_codes harg5 x3 0 ⟨k.val, hk⟩ (off := k0_off2 v1 k) _ (funext (Fin.forall_fin_two.mpr ⟨rfl, chunk_word k.val hk⟩)),
    load_codes harg5 x3 1 ⟨k.val, hk⟩ (off := k0_off11 v1 k) _ (funext (Fin.forall_fin_two.mpr ⟨rfl, chunk_word k.val hk⟩)),
    load_codes harg5 x3 2 ⟨k.val, hk⟩ (off := k0_off20 v1 k) _ (funext (Fin.forall_fin_two.mpr ⟨rfl, chunk_word k.val hk⟩)),
    load_codes harg5 x3 3 ⟨k.val, hk⟩ (off := k0_off29 v1 k) _ (funext (Fin.forall_fin_two.mpr ⟨rfl, chunk_word k.val hk⟩)),
    load_scales harg7 x5 0 ⟨k.val, hk⟩ (off := k0_off3 v1 k) _ (funext (Fin.forall_fin_two.mpr ⟨rfl, chunk_word k.val hk⟩)),
    load_scales harg7 x5 1 ⟨k.val, hk⟩ (off := k0_off5 v1 k) _ (funext (Fin.forall_fin_two.mpr ⟨rfl, chunk_word k.val hk⟩)),
    load_scales harg7 x5 2 ⟨k.val, hk⟩ (off := k0_off7 v1 k) _ (funext (Fin.forall_fin_two.mpr ⟨rfl, chunk_word k.val hk⟩)),
    load_scales harg7 x5 3 ⟨k.val, hk⟩ (off := k0_off9 v1 k) _ (funext (Fin.forall_fin_two.mpr ⟨rfl, chunk_word k.val hk⟩)),
    load_scales harg7 x5 4 ⟨k.val, hk⟩ (off := k0_off12 v1 k) _ (funext (Fin.forall_fin_two.mpr ⟨rfl, chunk_word k.val hk⟩)),
    load_scales harg7 x5 5 ⟨k.val, hk⟩ (off := k0_off14 v1 k) _ (funext (Fin.forall_fin_two.mpr ⟨rfl, chunk_word k.val hk⟩)),
    load_scales harg7 x5 6 ⟨k.val, hk⟩ (off := k0_off16 v1 k) _ (funext (Fin.forall_fin_two.mpr ⟨rfl, chunk_word k.val hk⟩)),
    load_scales harg7 x5 7 ⟨k.val, hk⟩ (off := k0_off18 v1 k) _ (funext (Fin.forall_fin_two.mpr ⟨rfl, chunk_word k.val hk⟩)),
    load_scales harg7 x5 8 ⟨k.val, hk⟩ (off := k0_off21 v1 k) _ (funext (Fin.forall_fin_two.mpr ⟨rfl, chunk_word k.val hk⟩)),
    load_scales harg7 x5 9 ⟨k.val, hk⟩ (off := k0_off23 v1 k) _ (funext (Fin.forall_fin_two.mpr ⟨rfl, chunk_word k.val hk⟩)),
    load_scales harg7 x5 10 ⟨k.val, hk⟩ (off := k0_off25 v1 k) _ (funext (Fin.forall_fin_two.mpr ⟨rfl, chunk_word k.val hk⟩)),
    load_scales harg7 x5 11 ⟨k.val, hk⟩ (off := k0_off27 v1 k) _ (funext (Fin.forall_fin_two.mpr ⟨rfl, chunk_word k.val hk⟩)),
    load_scales harg7 x5 12 ⟨k.val, hk⟩ (off := k0_off30 v1 k) _ (funext (Fin.forall_fin_two.mpr ⟨rfl, chunk_word k.val hk⟩)),
    load_scales harg7 x5 13 ⟨k.val, hk⟩ (off := k0_off32 v1 k) _ (funext (Fin.forall_fin_two.mpr ⟨rfl, chunk_word k.val hk⟩)),
    load_scales harg7 x5 14 ⟨k.val, hk⟩ (off := k0_off34 v1 k) _ (funext (Fin.forall_fin_two.mpr ⟨rfl, chunk_word k.val hk⟩)),
    load_scales harg7 x5 15 ⟨k.val, hk⟩ (off := k0_off36 v1 k) _ (funext (Fin.forall_fin_two.mpr ⟨rfl, chunk_word k.val hk⟩))]
  rfl

/-- A trip of the score loop writes its chunk's scores, one piece a slot. -/
theorem scores_written (𝒱 : Variants) (c : Dev nD) (bd : Option 𝒱.V) (i : grid0.Coords) (arg1 : Memref sig .tc .smem S32 .i32) (harg1 : arg1.IsWhole) (arg2 : Memref sig .tc .vmem S1x16x64 .bf16) (harg2 : arg2.IsWhole) (arg3 : Memref sig .tc .vmem S1x1x64 .bf16) (harg3 : arg3.IsWhole) (arg4 : Memref sig .tc .vmem S1x1x64 .bf16) (harg4 : arg4.IsWhole) (arg5 : Memref sig .tc .vmem S256x1024 .i32) (harg5 : arg5.IsWhole) (arg6 : Memref sig .tc .vmem S256x1024 .i32) (harg6 : arg6.IsWhole) (arg7 : Memref sig .tc .vmem S32x1024 .i32) (harg7 : arg7.IsWhole) (arg8 : Memref sig .tc .vmem S1x16x64 .bf16) (harg8 : arg8.IsWhole) (arg9 : Memref sig .tc .vmem S1x1x64 .i8) (harg9 : arg9.IsWhole) (arg10 : Memref sig .tc .vmem S1x1x128 .f32) (harg10 : arg10.IsWhole) (arg11 : Memref sig .tc .vmem S1x1x64 .i8) (harg11 : arg11.IsWhole) (arg12 : Memref sig .tc .vmem S1x1x128 .f32) (harg12 : arg12.IsWhole) (arg13 : Memref sig .tc .vmem S256x1024 .f32) (harg13 : arg13.IsWhole) (v1 : Elt F .i32) (k0_hw1 : k0_chk1 v1) (v19 : BitVec 32) (v31 : FVec F S1x1 .f32) (v38 : FVec F S1x64 .f32) (v77 : FVec F S16x64 .bf16) (v79 : FVec F S64x256 .bf16) (v104 : IVec S64x256 32) (v105 : IVec S64x256 32) (c64_i32 : BitVec 32) (v107 : IVec S64x256 32) (v114 : IVec S64x256 32) (v120 : IVec S64x256 32) (k : Fin (k0_t1_loop v1).trips) (x3 : S256x1024.Idx → Elt F .i32) (x5 : S32x1024.Idx → Elt F .i32) (hk : k.val < 4) (acc) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (harg5.unread x3) (harg7.unread x5) k).2.1 acc = slots.reverse.map (cellPiece ⟨k.val, hk⟩ (sc v1 (k0_pay206 v79 v104 v105 c64_i32 v107 v114 v120) x3 x5 ⟨k.val, hk⟩)) := by
  rw [scores_pieces,
    load_codes harg5 x3 0 ⟨k.val, hk⟩ (off := k0_off2 v1 k) _ (funext (Fin.forall_fin_two.mpr ⟨rfl, chunk_word k.val hk⟩)),
    load_codes harg5 x3 1 ⟨k.val, hk⟩ (off := k0_off11 v1 k) _ (funext (Fin.forall_fin_two.mpr ⟨rfl, chunk_word k.val hk⟩)),
    load_codes harg5 x3 2 ⟨k.val, hk⟩ (off := k0_off20 v1 k) _ (funext (Fin.forall_fin_two.mpr ⟨rfl, chunk_word k.val hk⟩)),
    load_codes harg5 x3 3 ⟨k.val, hk⟩ (off := k0_off29 v1 k) _ (funext (Fin.forall_fin_two.mpr ⟨rfl, chunk_word k.val hk⟩)),
    load_scales harg7 x5 0 ⟨k.val, hk⟩ (off := k0_off3 v1 k) _ (funext (Fin.forall_fin_two.mpr ⟨rfl, chunk_word k.val hk⟩)),
    load_scales harg7 x5 1 ⟨k.val, hk⟩ (off := k0_off5 v1 k) _ (funext (Fin.forall_fin_two.mpr ⟨rfl, chunk_word k.val hk⟩)),
    load_scales harg7 x5 2 ⟨k.val, hk⟩ (off := k0_off7 v1 k) _ (funext (Fin.forall_fin_two.mpr ⟨rfl, chunk_word k.val hk⟩)),
    load_scales harg7 x5 3 ⟨k.val, hk⟩ (off := k0_off9 v1 k) _ (funext (Fin.forall_fin_two.mpr ⟨rfl, chunk_word k.val hk⟩)),
    load_scales harg7 x5 4 ⟨k.val, hk⟩ (off := k0_off12 v1 k) _ (funext (Fin.forall_fin_two.mpr ⟨rfl, chunk_word k.val hk⟩)),
    load_scales harg7 x5 5 ⟨k.val, hk⟩ (off := k0_off14 v1 k) _ (funext (Fin.forall_fin_two.mpr ⟨rfl, chunk_word k.val hk⟩)),
    load_scales harg7 x5 6 ⟨k.val, hk⟩ (off := k0_off16 v1 k) _ (funext (Fin.forall_fin_two.mpr ⟨rfl, chunk_word k.val hk⟩)),
    load_scales harg7 x5 7 ⟨k.val, hk⟩ (off := k0_off18 v1 k) _ (funext (Fin.forall_fin_two.mpr ⟨rfl, chunk_word k.val hk⟩)),
    load_scales harg7 x5 8 ⟨k.val, hk⟩ (off := k0_off21 v1 k) _ (funext (Fin.forall_fin_two.mpr ⟨rfl, chunk_word k.val hk⟩)),
    load_scales harg7 x5 9 ⟨k.val, hk⟩ (off := k0_off23 v1 k) _ (funext (Fin.forall_fin_two.mpr ⟨rfl, chunk_word k.val hk⟩)),
    load_scales harg7 x5 10 ⟨k.val, hk⟩ (off := k0_off25 v1 k) _ (funext (Fin.forall_fin_two.mpr ⟨rfl, chunk_word k.val hk⟩)),
    load_scales harg7 x5 11 ⟨k.val, hk⟩ (off := k0_off27 v1 k) _ (funext (Fin.forall_fin_two.mpr ⟨rfl, chunk_word k.val hk⟩)),
    load_scales harg7 x5 12 ⟨k.val, hk⟩ (off := k0_off30 v1 k) _ (funext (Fin.forall_fin_two.mpr ⟨rfl, chunk_word k.val hk⟩)),
    load_scales harg7 x5 13 ⟨k.val, hk⟩ (off := k0_off32 v1 k) _ (funext (Fin.forall_fin_two.mpr ⟨rfl, chunk_word k.val hk⟩)),
    load_scales harg7 x5 14 ⟨k.val, hk⟩ (off := k0_off34 v1 k) _ (funext (Fin.forall_fin_two.mpr ⟨rfl, chunk_word k.val hk⟩)),
    load_scales harg7 x5 15 ⟨k.val, hk⟩ (off := k0_off36 v1 k) _ (funext (Fin.forall_fin_two.mpr ⟨rfl, chunk_word k.val hk⟩))]
  have hp : ∀ (w : FVec F S16x256 .f32), shapeCast S16x256 w shapeCasts_S16x256_S16x256 = w := fun w => shapeCast_id w _
  simp only [hp]
  exact congrArg₂ List.cons
    (piece_eq (off := k0_off37 v1 k) (off' := ![16 * (15 : Fin 16).val, 256 * k.val]) (funext (Fin.forall_fin_two.mpr ⟨rfl, chunk_word k.val hk⟩)) rfl) (
congrArg₂ List.cons
    (piece_eq (off := k0_off35 v1 k) (off' := ![16 * (14 : Fin 16).val, 256 * k.val]) (funext (Fin.forall_fin_two.mpr ⟨rfl, chunk_word k.val hk⟩)) rfl) (
congrArg₂ List.cons
    (piece_eq (off := k0_off33 v1 k) (off' := ![16 * (13 : Fin 16).val, 256 * k.val]) (funext (Fin.forall_fin_two.mpr ⟨rfl, chunk_word k.val hk⟩)) rfl) (
congrArg₂ List.cons
    (piece_eq (off := k0_off31 v1 k) (off' := ![16 * (12 : Fin 16).val, 256 * k.val]) (funext (Fin.forall_fin_two.mpr ⟨rfl, chunk_word k.val hk⟩)) rfl) (
congrArg₂ List.cons
    (piece_eq (off := k0_off28 v1 k) (off' := ![16 * (11 : Fin 16).val, 256 * k.val]) (funext (Fin.forall_fin_two.mpr ⟨rfl, chunk_word k.val hk⟩)) rfl) (
congrArg₂ List.cons
    (piece_eq (off := k0_off26 v1 k) (off' := ![16 * (10 : Fin 16).val, 256 * k.val]) (funext (Fin.forall_fin_two.mpr ⟨rfl, chunk_word k.val hk⟩)) rfl) (
congrArg₂ List.cons
    (piece_eq (off := k0_off24 v1 k) (off' := ![16 * (9 : Fin 16).val, 256 * k.val]) (funext (Fin.forall_fin_two.mpr ⟨rfl, chunk_word k.val hk⟩)) rfl) (
congrArg₂ List.cons
    (piece_eq (off := k0_off22 v1 k) (off' := ![16 * (8 : Fin 16).val, 256 * k.val]) (funext (Fin.forall_fin_two.mpr ⟨rfl, chunk_word k.val hk⟩)) rfl) (
congrArg₂ List.cons
    (piece_eq (off := k0_off19 v1 k) (off' := ![16 * (7 : Fin 16).val, 256 * k.val]) (funext (Fin.forall_fin_two.mpr ⟨rfl, chunk_word k.val hk⟩)) rfl) (
congrArg₂ List.cons
    (piece_eq (off := k0_off17 v1 k) (off' := ![16 * (6 : Fin 16).val, 256 * k.val]) (funext (Fin.forall_fin_two.mpr ⟨rfl, chunk_word k.val hk⟩)) rfl) (
congrArg₂ List.cons
    (piece_eq (off := k0_off15 v1 k) (off' := ![16 * (5 : Fin 16).val, 256 * k.val]) (funext (Fin.forall_fin_two.mpr ⟨rfl, chunk_word k.val hk⟩)) rfl) (
congrArg₂ List.cons
    (piece_eq (off := k0_off13 v1 k) (off' := ![16 * (4 : Fin 16).val, 256 * k.val]) (funext (Fin.forall_fin_two.mpr ⟨rfl, chunk_word k.val hk⟩)) rfl) (
congrArg₂ List.cons
    (piece_eq (off := k0_off10 v1 k) (off' := ![16 * (3 : Fin 16).val, 256 * k.val]) (funext (Fin.forall_fin_two.mpr ⟨rfl, chunk_word k.val hk⟩)) rfl) (
congrArg₂ List.cons
    (piece_eq (off := k0_off8 v1 k) (off' := ![16 * (2 : Fin 16).val, 256 * k.val]) (funext (Fin.forall_fin_two.mpr ⟨rfl, chunk_word k.val hk⟩)) rfl) (
congrArg₂ List.cons
    (piece_eq (off := k0_off6 v1 k) (off' := ![16 * (1 : Fin 16).val, 256 * k.val]) (funext (Fin.forall_fin_two.mpr ⟨rfl, chunk_word k.val hk⟩)) rfl) (
congrArg₂ List.cons
    (piece_eq (off := k0_off4 v1 k) (off' := ![16 * (0 : Fin 16).val, 256 * k.val]) (funext (Fin.forall_fin_two.mpr ⟨rfl, chunk_word k.val hk⟩)) rfl) (rfl))))))))))))))))

/-- The running maximum before chunk `k` of the score loop. -/
theorem scores_max (𝒱 : Variants) (c : Dev nD) (bd : Option 𝒱.V) (i : grid0.Coords) (arg1 : Memref sig .tc .smem S32 .i32) (harg1 : arg1.IsWhole) (arg2 : Memref sig .tc .vmem S1x16x64 .bf16) (harg2 : arg2.IsWhole) (arg3 : Memref sig .tc .vmem S1x1x64 .bf16) (harg3 : arg3.IsWhole) (arg4 : Memref sig .tc .vmem S1x1x64 .bf16) (harg4 : arg4.IsWhole) (arg5 : Memref sig .tc .vmem S256x1024 .i32) (harg5 : arg5.IsWhole) (arg6 : Memref sig .tc .vmem S256x1024 .i32) (harg6 : arg6.IsWhole) (arg7 : Memref sig .tc .vmem S32x1024 .i32) (harg7 : arg7.IsWhole) (arg8 : Memref sig .tc .vmem S1x16x64 .bf16) (harg8 : arg8.IsWhole) (arg9 : Memref sig .tc .vmem S1x1x64 .i8) (harg9 : arg9.IsWhole) (arg10 : Memref sig .tc .vmem S1x1x128 .f32) (harg10 : arg10.IsWhole) (arg11 : Memref sig .tc .vmem S1x1x64 .i8) (harg11 : arg11.IsWhole) (arg12 : Memref sig .tc .vmem S1x1x128 .f32) (harg12 : arg12.IsWhole) (arg13 : Memref sig .tc .vmem S256x1024 .f32) (harg13 : arg13.IsWhole) (v1 : Elt F .i32) (k0_hw1 : k0_chk1 v1) (v19 : BitVec 32) (v31 : FVec F S1x1 .f32) (v38 : FVec F S1x64 .f32) (v77 : FVec F S16x64 .bf16) (v79 : FVec F S64x256 .bf16) (v104 : IVec S64x256 32) (v105 : IVec S64x256 32) (c64_i32 : BitVec 32) (v107 : IVec S64x256 32) (v114 : IVec S64x256 32) (v120 : IVec S64x256 32) (x3 : S256x1024.Idx → Elt F .i32) (x5 : S32x1024.Idx → Elt F .i32) (hL : v1.toInt ≤ 16384) (k : ℕ) (hk : k ≤ (k0_t1_loop v1).trips) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (harg5.unread x3) (harg7.unread x5) k0_pay208 k).1 = runMax v1 (k0_pay206 v79 v104 v105 c64_i32 v107 v114 v120) x3 x5 k := by
  induction k with
  | zero => rfl
  | succ k ih =>
    have hk4 : k < 4 := by have := trips_le v1 hL; omega
    have e : chunk k = ⟨k, hk4⟩ := Fin.ext (Nat.mod_eq_of_lt hk4)
    have hs := congrArg Prod.fst (st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (harg5.unread x3) (harg7.unread x5) k0_pay208 ⟨k, hk⟩)
    refine hs.trans ?_
    refine (scores_step 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120  ⟨k, hk⟩ x3 x5 hk4 _).trans ?_
    rw [ih (by omega), runMax, e]

/-- The scratch before chunk `k` of the score loop holds the scores of the chunks before it. -/
theorem scores_read (𝒱 : Variants) (c : Dev nD) (bd : Option 𝒱.V) (i : grid0.Coords) (arg1 : Memref sig .tc .smem S32 .i32) (harg1 : arg1.IsWhole) (arg2 : Memref sig .tc .vmem S1x16x64 .bf16) (harg2 : arg2.IsWhole) (arg3 : Memref sig .tc .vmem S1x1x64 .bf16) (harg3 : arg3.IsWhole) (arg4 : Memref sig .tc .vmem S1x1x64 .bf16) (harg4 : arg4.IsWhole) (arg5 : Memref sig .tc .vmem S256x1024 .i32) (harg5 : arg5.IsWhole) (arg6 : Memref sig .tc .vmem S256x1024 .i32) (harg6 : arg6.IsWhole) (arg7 : Memref sig .tc .vmem S32x1024 .i32) (harg7 : arg7.IsWhole) (arg8 : Memref sig .tc .vmem S1x16x64 .bf16) (harg8 : arg8.IsWhole) (arg9 : Memref sig .tc .vmem S1x1x64 .i8) (harg9 : arg9.IsWhole) (arg10 : Memref sig .tc .vmem S1x1x128 .f32) (harg10 : arg10.IsWhole) (arg11 : Memref sig .tc .vmem S1x1x64 .i8) (harg11 : arg11.IsWhole) (arg12 : Memref sig .tc .vmem S1x1x128 .f32) (harg12 : arg12.IsWhole) (arg13 : Memref sig .tc .vmem S256x1024 .f32) (harg13 : arg13.IsWhole) (v1 : Elt F .i32) (k0_hw1 : k0_chk1 v1) (v19 : BitVec 32) (v31 : FVec F S1x1 .f32) (v38 : FVec F S1x64 .f32) (v77 : FVec F S16x64 .bf16) (v79 : FVec F S64x256 .bf16) (v104 : IVec S64x256 32) (v105 : IVec S64x256 32) (c64_i32 : BitVec 32) (v107 : IVec S64x256 32) (v114 : IVec S64x256 32) (v120 : IVec S64x256 32) (x3 : S256x1024.Idx → Elt F .i32) (x5 : S32x1024.Idx → Elt F .i32) (hL : v1.toInt ≤ 16384) (f0 : arg13.view.ty.Contents (Elt F)) (k : ℕ) (hk : k ≤ (k0_t1_loop v1).trips)
    (k' : Fin 4) (hk' : k'.val < k) (s : Fin 16) (y : S16x256.Idx) :
    arg13.view.read (Elt F) (arg13.view.writes (Elt F) f0 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (harg5.unread x3) (harg7.unread x5) k0_pay208 k).2) (cell k' s y) = sc v1 (k0_pay206 v79 v104 v105 c64_i32 v107 v114 v120) x3 x5 k' s y := by
  induction k with
  | zero => omega
  | succ k ih =>
    have hk4 : k < 4 := by have := trips_le v1 hL; omega
    have hs := congrArg Prod.snd (st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (harg5.unread x3) (harg7.unread x5) k0_pay208 ⟨k, hk⟩)
    have hw := scores_written 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120  ⟨k, hk⟩ x3 x5 hk4 ((st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (harg5.unread x3) (harg7.unread x5) k0_pay208 k).1)
    refine (congrArg (fun L => arg13.view.read (Elt F) (arg13.view.writes (Elt F) f0 L) (cell k' s y)) (hs.trans (congrArg (· ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (harg5.unread x3) (harg7.unread x5) k0_pay208 k).2) hw))).trans ?_
    refine (read_cells arg13.view f0 ⟨k, hk4⟩ k' _ _ s y slots.reverse).trans ?_
    by_cases h : k' = ⟨k, hk4⟩
    · rw [if_pos ⟨h, mem_slots s⟩, h]
    · rw [if_neg (fun hh => h hh.1)]
      exact ih (by omega) (by have : k'.val ≠ k := fun hh => h (Fin.ext hh); omega)

end Cert.KernelIdeal.Attend

end
-- ==== Proof.KernelIdeal.ValueTrip.lean ====
/- One trip of the value loop, in the terms of Slot.lean. -/
module

public import proofs.«01_k».proof.Proof.KernelIdeal.Slot
public import proofs.«01_k».proof.Proof.Gen.KernelIdeal.Loops

@[expose] public section

set_option maxRecDepth 16384

noncomputable section

namespace Cert.KernelIdeal.Attend

open Cert.KernelIdeal.Gen
open Idealize.ShloMosaic Idealize.ShloMosaic.TcCoe Idealize.ShloMosaic.Tactic

variable {F : FTy → Type} [FloatOps F]

/-- What a trip of the value loop yields: the running sum of weights and the running block product. -/
theorem values_yield (𝒱 : Variants) (c : Dev nD) (bd : Option 𝒱.V) (i : grid0.Coords) (arg1 : Memref sig .tc .smem S32 .i32) (harg1 : arg1.IsWhole) (arg2 : Memref sig .tc .vmem S1x16x64 .bf16) (harg2 : arg2.IsWhole) (arg3 : Memref sig .tc .vmem S1x1x64 .bf16) (harg3 : arg3.IsWhole) (arg4 : Memref sig .tc .vmem S1x1x64 .bf16) (harg4 : arg4.IsWhole) (arg5 : Memref sig .tc .vmem S256x1024 .i32) (harg5 : arg5.IsWhole) (arg6 : Memref sig .tc .vmem S256x1024 .i32) (harg6 : arg6.IsWhole) (arg7 : Memref sig .tc .vmem S32x1024 .i32) (harg7 : arg7.IsWhole) (arg8 : Memref sig .tc .vmem S1x16x64 .bf16) (harg8 : arg8.IsWhole) (arg9 : Memref sig .tc .vmem S1x1x64 .i8) (harg9 : arg9.IsWhole) (arg10 : Memref sig .tc .vmem S1x1x128 .f32) (harg10 : arg10.IsWhole) (arg11 : Memref sig .tc .vmem S1x1x64 .i8) (harg11 : arg11.IsWhole) (arg12 : Memref sig .tc .vmem S1x1x128 .f32) (harg12 : arg12.IsWhole) (arg13 : Memref sig .tc .vmem S256x1024 .f32) (harg13 : arg13.IsWhole) (v1 : Elt F .i32) (k0_hw1 : k0_chk1 v1) (v19 : BitVec 32) (v31 : FVec F S1x1 .f32) (v38 : FVec F S1x64 .f32) (v77 : FVec F S16x64 .bf16) (v79 : FVec F S64x256 .bf16) (v104 : IVec S64x256 32) (v105 : IVec S64x256 32) (c64_i32 : BitVec 32) (v107 : IVec S64x256 32) (v114 : IVec S64x256 32) (v120 : IVec S64x256 32) (v149 : FVec F S16x256 .f32) (X_arg6 : BufTy.Contents (Elt F) arg6.view.ty) (X_arg7 : BufTy.Contents (Elt F) arg7.view.ty) (X_arg13 : BufTy.Contents (Elt F) arg13.view.ty) (k : Fin (k0_t3_loop v1).trips) (acc : FVec F S16x256 .f32 × FVec F S64x256 .f32) :
    (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 v149 X_arg6 X_arg7 X_arg13 k).1 acc = ((addf (addf (addf (addf (addf (addf (addf (addf (addf (addf (addf (addf (addf (addf (addf (addf acc.1
    (weight (k0_pay213 v31 v38 v77 v149) (View.readAt (Elt F) arg13.view (Rect.unit (s := S256x1024) (k0_off74 v1 k) S16x256.size (k0_off74_inb v1 k0_hw1 k)).toLoadRect X_arg13)))
    (weight (k0_pay213 v31 v38 v77 v149) (View.readAt (Elt F) arg13.view (Rect.unit (s := S256x1024) (k0_off76 v1 k) S16x256.size (k0_off76_inb v1 k0_hw1 k)).toLoadRect X_arg13)))
    (weight (k0_pay213 v31 v38 v77 v149) (View.readAt (Elt F) arg13.view (Rect.unit (s := S256x1024) (k0_off78 v1 k) S16x256.size (k0_off78_inb v1 k0_hw1 k)).toLoadRect X_arg13)))
    (weight (k0_pay213 v31 v38 v77 v149) (View.readAt (Elt F) arg13.view (Rect.unit (s := S256x1024) (k0_off80 v1 k) S16x256.size (k0_off80_inb v1 k0_hw1 k)).toLoadRect X_arg13)))
    (weight (k0_pay213 v31 v38 v77 v149) (View.readAt (Elt F) arg13.view (Rect.unit (s := S256x1024) (k0_off83 v1 k) S16x256.size (k0_off83_inb v1 k0_hw1 k)).toLoadRect X_arg13)))
    (weight (k0_pay213 v31 v38 v77 v149) (View.readAt (Elt F) arg13.view (Rect.unit (s := S256x1024) (k0_off85 v1 k) S16x256.size (k0_off85_inb v1 k0_hw1 k)).toLoadRect X_arg13)))
    (weight (k0_pay213 v31 v38 v77 v149) (View.readAt (Elt F) arg13.view (Rect.unit (s := S256x1024) (k0_off87 v1 k) S16x256.size (k0_off87_inb v1 k0_hw1 k)).toLoadRect X_arg13)))
    (weight (k0_pay213 v31 v38 v77 v149) (View.readAt (Elt F) arg13.view (Rect.unit (s := S256x1024) (k0_off89 v1 k) S16x256.size (k0_off89_inb v1 k0_hw1 k)).toLoadRect X_arg13)))
    (weight (k0_pay213 v31 v38 v77 v149) (View.readAt (Elt F) arg13.view (Rect.unit (s := S256x1024) (k0_off92 v1 k) S16x256.size (k0_off92_inb v1 k0_hw1 k)).toLoadRect X_arg13)))
    (weight (k0_pay213 v31 v38 v77 v149) (View.readAt (Elt F) arg13.view (Rect.unit (s := S256x1024) (k0_off94 v1 k) S16x256.size (k0_off94_inb v1 k0_hw1 k)).toLoadRect X_arg13)))
    (weight (k0_pay213 v31 v38 v77 v149) (View.readAt (Elt F) arg13.view (Rect.unit (s := S256x1024) (k0_off96 v1 k) S16x256.size (k0_off96_inb v1 k0_hw1 k)).toLoadRect X_arg13)))
    (weight (k0_pay213 v31 v38 v77 v149) (View.readAt (Elt F) arg13.view (Rect.unit (s := S256x1024) (k0_off98 v1 k) S16x256.size (k0_off98_inb v1 k0_hw1 k)).toLoadRect X_arg13)))
    (weight (k0_pay213 v31 v38 v77 v149) (View.readAt (Elt F) arg13.view (Rect.unit (s := S256x1024) (k0_off101 v1 k) S16x256.size (k0_off101_inb v1 k0_hw1 k)).toLoadRect X_arg13)))
    (weight (k0_pay213 v31 v38 v77 v149) (View.readAt (Elt F) arg13.view (Rect.unit (s := S256x1024) (k0_off103 v1 k) S16x256.size (k0_off103_inb v1 k0_hw1 k)).toLoadRect X_arg13)))
    (weight (k0_pay213 v31 v38 v77 v149) (View.readAt (Elt F) arg13.view (Rect.unit (s := S256x1024) (k0_off105 v1 k) S16x256.size (k0_off105_inb v1 k0_hw1 k)).toLoadRect X_arg13)))
    (weight (k0_pay213 v31 v38 v77 v149) (View.readAt (Elt F) arg13.view (Rect.unit (s := S256x1024) (k0_off107 v1 k) S16x256.size (k0_off107_inb v1 k0_hw1 k)).toLoadRect X_arg13))),
    (addGroup (addGroup (addGroup (addGroup acc.2
    (weighted v1 (k0_pay213 v31 v38 v77 v149) k.val 0#32 (View.readAt (Elt F) arg13.view (Rect.unit (s := S256x1024) (k0_off74 v1 k) S16x256.size (k0_off74_inb v1 k0_hw1 k)).toLoadRect X_arg13) (View.readAt (Elt F) arg7.view (Rect.unit (s := S32x1024) (k0_off75 v1 k) S1x256.size (k0_off75_inb v1 k0_hw1 k)).toLoadRect X_arg7))
    (weighted v1 (k0_pay213 v31 v38 v77 v149) k.val 1#32 (View.readAt (Elt F) arg13.view (Rect.unit (s := S256x1024) (k0_off76 v1 k) S16x256.size (k0_off76_inb v1 k0_hw1 k)).toLoadRect X_arg13) (View.readAt (Elt F) arg7.view (Rect.unit (s := S32x1024) (k0_off77 v1 k) S1x256.size (k0_off77_inb v1 k0_hw1 k)).toLoadRect X_arg7))
    (weighted v1 (k0_pay213 v31 v38 v77 v149) k.val 2#32 (View.readAt (Elt F) arg13.view (Rect.unit (s := S256x1024) (k0_off78 v1 k) S16x256.size (k0_off78_inb v1 k0_hw1 k)).toLoadRect X_arg13) (View.readAt (Elt F) arg7.view (Rect.unit (s := S32x1024) (k0_off79 v1 k) S1x256.size (k0_off79_inb v1 k0_hw1 k)).toLoadRect X_arg7))
    (weighted v1 (k0_pay213 v31 v38 v77 v149) k.val 3#32 (View.readAt (Elt F) arg13.view (Rect.unit (s := S256x1024) (k0_off80 v1 k) S16x256.size (k0_off80_inb v1 k0_hw1 k)).toLoadRect X_arg13) (View.readAt (Elt F) arg7.view (Rect.unit (s := S32x1024) (k0_off81 v1 k) S1x256.size (k0_off81_inb v1 k0_hw1 k)).toLoadRect X_arg7))
    (View.readAt (Elt F) arg6.view (Rect.unit (s := S256x1024) (k0_off82 v1 k) S64x256.size (k0_off82_inb v1 k0_hw1 k)).toLoadRect X_arg6))
    (weighted v1 (k0_pay213 v31 v38 v77 v149) k.val 4#32 (View.readAt (Elt F) arg13.view (Rect.unit (s := S256x1024) (k0_off83 v1 k) S16x256.size (k0_off83_inb v1 k0_hw1 k)).toLoadRect X_arg13) (View.readAt (Elt F) arg7.view (Rect.unit (s := S32x1024) (k0_off84 v1 k) S1x256.size (k0_off84_inb v1 k0_hw1 k)).toLoadRect X_arg7))
    (weighted v1 (k0_pay213 v31 v38 v77 v149) k.val 5#32 (View.readAt (Elt F) arg13.view (Rect.unit (s := S256x1024) (k0_off85 v1 k) S16x256.size (k0_off85_inb v1 k0_hw1 k)).toLoadRect X_arg13) (View.readAt (Elt F) arg7.view (Rect.unit (s := S32x1024) (k0_off86 v1 k) S1x256.size (k0_off86_inb v1 k0_hw1 k)).toLoadRect X_arg7))
    (weighted v1 (k0_pay213 v31 v38 v77 v149) k.val 6#32 (View.readAt (Elt F) arg13.view (Rect.unit (s := S256x1024) (k0_off87 v1 k) S16x256.size (k0_off87_inb v1 k0_hw1 k)).toLoadRect X_arg13) (View.readAt (Elt F) arg7.view (Rect.unit (s := S32x1024) (k0_off88 v1 k) S1x256.size (k0_off88_inb v1 k0_hw1 k)).toLoadRect X_arg7))
    (weighted v1 (k0_pay213 v31 v38 v77 v149) k.val 7#32 (View.readAt (Elt F) arg13.view (Rect.unit (s := S256x1024) (k0_off89 v1 k) S16x256.size (k0_off89_inb v1 k0_hw1 k)).toLoadRect X_arg13) (View.readAt (Elt F) arg7.view (Rect.unit (s := S32x1024) (k0_off90 v1 k) S1x256.size (k0_off90_inb v1 k0_hw1 k)).toLoadRect X_arg7))
    (View.readAt (Elt F) arg6.view (Rect.unit (s := S256x1024) (k0_off91 v1 k) S64x256.size (k0_off91_inb v1 k0_hw1 k)).toLoadRect X_arg6))
    (weighted v1 (k0_pay213 v31 v38 v77 v149) k.val 8#32 (View.readAt (Elt F) arg13.view (Rect.unit (s := S256x1024) (k0_off92 v1 k) S16x256.size (k0_off92_inb v1 k0_hw1 k)).toLoadRect X_arg13) (View.readAt (Elt F) arg7.view (Rect.unit (s := S32x1024) (k0_off93 v1 k) S1x256.size (k0_off93_inb v1 k0_hw1 k)).toLoadRect X_arg7))
    (weighted v1 (k0_pay213 v31 v38 v77 v149) k.val 9#32 (View.readAt (Elt F) arg13.view (Rect.unit (s := S256x1024) (k0_off94 v1 k) S16x256.size (k0_off94_inb v1 k0_hw1 k)).toLoadRect X_arg13) (View.readAt (Elt F) arg7.view (Rect.unit (s := S32x1024) (k0_off95 v1 k) S1x256.size (k0_off95_inb v1 k0_hw1 k)).toLoadRect X_arg7))
    (weighted v1 (k0_pay213 v31 v38 v77 v149) k.val 10#32 (View.readAt (Elt F) arg13.view (Rect.unit (s := S256x1024) (k0_off96 v1 k) S16x256.size (k0_off96_inb v1 k0_hw1 k)).toLoadRect X_arg13) (View.readAt (Elt F) arg7.view (Rect.unit (s := S32x1024) (k0_off97 v1 k) S1x256.size (k0_off97_inb v1 k0_hw1 k)).toLoadRect X_arg7))
    (weighted v1 (k0_pay213 v31 v38 v77 v149) k.val 11#32 (View.readAt (Elt F) arg13.view (Rect.unit (s := S256x1024) (k0_off98 v1 k) S16x256.size (k0_off98_inb v1 k0_hw1 k)).toLoadRect X_arg13) (View.readAt (Elt F) arg7.view (Rect.unit (s := S32x1024) (k0_off99 v1 k) S1x256.size (k0_off99_inb v1 k0_hw1 k)).toLoadRect X_arg7))
    (View.readAt (Elt F) arg6.view (Rect.unit (s := S256x1024) (k0_off100 v1 k) S64x256.size (k0_off100_inb v1 k0_hw1 k)).toLoadRect X_arg6))
    (weighted v1 (k0_pay213 v31 v38 v77 v149) k.val 12#32 (View.readAt (Elt F) arg13.view (Rect.unit (s := S256x1024) (k0_off101 v1 k) S16x256.size (k0_off101_inb v1 k0_hw1 k)).toLoadRect X_arg13) (View.readAt (Elt F) arg7.view (Rect.unit (s := S32x1024) (k0_off102 v1 k) S1x256.size (k0_off102_inb v1 k0_hw1 k)).toLoadRect X_arg7))
    (weighted v1 (k0_pay213 v31 v38 v77 v149) k.val 13#32 (View.readAt (Elt F) arg13.view (Rect.unit (s := S256x1024) (k0_off103 v1 k) S16x256.size (k0_off103_inb v1 k0_hw1 k)).toLoadRect X_arg13) (View.readAt (Elt F) arg7.view (Rect.unit (s := S32x1024) (k0_off104 v1 k) S1x256.size (k0_off104_inb v1 k0_hw1 k)).toLoadRect X_arg7))
    (weighted v1 (k0_pay213 v31 v38 v77 v149) k.val 14#32 (View.readAt (Elt F) arg13.view (Rect.unit (s := S256x1024) (k0_off105 v1 k) S16x256.size (k0_off105_inb v1 k0_hw1 k)).toLoadRect X_arg13) (View.readAt (Elt F) arg7.view (Rect.unit (s := S32x1024) (k0_off106 v1 k) S1x256.size (k0_off106_inb v1 k0_hw1 k)).toLoadRect X_arg7))
    (weighted v1 (k0_pay213 v31 v38 v77 v149) k.val 15#32 (View.readAt (Elt F) arg13.view (Rect.unit (s := S256x1024) (k0_off107 v1 k) S16x256.size (k0_off107_inb v1 k0_hw1 k)).toLoadRect X_arg13) (View.readAt (Elt F) arg7.view (Rect.unit (s := S32x1024) (k0_off108 v1 k) S1x256.size (k0_off108_inb v1 k0_hw1 k)).toLoadRect X_arg7))
    (View.readAt (Elt F) arg6.view (Rect.unit (s := S256x1024) (k0_off109 v1 k) S64x256.size (k0_off109_inb v1 k0_hw1 k)).toLoadRect X_arg6))) := by
  unfold trip_k0_t3; rfl

end Cert.KernelIdeal.Attend

end
-- ==== Proof.KernelIdeal.ValueState.lean ====
/- The value loop before each chunk: its running sums and its running block product. -/
module

public import proofs.«01_k».proof.Proof.KernelIdeal.ValueTrip
public import proofs.«01_k».proof.Proof.KernelIdeal.Spec

@[expose] public section

set_option maxRecDepth 16384

noncomputable section

namespace Cert.KernelIdeal.Attend

open Cert.KernelIdeal.Gen
open Idealize.ShloMosaic Idealize.ShloMosaic.TcCoe Idealize.ShloMosaic.Tactic

variable {F : FTy → Type} [FloatOps F]

/-- A trip of the value loop adds its chunk's weights and weighted codes. -/
theorem values_step (𝒱 : Variants) (c : Dev nD) (bd : Option 𝒱.V) (i : grid0.Coords) (arg1 : Memref sig .tc .smem S32 .i32) (harg1 : arg1.IsWhole) (arg2 : Memref sig .tc .vmem S1x16x64 .bf16) (harg2 : arg2.IsWhole) (arg3 : Memref sig .tc .vmem S1x1x64 .bf16) (harg3 : arg3.IsWhole) (arg4 : Memref sig .tc .vmem S1x1x64 .bf16) (harg4 : arg4.IsWhole) (arg5 : Memref sig .tc .vmem S256x1024 .i32) (harg5 : arg5.IsWhole) (arg6 : Memref sig .tc .vmem S256x1024 .i32) (harg6 : arg6.IsWhole) (arg7 : Memref sig .tc .vmem S32x1024 .i32) (harg7 : arg7.IsWhole) (arg8 : Memref sig .tc .vmem S1x16x64 .bf16) (harg8 : arg8.IsWhole) (arg9 : Memref sig .tc .vmem S1x1x64 .i8) (harg9 : arg9.IsWhole) (arg10 : Memref sig .tc .vmem S1x1x128 .f32) (harg10 : arg10.IsWhole) (arg11 : Memref sig .tc .vmem S1x1x64 .i8) (harg11 : arg11.IsWhole) (arg12 : Memref sig .tc .vmem S1x1x128 .f32) (harg12 : arg12.IsWhole) (arg13 : Memref sig .tc .vmem S256x1024 .f32) (harg13 : arg13.IsWhole) (v1 : Elt F .i32) (k0_hw1 : k0_chk1 v1) (v19 : BitVec 32) (v31 : FVec F S1x1 .f32) (v38 : FVec F S1x64 .f32) (v77 : FVec F S16x64 .bf16) (v79 : FVec F S64x256 .bf16) (v104 : IVec S64x256 32) (v105 : IVec S64x256 32) (c64_i32 : BitVec 32) (v107 : IVec S64x256 32) (v114 : IVec S64x256 32) (v120 : IVec S64x256 32) (v149 : FVec F S16x256 .f32) (X_arg13 : BufTy.Contents (Elt F) arg13.view.ty) (k : Fin (k0_t3_loop v1).trips) (x4 : S256x1024.Idx → Elt F .i32) (x5 : S32x1024.Idx → Elt F .i32) (hk : k.val < 4) (f : Fin 16 → FVec F S16x256 .f32)
    (hf : ∀ s i, arg13.view.read (Elt F) X_arg13 (cell ⟨k.val, hk⟩ s i) = f s i) (acc) :
    (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 v149 (harg6.unread x4) (harg7.unread x5) X_arg13 k).1 acc = (sumStep (k0_pay213 v31 v38 v77 v149) f acc.1, valStep v1 (k0_pay213 v31 v38 v77 v149) x4 x5 ⟨k.val, hk⟩ f acc.2) := by
  rw [values_yield,
    load_cells X_arg13 0 ⟨k.val, hk⟩ (f 0) (hf 0) (off := k0_off74 v1 k) _ (funext (Fin.forall_fin_two.mpr ⟨rfl, chunk_word k.val hk⟩)),
    load_cells X_arg13 1 ⟨k.val, hk⟩ (f 1) (hf 1) (off := k0_off76 v1 k) _ (funext (Fin.forall_fin_two.mpr ⟨rfl, chunk_word k.val hk⟩)),
    load_cells X_arg13 2 ⟨k.val, hk⟩ (f 2) (hf 2) (off := k0_off78 v1 k) _ (funext (Fin.forall_fin_two.mpr ⟨rfl, chunk_word k.val hk⟩)),
    load_cells X_arg13 3 ⟨k.val, hk⟩ (f 3) (hf 3) (off := k0_off80 v1 k) _ (funext (Fin.forall_fin_two.mpr ⟨rfl, chunk_word k.val hk⟩)),
    load_cells X_arg13 4 ⟨k.val, hk⟩ (f 4) (hf 4) (off := k0_off83 v1 k) _ (funext (Fin.forall_fin_two.mpr ⟨rfl, chunk_word k.val hk⟩)),
    load_cells X_arg13 5 ⟨k.val, hk⟩ (f 5) (hf 5) (off := k0_off85 v1 k) _ (funext (Fin.forall_fin_two.mpr ⟨rfl, chunk_word k.val hk⟩)),
    load_cells X_arg13 6 ⟨k.val, hk⟩ (f 6) (hf 6) (off := k0_off87 v1 k) _ (funext (Fin.forall_fin_two.mpr ⟨rfl, chunk_word k.val hk⟩)),
    load_cells X_arg13 7 ⟨k.val, hk⟩ (f 7) (hf 7) (off := k0_off89 v1 k) _ (funext (Fin.forall_fin_two.mpr ⟨rfl, chunk_word k.val hk⟩)),
    load_cells X_arg13 8 ⟨k.val, hk⟩ (f 8) (hf 8) (off := k0_off92 v1 k) _ (funext (Fin.forall_fin_two.mpr ⟨rfl, chunk_word k.val hk⟩)),
    load_cells X_arg13 9 ⟨k.val, hk⟩ (f 9) (hf 9) (off := k0_off94 v1 k) _ (funext (Fin.forall_fin_two.mpr ⟨rfl, chunk_word k.val hk⟩)),
    load_cells X_arg13 10 ⟨k.val, hk⟩ (f 10) (hf 10) (off := k0_off96 v1 k) _ (funext (Fin.forall_fin_two.mpr ⟨rfl, chunk_word k.val hk⟩)),
    load_cells X_arg13 11 ⟨k.val, hk⟩ (f 11) (hf 11) (off := k0_off98 v1 k) _ (funext (Fin.forall_fin_two.mpr ⟨rfl, chunk_word k.val hk⟩)),
    load_cells X_arg13 12 ⟨k.val, hk⟩ (f 12) (hf 12) (off := k0_off101 v1 k) _ (funext (Fin.forall_fin_two.mpr ⟨rfl, chunk_word k.val hk⟩)),
    load_cells X_arg13 13 ⟨k.val, hk⟩ (f 13) (hf 13) (off := k0_off103 v1 k) _ (funext (Fin.forall_fin_two.mpr ⟨rfl, chunk_word k.val hk⟩)),
    load_cells X_arg13 14 ⟨k.val, hk⟩ (f 14) (hf 14) (off := k0_off105 v1 k) _ (funext (Fin.forall_fin_two.mpr ⟨rfl, chunk_word k.val hk⟩)),
    load_cells X_arg13 15 ⟨k.val, hk⟩ (f 15) (hf 15) (off := k0_off107 v1 k) _ (funext (Fin.forall_fin_two.mpr ⟨rfl, chunk_word k.val hk⟩)),
    load_scales harg7 x5 16 ⟨k.val, hk⟩ (off := k0_off75 v1 k) _ (funext (Fin.forall_fin_two.mpr ⟨rfl, chunk_word k.val hk⟩)),
    load_scales harg7 x5 17 ⟨k.val, hk⟩ (off := k0_off77 v1 k) _ (funext (Fin.forall_fin_two.mpr ⟨rfl, chunk_word k.val hk⟩)),
    load_scales harg7 x5 18 ⟨k.val, hk⟩ (off := k0_off79 v1 k) _ (funext (Fin.forall_fin_two.mpr ⟨rfl, chunk_word k.val hk⟩)),
    load_scales harg7 x5 19 ⟨k.val, hk⟩ (off := k0_off81 v1 k) _ (funext (Fin.forall_fin_two.mpr ⟨rfl, chunk_word k.val hk⟩)),
    load_scales harg7 x5 20 ⟨k.val, hk⟩ (off := k0_off84 v1 k) _ (funext (Fin.forall_fin_two.mpr ⟨rfl, chunk_word k.val hk⟩)),
    load_scales harg7 x5 21 ⟨k.val, hk⟩ (off := k0_off86 v1 k) _ (funext (Fin.forall_fin_two.mpr ⟨rfl, chunk_word k.val hk⟩)),
    load_scales harg7 x5 22 ⟨k.val, hk⟩ (off := k0_off88 v1 k) _ (funext (Fin.forall_fin_two.mpr ⟨rfl, chunk_word k.val hk⟩)),
    load_scales harg7 x5 23 ⟨k.val, hk⟩ (off := k0_off90 v1 k) _ (funext (Fin.forall_fin_two.mpr ⟨rfl, chunk_word k.val hk⟩)),
    load_scales harg7 x5 24 ⟨k.val, hk⟩ (off := k0_off93 v1 k) _ (funext (Fin.forall_fin_two.mpr ⟨rfl, chunk_word k.val hk⟩)),
    load_scales harg7 x5 25 ⟨k.val, hk⟩ (off := k0_off95 v1 k) _ (funext (Fin.forall_fin_two.mpr ⟨rfl, chunk_word k.val hk⟩)),
    load_scales harg7 x5 26 ⟨k.val, hk⟩ (off := k0_off97 v1 k) _ (funext (Fin.forall_fin_two.mpr ⟨rfl, chunk_word k.val hk⟩)),
    load_scales harg7 x5 27 ⟨k.val, hk⟩ (off := k0_off99 v1 k) _ (funext (Fin.forall_fin_two.mpr ⟨rfl, chunk_word k.val hk⟩)),
    load_scales harg7 x5 28 ⟨k.val, hk⟩ (off := k0_off102 v1 k) _ (funext (Fin.forall_fin_two.mpr ⟨rfl, chunk_word k.val hk⟩)),
    load_scales harg7 x5 29 ⟨k.val, hk⟩ (off := k0_off104 v1 k) _ (funext (Fin.forall_fin_two.mpr ⟨rfl, chunk_word k.val hk⟩)),
    load_scales harg7 x5 30 ⟨k.val, hk⟩ (off := k0_off106 v1 k) _ (funext (Fin.forall_fin_two.mpr ⟨rfl, chunk_word k.val hk⟩)),
    load_scales harg7 x5 31 ⟨k.val, hk⟩ (off := k0_off108 v1 k) _ (funext (Fin.forall_fin_two.mpr ⟨rfl, chunk_word k.val hk⟩)),
    load_codes harg6 x4 0 ⟨k.val, hk⟩ (off := k0_off82 v1 k) _ (funext (Fin.forall_fin_two.mpr ⟨rfl, chunk_word k.val hk⟩)),
    load_codes harg6 x4 1 ⟨k.val, hk⟩ (off := k0_off91 v1 k) _ (funext (Fin.forall_fin_two.mpr ⟨rfl, chunk_word k.val hk⟩)),
    load_codes harg6 x4 2 ⟨k.val, hk⟩ (off := k0_off100 v1 k) _ (funext (Fin.forall_fin_two.mpr ⟨rfl, chunk_word k.val hk⟩)),
    load_codes harg6 x4 3 ⟨k.val, hk⟩ (off := k0_off109 v1 k) _ (funext (Fin.forall_fin_two.mpr ⟨rfl, chunk_word k.val hk⟩))]
  rfl

/-- The running sums and block product before chunk `k` of the value loop. -/
theorem values_run (𝒱 : Variants) (c : Dev nD) (bd : Option 𝒱.V) (i : grid0.Coords) (arg1 : Memref sig .tc .smem S32 .i32) (harg1 : arg1.IsWhole) (arg2 : Memref sig .tc .vmem S1x16x64 .bf16) (harg2 : arg2.IsWhole) (arg3 : Memref sig .tc .vmem S1x1x64 .bf16) (harg3 : arg3.IsWhole) (arg4 : Memref sig .tc .vmem S1x1x64 .bf16) (harg4 : arg4.IsWhole) (arg5 : Memref sig .tc .vmem S256x1024 .i32) (harg5 : arg5.IsWhole) (arg6 : Memref sig .tc .vmem S256x1024 .i32) (harg6 : arg6.IsWhole) (arg7 : Memref sig .tc .vmem S32x1024 .i32) (harg7 : arg7.IsWhole) (arg8 : Memref sig .tc .vmem S1x16x64 .bf16) (harg8 : arg8.IsWhole) (arg9 : Memref sig .tc .vmem S1x1x64 .i8) (harg9 : arg9.IsWhole) (arg10 : Memref sig .tc .vmem S1x1x128 .f32) (harg10 : arg10.IsWhole) (arg11 : Memref sig .tc .vmem S1x1x64 .i8) (harg11 : arg11.IsWhole) (arg12 : Memref sig .tc .vmem S1x1x128 .f32) (harg12 : arg12.IsWhole) (arg13 : Memref sig .tc .vmem S256x1024 .f32) (harg13 : arg13.IsWhole) (v1 : Elt F .i32) (k0_hw1 : k0_chk1 v1) (v19 : BitVec 32) (v31 : FVec F S1x1 .f32) (v38 : FVec F S1x64 .f32) (v77 : FVec F S16x64 .bf16) (v79 : FVec F S64x256 .bf16) (v104 : IVec S64x256 32) (v105 : IVec S64x256 32) (c64_i32 : BitVec 32) (v107 : IVec S64x256 32) (v114 : IVec S64x256 32) (v120 : IVec S64x256 32) (v149 : FVec F S16x256 .f32) (X_arg13 : BufTy.Contents (Elt F) arg13.view.ty) (x4 : S256x1024.Idx → Elt F .i32) (x5 : S32x1024.Idx → Elt F .i32) (hL : v1.toInt ≤ 16384) (qb : FVec F S64x256 .bf16) (x3 : S256x1024.Idx → Elt F .i32)
    (hG : ∀ k' : Fin 4, k'.val < (k0_t1_loop v1).trips → ∀ s i, arg13.view.read (Elt F) X_arg13 (cell k' s i) = sc v1 qb x3 x5 k' s i)
    (k : ℕ) (hk : k ≤ (k0_t1_loop v1).trips) :
    st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 v149 (harg6.unread x4) (harg7.unread x5) X_arg13 (k0_pay214, k0_pay215) k = (runSum v1 qb (k0_pay213 v31 v38 v77 v149) x3 x5 k, runVal v1 qb (k0_pay213 v31 v38 v77 v149) x3 x4 x5 k) := by
  induction k with
  | zero => rfl
  | succ k ih =>
    have hk4 : k < 4 := by have := trips_le v1 hL; omega
    have e : chunk k = ⟨k, hk4⟩ := Fin.ext (Nat.mod_eq_of_lt hk4)
    have hs := st_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 v149 (harg6.unread x4) (harg7.unread x5) X_arg13 (k0_pay214, k0_pay215) ⟨k, hk⟩
    refine hs.trans ?_
    refine (values_step 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 v149  X_arg13 ⟨k, hk⟩ x4 x5 hk4 (sc v1 qb x3 x5 ⟨k, hk4⟩) (hG _ hk) _).trans ?_
    rw [ih (by omega), runSum, runVal, e]

end Cert.KernelIdeal.Attend

end
-- ==== Proof.KernelIdeal.Outs.lean ====
/- The outputs of one grid point as functions of its windows, and the two loops together. -/
module

public import proofs.«01_k».proof.Proof.KernelIdeal.ScoreState
public import proofs.«01_k».proof.Proof.KernelIdeal.ValueState

@[expose] public section

set_option maxRecDepth 16384

noncomputable section

namespace Cert.KernelIdeal.Attend

open Cert.KernelIdeal.Gen
open Idealize.ShloMosaic Idealize.ShloMosaic.TcCoe Idealize.ShloMosaic.Tactic

variable {F : FTy → Type} [FloatOps F]

/-- The attention output of one grid point from its length `n`, the new token's quantised key and value, the query, the
    block product's left side `qb` and the windows of words. -/
def outCore (n : BitVec 32) (v50 : FVec F S1x1 .f32) (v57 : FVec F S1x64 .f32) (v31 : FVec F S1x1 .f32) (v38 : FVec F S1x64 .f32)
    (v77 : FVec F S16x64 .bf16) (qb : FVec F S64x256 .bf16) (x3 x4 : S256x1024.Idx → Elt F .i32) (x5 : S32x1024.Idx → Elt F .i32) :
    FVec F S1x16x64 .bf16 :=
  k0_pay1 v50 v57
    (runSum n qb (k0_pay213 v31 v38 v77 (runMax n qb x3 x5 (k0_t1_loop n).trips)) x3 x5 (k0_t1_loop n).trips)
    (runVal n qb (k0_pay213 v31 v38 v77 (runMax n qb x3 x5 (k0_t1_loop n).trips)) x3 x4 x5 (k0_t1_loop n).trips)
    (k0_pay218 v31 v38 v77 (runMax n qb x3 x5 (k0_t1_loop n).trips))

/-- The query rows laid on the diagonal blocks. -/
def qblock (x0 : Vec F S1x16x64 .bf16) : FVec F S64x256 .bf16 :=
  k0_pay206 (k0_pay201 x0) k0_pay202 (iota .tc S64x256 32 [1] iota_S64x256_d1_w32) 64#32 k0_pay203 k0_pay204 k0_pay205

/-- The attention output of one grid point from its length and its six input windows. -/
def outO (n : BitVec 32) (x0 : Vec F S1x16x64 .bf16) (x1 x2 : Vec F S1x1x64 .bf16) (x3 x4 : S256x1024.Idx → Elt F .i32)
    (x5 : S32x1024.Idx → Elt F .i32) : FVec F S1x16x64 .bf16 :=
  outCore n (k0_pay194 x2) (k0_pay195 x2) (k0_pay191 x1) (k0_pay192 x1) (k0_pay200 x0) (qblock x0) x3 x4 x5

/-- The output core at words and windows equal to a grid point's is its attention output. -/
theorem outO_of {n v1 : BitVec 32} {x0 : Vec F S1x16x64 .bf16} {x1 x2 : Vec F S1x1x64 .bf16} {v50 : FVec F S1x1 .f32}
    {v57 : FVec F S1x64 .f32} {v31 : FVec F S1x1 .f32} {v38 : FVec F S1x64 .f32} {v77 : FVec F S16x64 .bf16}
    {v79 : FVec F S64x256 .bf16} (x3 x4 : S256x1024.Idx → Elt F .i32) (x5 : S32x1024.Idx → Elt F .i32)
    (h0 : v1 = n) (h1 : v31 = k0_pay191 x1) (h2 : v38 = k0_pay192 x1) (h3 : v50 = k0_pay194 x2) (h4 : v57 = k0_pay195 x2)
    (h5 : v77 = k0_pay200 x0) (h6 : v79 = k0_pay201 x0) :
    outCore v1 v50 v57 v31 v38 v77 (k0_pay206 v79 k0_pay202 (iota .tc S64x256 32 [1] iota_S64x256_d1_w32) 64#32 k0_pay203
      k0_pay204 k0_pay205) x3 x4 x5 = outO n x0 x1 x2 x3 x4 x5 := by
  subst h0; subst h1; subst h2; subst h3; subst h4; subst h5; subst h6; rfl

/-- The two loops, one after the other on one scratch, leave the output core's sums. -/
theorem loops_out (𝒱 : Variants) (c : Dev nD) (bd : Option 𝒱.V) (i : grid0.Coords) (arg1 : Memref sig .tc .smem S32 .i32) (harg1 : arg1.IsWhole) (arg2 : Memref sig .tc .vmem S1x16x64 .bf16) (harg2 : arg2.IsWhole) (arg3 : Memref sig .tc .vmem S1x1x64 .bf16) (harg3 : arg3.IsWhole) (arg4 : Memref sig .tc .vmem S1x1x64 .bf16) (harg4 : arg4.IsWhole) (arg5 : Memref sig .tc .vmem S256x1024 .i32) (harg5 : arg5.IsWhole) (arg6 : Memref sig .tc .vmem S256x1024 .i32) (harg6 : arg6.IsWhole) (arg7 : Memref sig .tc .vmem S32x1024 .i32) (harg7 : arg7.IsWhole) (arg8 : Memref sig .tc .vmem S1x16x64 .bf16) (harg8 : arg8.IsWhole) (arg9 : Memref sig .tc .vmem S1x1x64 .i8) (harg9 : arg9.IsWhole) (arg10 : Memref sig .tc .vmem S1x1x128 .f32) (harg10 : arg10.IsWhole) (arg11 : Memref sig .tc .vmem S1x1x64 .i8) (harg11 : arg11.IsWhole) (arg12 : Memref sig .tc .vmem S1x1x128 .f32) (harg12 : arg12.IsWhole) (arg13 : Memref sig .tc .vmem S256x1024 .f32) (harg13 : arg13.IsWhole) (v1 : Elt F .i32) (k0_hw1 : k0_chk1 v1) (v19 : BitVec 32) (v50 : FVec F S1x1 .f32) (v57 : FVec F S1x64 .f32) (v31 : FVec F S1x1 .f32) (v38 : FVec F S1x64 .f32) (v77 : FVec F S16x64 .bf16) (v79 : FVec F S64x256 .bf16) (v104 : IVec S64x256 32) (v105 : IVec S64x256 32) (c64_i32 : BitVec 32) (v107 : IVec S64x256 32) (v114 : IVec S64x256 32) (v120 : IVec S64x256 32) (x3 x4 : S256x1024.Idx → Elt F .i32) (x5 : S32x1024.Idx → Elt F .i32) (hL : v1.toInt ≤ 16384)
    (fs0 : arg13.view.ty.Contents (Elt F)) :
    k0_pay1 v50 v57 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (harg5.unread x3) (harg7.unread x5) k0_pay208 (k0_t1_loop v1).trips).1 (harg6.unread x4) (harg7.unread x5) (arg13.view.writes (Elt F) fs0 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (harg5.unread x3) (harg7.unread x5) k0_pay208 (k0_t1_loop v1).trips).2) (k0_pay214, k0_pay215) (k0_t1_loop v1).trips).1 (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (harg5.unread x3) (harg7.unread x5) k0_pay208 (k0_t1_loop v1).trips).1 (harg6.unread x4) (harg7.unread x5) (arg13.view.writes (Elt F) fs0 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (harg5.unread x3) (harg7.unread x5) k0_pay208 (k0_t1_loop v1).trips).2) (k0_pay214, k0_pay215) (k0_t1_loop v1).trips).2 (k0_pay218 v31 v38 v77 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (harg5.unread x3) (harg7.unread x5) k0_pay208 (k0_t1_loop v1).trips).1)
      = outCore v1 v50 v57 v31 v38 v77 (k0_pay206 v79 v104 v105 c64_i32 v107 v114 v120) x3 x4 x5 := by
  have h3 := values_run 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (harg5.unread x3) (harg7.unread x5) k0_pay208 (k0_t1_loop v1).trips).1   (arg13.view.writes (Elt F) fs0 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120 (harg5.unread x3) (harg7.unread x5) k0_pay208 (k0_t1_loop v1).trips).2) x4 x5 hL (k0_pay206 v79 v104 v105 c64_i32 v107 v114 v120) x3
    (fun k' hk' s y => scores_read 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120   x3 x5 hL fs0 _ le_rfl k' hk' s y) _ le_rfl
  have h1 := scores_max 𝒱 c bd i arg1 harg1 arg2 harg2 arg3 harg3 arg4 harg4 arg5 harg5 arg6 harg6 arg7 harg7 arg8 harg8 arg9 harg9 arg10 harg10 arg11 harg11 arg12 harg12 arg13 harg13 v1 k0_hw1 v19 v31 v38 v77 v79 v104 v105 c64_i32 v107 v114 v120   x3 x5 hL _ le_rfl
  rw [h3, h1]; rfl

/-- A load of a whole window. -/
theorem load_whole {s : Shape} {e : EltTy} {m : Memref sig .tc .vmem s e} (hm : m.IsWhole) (x : s.Idx → Elt F e)
    {off : Fin s.rank → ℕ} (inb : ∀ a, off a + s.size a ≤ s.size a) :
    View.readAt (Elt F) m.view (Rect.unit (s := s) off s.size inb).toLoadRect (hm.unread x) = x := by
  funext i
  rw [hm.readAt_unread]
  refine congrArg x (funext fun a => Fin.ext ?_)
  show off a + 1 * (i a).val = (i a).val
  have := inb a
  omega

/-- Reading back one write of a whole window. -/
theorem read_whole {s : Shape} {e : EltTy} (v : View sig .tc .vmem s e) (f : v.ty.Contents (Elt F)) (w : s.Idx → Elt F e)
    {off : Fin s.rank → ℕ} (inb : ∀ a, off a + s.size a ≤ s.size a) :
    v.read (Elt F) (v.writes (Elt F) f [⟨Rect.unit (s := s) off s.size inb, w⟩]) = w := by
  funext i
  refine View.read_writes_cons_unit_of_mem v f inb w [] i i rfl fun a => ?_
  have := inb a
  omega

end Cert.KernelIdeal.Attend

end
-- ==== Proof.KernelIdeal.RunV.lean ====
/- One run of the attention body on whole memrefs, its outputs named. -/
module

public import proofs.«01_k».proof.Proof.KernelIdeal.Runs
public import proofs.«01_k».proof.Proof.KernelIdeal.Outs
public import proofs.«01_k».proof.Proof.Gen.KernelIdeal.Loops

@[expose] public section

-- membership in a rectangle of production extents (`View.cover_of_tiled`): the elaborator's structural look
-- recurses once per coordinate of the long axes
set_option maxRecDepth 16384

noncomputable section

namespace Cert.KernelIdeal.Attend

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The length of grid point `i`, read from the table. -/
def wordOf (i : grid0.Coords) (xt : S32.Idx → Elt F .i32) : BitVec 32 := xt (ix1 ⟨(i 0).val, (i 0).isLt⟩)

theorem off1_eq : ∀ j : Fin 32, (Scalar.indexCast (BitVec.ofNat 32 j.val)).toNat = j.val := by decide

/-- The table word the body loads is its point's length. -/
theorem word_eq (c : Dev nD) (i : grid0.Coords) (xt0 : TbBuf0 (F := F) c tbM0_0)
    (inb : ∀ a, (k0_off1 i) a + S1.size a ≤ S32.size a) (x : S1.Idx) :
    View.readAt (Elt F) tbM0_0.view (Rect.unit (s := S32) (k0_off1 i) S1.size inb).toLoadRect xt0 x = wordOf i xt0 := by
  refine congrArg (fun y : S32.Idx => (xt0 y : BitVec 32)) (funext fun a => ?_)
  obtain rfl : a = (0 : Fin 1) := Subsingleton.elim (α := Fin 1) _ _
  refine Fin.ext ?_
  show (Scalar.indexCast (BitVec.ofNat 32 (i 0).val)).toNat + 1 * (x 0).val = (i 0).val
  have h := off1_eq ⟨(i 0).val, (i 0).isLt⟩
  have h2 : (x 0).val < 1 := (x 0).isLt
  simp only at h
  omega

-- (the run's proof term is large: checking it walks past the default budget)
set_option maxHeartbeats 1000000 in
/-- The body's triple: on whole staging memrefs, the inputs' at their contents and the outputs' at anything, the body runs
    to the continuation holding the inputs' as they were, the outputs' at the functions of the windows that Outs.lean
    names, and the scratch at some contents. -/
theorem kernelRunV (c : Dev nD) (i : grid0.Coords) (arg2 : Memref sig .tc .vmem S1x16x64 .bf16) (harg2 : arg2.IsWhole) (arg3 : Memref sig .tc .vmem S1x1x64 .bf16) (harg3 : arg3.IsWhole) (arg4 : Memref sig .tc .vmem S1x1x64 .bf16) (harg4 : arg4.IsWhole) (arg5 : Memref sig .tc .vmem S256x1024 .i32) (harg5 : arg5.IsWhole) (arg6 : Memref sig .tc .vmem S256x1024 .i32) (harg6 : arg6.IsWhole) (arg7 : Memref sig .tc .vmem S32x1024 .i32) (harg7 : arg7.IsWhole) (arg8 : Memref sig .tc .vmem S1x16x64 .bf16) (harg8 : arg8.IsWhole) (arg9 : Memref sig .tc .vmem S1x1x64 .i8) (harg9 : arg9.IsWhole) (arg10 : Memref sig .tc .vmem S1x1x128 .f32) (harg10 : arg10.IsWhole) (arg11 : Memref sig .tc .vmem S1x1x64 .i8) (harg11 : arg11.IsWhole) (arg12 : Memref sig .tc .vmem S1x1x128 .f32) (harg12 : arg12.IsWhole) (arg13 : Memref sig .tc .vmem S256x1024 .f32) (harg13 : arg13.IsWhole)
    (x0 : Vec F S1x16x64 .bf16) (x1 : Vec F S1x1x64 .bf16) (x2 : Vec F S1x1x64 .bf16) (x3 : Vec F S256x1024 .i32) (x4 : Vec F S256x1024 .i32) (x5 : Vec F S32x1024 .i32) (xt0 : TbBuf0 (F := F) c tbM0_0) (hL : ∀ y : S32.Idx, (xt0 y : BitVec 32).toInt ≤ 16384) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outO (wordOf i xt0) x0 x1 x2 x3 x4 x5) ∗ owns (c : Thread nD τ) arg9 fullShare (k0_pay196 (k0_pay192 x1)) ∗ owns (c : Thread nD τ) arg10 fullShare (k0_pay198 (k0_pay191 x1)) ∗ owns (c : Thread nD τ) arg11 fullShare (k0_pay197 x2) ∗ owns (c : Thread nD τ) arg12 fullShare (k0_pay199 x2) ∗ (∃ d, owns (c : Thread nD τ) arg13 fullShare d) ∗ tbPt0 c tbM0_0 xt0) -∗ K ⟨⟩))
          ⊢ wp frame (wpE (defs₀ (F := F)) Variants.none c none) E (cc0_attend i tbM0_0 htbM0_0 arg2 harg2 arg3 harg3 arg4 harg4 arg5 harg5 arg6 harg6 arg7 harg7 arg8 harg8 arg9 harg9 arg10 harg10 arg11 harg11 arg12 harg12 arg13 harg13) K := by
    intro E K
    simp only [cc0_attend_eq_skeleton]; unfold cc0_attend_skel
    simp only [k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := exact chk1 _ (hL _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (read_whole arg8.view _ _ _).trans ?_
      have e0 := load_whole harg2 x0 inb_S1x16x64_S1x16x64_0_0_0
      have e1 := load_whole harg3 x1 inb_S1x1x64_S1x1x64_0_0_0
      have e2 := load_whole harg4 x2 inb_S1x1x64_S1x1x64_0_0_0
      have q0 : kernelRunV.sl.r c i xt0 = wordOf i xt0 := word_eq c i xt0 (k0_off1_inb i) _
      have q1 : kernelRunV.sl.r_1 c arg3 harg3 x1 = k0_pay191 x1 := congrArg k0_pay191 e1
      have q2 : kernelRunV.sl.r_2 c arg3 harg3 x1 = k0_pay192 x1 := congrArg k0_pay192 e1
      have q3 : kernelRunV.sl.r_3 c arg4 harg4 x2 = k0_pay194 x2 := congrArg k0_pay194 e2
      have q4 : kernelRunV.sl.r_4 c arg4 harg4 x2 = k0_pay195 x2 := congrArg k0_pay195 e2
      have q5 : kernelRunV.sl.r_5 c arg2 harg2 x0 = k0_pay200 x0 := congrArg k0_pay200 e0
      have q6 : kernelRunV.sl.r_6 c arg2 harg2 x0 = k0_pay201 x0 := congrArg k0_pay201 e0
      exact (loops_out (hL := hL _) ..).trans (outO_of x3 x4 x5 q0 q1 q2 q3 q4 q5 q6)
    isplitl [H7]
    · iexists _; isplitr; swap; · iexact H7
      ipureintro
      refine (read_whole arg9.view _ _ _).trans ?_
      exact congrArg (fun y => k0_pay196 (k0_pay192 y)) (load_whole harg3 x1 _)
    isplitl [H8]
    · iexists _; isplitr; swap; · iexact H8
      ipureintro
      refine (read_whole arg10.view _ _ _).trans ?_
      exact congrArg (fun y => k0_pay198 (k0_pay191 y)) (load_whole harg3 x1 _)
    isplitl [H9]
    · iexists _; isplitr; swap; · iexact H9
      ipureintro
      refine (read_whole arg11.view _ _ _).trans ?_
      exact congrArg (fun y => k0_pay197 y) (load_whole harg4 x2 _)
    isplitl [H10]
    · iexists _; isplitr; swap; · iexact H10
      ipureintro
      refine (read_whole arg12.view _ _ _).trans ?_
      exact congrArg (fun y => k0_pay199 y) (load_whole harg4 x2 _)
    isplitl [HS0]
    · iexists _, _; isplitr; swap; · iexact HS0
      ipureintro; rfl
    iexact HT0

end Cert.KernelIdeal.Attend

end
-- ==== Proof.KernelIdeal.FrameV.lean ====
/- The attention call's run with its outputs named. -/
module

public import proofs.«01_k».proof.Proof.KernelIdeal.RunV
public import Idealize.ShloMosaic.Lib.Claim

@[expose] public section

-- membership in a rectangle of production extents (`View.cover_of_tiled`): the elaborator's structural look
-- recurses once per coordinate of the long axes
set_option maxRecDepth 16384

noncomputable section

namespace Cert.KernelIdeal.Attend.Named

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- What output 6's buffer holds after the body at point `t`. -/
def out6 (hO : Ok m) (c : Dev nD) (t : Fin (cfgM m hO).N) : Vec F S1x16x64 .bf16 := outO (wordOf (grid0.coords t) (tbl m 0)) (iblk m hO c 0 t) (iblk m hO c 1 t) (iblk m hO c 2 t) (iblk m hO c 3 t) (iblk m hO c 4 t) (iblk m hO c 5 t)

/-- What output 7's buffer holds after the body at point `t`. -/
def out7 (hO : Ok m) (c : Dev nD) (t : Fin (cfgM m hO).N) : Vec F S1x1x64 .i8 := k0_pay196 (k0_pay192 (iblk m hO c 1 t))

/-- What output 8's buffer holds after the body at point `t`. -/
def out8 (hO : Ok m) (c : Dev nD) (t : Fin (cfgM m hO).N) : Vec F S1x1x128 .f32 := k0_pay198 (k0_pay191 (iblk m hO c 1 t))

/-- What output 9's buffer holds after the body at point `t`. -/
def out9 (hO : Ok m) (c : Dev nD) (t : Fin (cfgM m hO).N) : Vec F S1x1x64 .i8 := k0_pay197 (iblk m hO c 2 t)

/-- What output 10's buffer holds after the body at point `t`. -/
def out10 (hO : Ok m) (c : Dev nD) (t : Fin (cfgM m hO).N) : Vec F S1x1x128 .f32 := k0_pay199 (iblk m hO c 2 t)

/-- The proof data of the one pipeline on core `c`: the arrays as the region finds them (`V`); after the body at
    point `t` each input's buffer at its block and the outputs at the functions of the blocks that Outs.lean names; the invariant the class's
    (Lib/Pipeline/Frame.lean `ΦA`: the scoped rest and the generator register) and the tables' halves (`ΦT`); nothing owed;
    full shares. -/
def dats (hO : Ok m) (hL : Lens m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => out6 m hO c t
    | ⟨7, _⟩ => out7 m hO c t
    | ⟨8, _⟩ => out8 m hO c t
    | ⟨9, _⟩ => out9 m hO c t
    | ⟨10, _⟩ => out10 m hO c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hL : Lens m) (c : Dev nD) (w : Fin (cfgM m hO).W) : (dats m hO hL 0 c).A w = V m c (Pipeline.arrRef spec0 w) := by
  dsimp only [dats]

/-- What the body leaves, window by window (the proof data's `match` reduced by `dsimp`). -/
theorem after0_0 (hO : Ok m) (hL : Lens m) (c : Dev nD) (t : Fin (cfgM m hO).N) : (dats m hO hL 0 c).after 0 t = iblk m hO c 0 t := by dsimp only [dats]; try rfl
theorem after0_1 (hO : Ok m) (hL : Lens m) (c : Dev nD) (t : Fin (cfgM m hO).N) : (dats m hO hL 0 c).after 1 t = iblk m hO c 1 t := by dsimp only [dats]; try rfl
theorem after0_2 (hO : Ok m) (hL : Lens m) (c : Dev nD) (t : Fin (cfgM m hO).N) : (dats m hO hL 0 c).after 2 t = iblk m hO c 2 t := by dsimp only [dats]; try rfl
theorem after0_3 (hO : Ok m) (hL : Lens m) (c : Dev nD) (t : Fin (cfgM m hO).N) : (dats m hO hL 0 c).after 3 t = iblk m hO c 3 t := by dsimp only [dats]; try rfl
theorem after0_4 (hO : Ok m) (hL : Lens m) (c : Dev nD) (t : Fin (cfgM m hO).N) : (dats m hO hL 0 c).after 4 t = iblk m hO c 4 t := by dsimp only [dats]; try rfl
theorem after0_5 (hO : Ok m) (hL : Lens m) (c : Dev nD) (t : Fin (cfgM m hO).N) : (dats m hO hL 0 c).after 5 t = iblk m hO c 5 t := by dsimp only [dats]; try rfl
theorem after0_6 (hO : Ok m) (hL : Lens m) (c : Dev nD) (t : Fin (cfgM m hO).N) : (dats m hO hL 0 c).after 6 t = out6 m hO c t := by dsimp only [dats]; try rfl
theorem after0_7 (hO : Ok m) (hL : Lens m) (c : Dev nD) (t : Fin (cfgM m hO).N) : (dats m hO hL 0 c).after 7 t = out7 m hO c t := by dsimp only [dats]; try rfl
theorem after0_8 (hO : Ok m) (hL : Lens m) (c : Dev nD) (t : Fin (cfgM m hO).N) : (dats m hO hL 0 c).after 8 t = out8 m hO c t := by dsimp only [dats]; try rfl
theorem after0_9 (hO : Ok m) (hL : Lens m) (c : Dev nD) (t : Fin (cfgM m hO).N) : (dats m hO hL 0 c).after 9 t = out9 m hO c t := by dsimp only [dats]; try rfl
theorem after0_10 (hO : Ok m) (hL : Lens m) (c : Dev nD) (t : Fin (cfgM m hO).N) : (dats m hO hL 0 c).after 10 t = out10 m hO c t := by dsimp only [dats]; try rfl

/-- Each input's current staging buffer holds its block at every point, fetched there or not (`beforeK_W_of`). -/
theorem before0_0 (hO : Ok m) (hL : Lens m) (c : Dev nD) (t : Fin (cfgM m hO).N) (d) : (dats m hO hL 0 c).before 0 t d = iblk m hO c 0 t :=
  before0_0_of m hO (dats m hO hL 0 c) (A_eq m hO hL c 0) (after0_0 m hO hL c) t d
theorem before0_1 (hO : Ok m) (hL : Lens m) (c : Dev nD) (t : Fin (cfgM m hO).N) (d) : (dats m hO hL 0 c).before 1 t d = iblk m hO c 1 t :=
  before0_1_of m hO (dats m hO hL 0 c) (A_eq m hO hL c 1) (after0_1 m hO hL c) t d
theorem before0_2 (hO : Ok m) (hL : Lens m) (c : Dev nD) (t : Fin (cfgM m hO).N) (d) : (dats m hO hL 0 c).before 2 t d = iblk m hO c 2 t :=
  before0_2_of m hO (dats m hO hL 0 c) (A_eq m hO hL c 2) (after0_2 m hO hL c) t d
theorem before0_3 (hO : Ok m) (hL : Lens m) (c : Dev nD) (t : Fin (cfgM m hO).N) (d) : (dats m hO hL 0 c).before 3 t d = iblk m hO c 3 t :=
  before0_3_of m hO (dats m hO hL 0 c) (A_eq m hO hL c 3) (after0_3 m hO hL c) t d
theorem before0_4 (hO : Ok m) (hL : Lens m) (c : Dev nD) (t : Fin (cfgM m hO).N) (d) : (dats m hO hL 0 c).before 4 t d = iblk m hO c 4 t :=
  before0_4_of m hO (dats m hO hL 0 c) (A_eq m hO hL c 4) (after0_4 m hO hL c) t d
theorem before0_5 (hO : Ok m) (hL : Lens m) (c : Dev nD) (t : Fin (cfgM m hO).N) (d) : (dats m hO hL 0 c).before 5 t d = iblk m hO c 5 t :=
  before0_5_of m hO (dats m hO hL 0 c) (A_eq m hO hL c 5) (after0_5 m hO hL c) t d

/-! ## The body obligation, at a generic point -/

/-- What the body is called with at point `t` (Lib/Pipeline.lean `BodyObligation`'s precondition, the windows one by one), -/
def bodyPre (hO : Ok m) (hL : Lens m) (c : Dev nD) (t : Fin (cfgM m hO).N) : sProp 𝕄 :=
  iprop((dats m hO hL 0 c).Φ t.castSucc ∗ (dats m hO hL 0 c).owesAt () t.castSucc
    ∗ (∃ d, owns (c : Thread nD τ) (ms0_0 m hO t) fullShare ((dats m hO hL 0 c).before 0 t d))
    ∗ (∃ d, owns (c : Thread nD τ) (ms0_1 m hO t) fullShare ((dats m hO hL 0 c).before 1 t d))
    ∗ (∃ d, owns (c : Thread nD τ) (ms0_2 m hO t) fullShare ((dats m hO hL 0 c).before 2 t d))
    ∗ (∃ d, owns (c : Thread nD τ) (ms0_3 m hO t) fullShare ((dats m hO hL 0 c).before 3 t d))
    ∗ (∃ d, owns (c : Thread nD τ) (ms0_4 m hO t) fullShare ((dats m hO hL 0 c).before 4 t d))
    ∗ (∃ d, owns (c : Thread nD τ) (ms0_5 m hO t) fullShare ((dats m hO hL 0 c).before 5 t d))
    ∗ (∃ d, owns (c : Thread nD τ) (ms0_6 m hO t) fullShare ((dats m hO hL 0 c).before 6 t d))
    ∗ (∃ d, owns (c : Thread nD τ) (ms0_7 m hO t) fullShare ((dats m hO hL 0 c).before 7 t d))
    ∗ (∃ d, owns (c : Thread nD τ) (ms0_8 m hO t) fullShare ((dats m hO hL 0 c).before 8 t d))
    ∗ (∃ d, owns (c : Thread nD τ) (ms0_9 m hO t) fullShare ((dats m hO hL 0 c).before 9 t d))
    ∗ (∃ d, owns (c : Thread nD τ) (ms0_10 m hO t) fullShare ((dats m hO hL 0 c).before 10 t d)))

/-- and what it returns. -/
def bodyPost (hO : Ok m) (hL : Lens m) (c : Dev nD) (t : Fin (cfgM m hO).N) : sProp 𝕄 :=
  iprop((dats m hO hL 0 c).Φ t.succ ∗ (dats m hO hL 0 c).owesAt () t.succ
    ∗ owns (c : Thread nD τ) (ms0_0 m hO t) fullShare ((dats m hO hL 0 c).after 0 t)
    ∗ owns (c : Thread nD τ) (ms0_1 m hO t) fullShare ((dats m hO hL 0 c).after 1 t)
    ∗ owns (c : Thread nD τ) (ms0_2 m hO t) fullShare ((dats m hO hL 0 c).after 2 t)
    ∗ owns (c : Thread nD τ) (ms0_3 m hO t) fullShare ((dats m hO hL 0 c).after 3 t)
    ∗ owns (c : Thread nD τ) (ms0_4 m hO t) fullShare ((dats m hO hL 0 c).after 4 t)
    ∗ owns (c : Thread nD τ) (ms0_5 m hO t) fullShare ((dats m hO hL 0 c).after 5 t)
    ∗ owns (c : Thread nD τ) (ms0_6 m hO t) fullShare ((dats m hO hL 0 c).after 6 t)
    ∗ owns (c : Thread nD τ) (ms0_7 m hO t) fullShare ((dats m hO hL 0 c).after 7 t)
    ∗ owns (c : Thread nD τ) (ms0_8 m hO t) fullShare ((dats m hO hL 0 c).after 8 t)
    ∗ owns (c : Thread nD τ) (ms0_9 m hO t) fullShare ((dats m hO hL 0 c).after 9 t)
    ∗ owns (c : Thread nD τ) (ms0_10 m hO t) fullShare ((dats m hO hL 0 c).after 10 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hL : Lens m) (c : Dev nD) (t : Fin (cfgM m hO).N) :
    bodyPre m hO hL c t ⊢ wp frame (wpE (defs₀ (F := F)) Variants.none c none) Set.univ (bodyAt0 (adm m hO) t) (fun _ => bodyPost m hO hL c t) := by
  unfold bodyPre bodyPost bodyAt0
  simp only [before0_0, before0_1, before0_2, before0_3, before0_4, before0_5]
  rw [show (dats m hO hL 0 c).Φ t.succ = (dats m hO hL 0 c).Φ t.castSucc from rfl,
    show (dats m hO hL 0 c).owesAt () t.succ = (dats m hO hL 0 c).owesAt () t.castSucc from rfl,
    after0_0, after0_1, after0_2, after0_3, after0_4, after0_5, after0_6, after0_7, after0_8, after0_9, after0_10]
  rw [show (dats m hO hL 0 c).Φ t.castSucc = iprop(Pipeline.ΦA spec0 c ∗ Pipeline.ΦT pre0 (tbl m) c) from rfl, PhiT0_eq, PhiA0_eq]
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRunV c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) hL) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HT0]; · iexact HT0
  iintro ⟨H0, H1, H2, H3, H4, H5, H6, H7, H8, H9, H10, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (hO : Ok m) (hL : Lens m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hL : Lens m) (c : Dev nD) : BodyObligation (dats (F := F) m hO hL 0 c) (defs₀ (F := F)) Variants.none () Set.univ := fun t => by
  rw [bigSep_W0, bigSep_W0, defs₀_row m hO hL]
  exact triple_restated (sound_body m hO hL c t) rfl .rfl fun _ => .rfl

/-! ## The run -/

-- `θ_run_frameP`'s implicit arguments are found by unifying its conclusion with this one, which takes unfolding plain
-- definitions in a metavariable's type
set_option backward.isDefEq.respectTransparency.types false in
/-- `run_main`'s statement, and every semaphore counter of the machine at zero at every final state. -/
theorem run_main_quiescent (hO : Ok m) (hL : Lens m) : θ_run defs (onTc (τ := τ) (main (F := F))) (s₀ m ρ) (fun r => (Pipeline.FramePost (Pipeline.pin pcfgs fun _ => adm m hO) (dats m hO hL) 0 (V m)) r ∧ r.2.sem = fun _ => 0) :=
  Pipeline.θ_run_frameP (Q' := _) pcfgs (fun _ => adm m hO) (dats m hO hL) (0 : Fin 1) launch0 defs₀ Variants.none m ρ main
    (hbody := fun c => (body_obligation m hO hL c).loose) (hshare := fun c => (dats m hO hL 0 c).share_full fun _ => rfl)
    (howed := fun _ _ => rfl) (V := V m) (hmain := hmain m Variants.none) (hA := A_eq m hO hL) (hpf := V_pre m)
    (hΦ := fun _ _ => rfl)

/-- From any memory with zero counters: every weakly fair execution of @main on the TensorCores terminates, and every final
    state has every array of the pipeline at the contents the proof data computes and every other unscoped buffer at its
    region-entry contents. -/
theorem run_main (hO : Ok m) (hL : Lens m) : θ_run defs (onTc (τ := τ) (main (F := F))) (s₀ m ρ) (Pipeline.FramePost (Pipeline.pin pcfgs fun _ => adm m hO) (dats m hO hL) 0 (V m)) :=
  (θ_run defs _ _).mono (fun _ h => h.1) (run_main_quiescent m ρ hO hL)

end Cert.KernelIdeal.Attend.Named

end
-- ==== Proof.KernelIdeal.Arrays.lean ====
/- What the attention call leaves in its result arrays, element by element, and its blocks as the arguments' elements. -/
module

public import proofs.«01_k».proof.Proof.KernelIdeal.FrameV
public import Idealize.ShloMosaic.Lib.Pipeline.ValueKit

@[expose] public section

set_option maxRecDepth 16384

noncomputable section

namespace Cert.KernelIdeal.Attend.Named

open Cert.KernelIdeal.Gen
open Idealize.ShloMosaic Idealize.ShloMosaic.TcCoe Idealize.ShloMosaic.Tactic

variable {F : FTy → Type} [FloatOps F]
variable (m : (ℓ : Loc nD τ sig) → Buf (Elt F) ℓ)

theorem points : grid0.N = 32 := by decide

/-- Grid point number `j`. -/
def pt (j : Fin 32) : Fin grid0.N := ⟨j.val, by rw [points]; exact j.isLt⟩

theorem coord (t : Fin grid0.N) : (grid0.coords t (0 : Fin 1)).val = t.val := by revert t; decide

theorem two {P : Fin 2 → Prop} (h0 : P 0) (h1 : P 1) : ∀ a, P a := by
  intro a
  match a with
  | ⟨0, _⟩ => exact h0
  | ⟨1, _⟩ => exact h1

theorem three {P : Fin 3 → Prop} (h0 : P 0) (h1 : P 1) (h2 : P 2) : ∀ a, P a := by
  intro a
  match a with
  | ⟨0, _⟩ => exact h0
  | ⟨1, _⟩ => exact h1
  | ⟨2, _⟩ => exact h2

/-- A block's element named by the array's coordinates. -/
theorem out_at {α : Type} {n0 n1 : ℕ} (f : Fin grid0.N → (⟨3, ![1, n0, n1]⟩ : Shape).Idx → α) (t : Fin grid0.N) (y : (⟨3, ![1, n0, n1]⟩ : Shape).Idx)
    (j : Fin 32) (a : Fin n0) (b : Fin n1) (hj : j.val = t.val) (ha : a.val = (y 1).val) (hb : b.val = (y 2).val) :
    f t y = f (pt j) (ix3 (0 : Fin 1) a b) := by
  have e : pt j = t := Fin.ext hj
  rw [e]
  exact congrArg (f t) (funext (three (Subsingleton.elim (α := Fin 1) _ _) (Fin.ext ha.symm) (Fin.ext hb.symm)))

theorem idx6 (hO : Ok m) (t : Fin grid0.N) : ((cfgM m hO).win 6).index t = ![t.val, 0, 0] := by
  have h : ∀ t : Fin grid0.N, cc0_transform_6 (grid0.coords t) = ![t.val, 0, 0] := by decide
  exact h t

theorem cov6 (hO : Ok m) : ((cfgM m hO).win 6).Covers := by
  refine ⟨three (show 0 < 1 by decide) (show 0 < 16 by decide) (show 0 < 64 by decide), fun β => ?_⟩
  have h0 : (β (0 : Fin 3)).val < (32 + 1 - 1) / 1 := (β (0 : Fin 3)).isLt
  have h1 : (β (1 : Fin 3)).val < (16 + 16 - 1) / 16 := (β (1 : Fin 3)).isLt
  have h2 : (β (2 : Fin 3)).val < (64 + 64 - 1) / 64 := (β (2 : Fin 3)).isLt
  refine ⟨pt ⟨(β (0 : Fin 3)).val, by omega⟩, flush0_6 _ _, ?_⟩
  rw [idx6]
  exact three ⟨rfl, .inl rfl⟩ ⟨by show 0 = (β (1 : Fin 3)).val; omega, .inl rfl⟩ ⟨by show 0 = (β (2 : Fin 3)).val; omega, .inl rfl⟩

/-- Result 0 after the run: row `j 0` is what grid point `j 0` left in its buffer. -/
theorem arr6 (hO : Ok m) (hL : Lens m) (c : Dev nD) : (dats m hO hL 0 c).arrAt 6 (cfgM m hO).N
    = fun j : S32x16x64.Idx => out6 m hO c (pt (j 0)) (ix3 (0 : Fin 1) (j 1) (j 2)) := by
  refine (dats m hO hL 0 c).arrAt_eq_of_covers 6 _ (cov6 m hO) fun t hf y => ?_
  rw [after0_6]
  refine out_at (out6 m hO c) t y _ _ _ ?_ ?_ ?_
  · blk_simp
    rw [idx6]; rfl
  · blk_simp
    rw [idx6]; show 0 * 16 + (y (1 : Fin 3)).val = (y (1 : Fin 3)).val; omega
  · blk_simp
    rw [idx6]; show 0 * 64 + (y (2 : Fin 3)).val = (y (2 : Fin 3)).val; omega

theorem idx7 (hO : Ok m) (t : Fin grid0.N) : ((cfgM m hO).win 7).index t = ![t.val, 0, 0] := by
  have h : ∀ t : Fin grid0.N, cc0_transform_7 (grid0.coords t) = ![t.val, 0, 0] := by decide
  exact h t

theorem cov7 (hO : Ok m) : ((cfgM m hO).win 7).Covers := by
  refine ⟨three (show 0 < 1 by decide) (show 0 < 1 by decide) (show 0 < 64 by decide), fun β => ?_⟩
  have h0 : (β (0 : Fin 3)).val < (32 + 1 - 1) / 1 := (β (0 : Fin 3)).isLt
  have h1 : (β (1 : Fin 3)).val < (1 + 1 - 1) / 1 := (β (1 : Fin 3)).isLt
  have h2 : (β (2 : Fin 3)).val < (64 + 64 - 1) / 64 := (β (2 : Fin 3)).isLt
  refine ⟨pt ⟨(β (0 : Fin 3)).val, by omega⟩, flush0_7 _ _, ?_⟩
  rw [idx7]
  exact three ⟨rfl, .inl rfl⟩ ⟨by show 0 = (β (1 : Fin 3)).val; omega, .inl rfl⟩ ⟨by show 0 = (β (2 : Fin 3)).val; omega, .inl rfl⟩

/-- Result 1 after the run: row `j 0` is what grid point `j 0` left in its buffer. -/
theorem arr7 (hO : Ok m) (hL : Lens m) (c : Dev nD) : (dats m hO hL 0 c).arrAt 7 (cfgM m hO).N
    = fun j : S32x1x64.Idx => out7 m hO c (pt (j 0)) (ix3 (0 : Fin 1) (j 1) (j 2)) := by
  refine (dats m hO hL 0 c).arrAt_eq_of_covers 7 _ (cov7 m hO) fun t hf y => ?_
  rw [after0_7]
  refine out_at (out7 m hO c) t y _ _ _ ?_ ?_ ?_
  · blk_simp
    rw [idx7]; rfl
  · blk_simp
    rw [idx7]; rfl
  · blk_simp
    rw [idx7]; show 0 * 64 + (y (2 : Fin 3)).val = (y (2 : Fin 3)).val; omega

theorem idx8 (hO : Ok m) (t : Fin grid0.N) : ((cfgM m hO).win 8).index t = ![t.val, 0, 0] := by
  have h : ∀ t : Fin grid0.N, cc0_transform_8 (grid0.coords t) = ![t.val, 0, 0] := by decide
  exact h t

theorem cov8 (hO : Ok m) : ((cfgM m hO).win 8).Covers := by
  refine ⟨three (show 0 < 1 by decide) (show 0 < 1 by decide) (show 0 < 128 by decide), fun β => ?_⟩
  have h0 : (β (0 : Fin 3)).val < (32 + 1 - 1) / 1 := (β (0 : Fin 3)).isLt
  have h1 : (β (1 : Fin 3)).val < (1 + 1 - 1) / 1 := (β (1 : Fin 3)).isLt
  have h2 : (β (2 : Fin 3)).val < (128 + 128 - 1) / 128 := (β (2 : Fin 3)).isLt
  refine ⟨pt ⟨(β (0 : Fin 3)).val, by omega⟩, flush0_8 _ _, ?_⟩
  rw [idx8]
  exact three ⟨rfl, .inl rfl⟩ ⟨by show 0 = (β (1 : Fin 3)).val; omega, .inl rfl⟩ ⟨by show 0 = (β (2 : Fin 3)).val; omega, .inl rfl⟩

/-- Result 2 after the run: row `j 0` is what grid point `j 0` left in its buffer. -/
theorem arr8 (hO : Ok m) (hL : Lens m) (c : Dev nD) : (dats m hO hL 0 c).arrAt 8 (cfgM m hO).N
    = fun j : S32x1x128.Idx => out8 m hO c (pt (j 0)) (ix3 (0 : Fin 1) (j 1) (j 2)) := by
  refine (dats m hO hL 0 c).arrAt_eq_of_covers 8 _ (cov8 m hO) fun t hf y => ?_
  rw [after0_8]
  refine out_at (out8 m hO c) t y _ _ _ ?_ ?_ ?_
  · blk_simp
    rw [idx8]; rfl
  · blk_simp
    rw [idx8]; rfl
  · blk_simp
    rw [idx8]; show 0 * 128 + (y (2 : Fin 3)).val = (y (2 : Fin 3)).val; omega

theorem idx9 (hO : Ok m) (t : Fin grid0.N) : ((cfgM m hO).win 9).index t = ![t.val, 0, 0] := by
  have h : ∀ t : Fin grid0.N, cc0_transform_9 (grid0.coords t) = ![t.val, 0, 0] := by decide
  exact h t

theorem cov9 (hO : Ok m) : ((cfgM m hO).win 9).Covers := by
  refine ⟨three (show 0 < 1 by decide) (show 0 < 1 by decide) (show 0 < 64 by decide), fun β => ?_⟩
  have h0 : (β (0 : Fin 3)).val < (32 + 1 - 1) / 1 := (β (0 : Fin 3)).isLt
  have h1 : (β (1 : Fin 3)).val < (1 + 1 - 1) / 1 := (β (1 : Fin 3)).isLt
  have h2 : (β (2 : Fin 3)).val < (64 + 64 - 1) / 64 := (β (2 : Fin 3)).isLt
  refine ⟨pt ⟨(β (0 : Fin 3)).val, by omega⟩, flush0_9 _ _, ?_⟩
  rw [idx9]
  exact three ⟨rfl, .inl rfl⟩ ⟨by show 0 = (β (1 : Fin 3)).val; omega, .inl rfl⟩ ⟨by show 0 = (β (2 : Fin 3)).val; omega, .inl rfl⟩

/-- Result 3 after the run: row `j 0` is what grid point `j 0` left in its buffer. -/
theorem arr9 (hO : Ok m) (hL : Lens m) (c : Dev nD) : (dats m hO hL 0 c).arrAt 9 (cfgM m hO).N
    = fun j : S32x1x64.Idx => out9 m hO c (pt (j 0)) (ix3 (0 : Fin 1) (j 1) (j 2)) := by
  refine (dats m hO hL 0 c).arrAt_eq_of_covers 9 _ (cov9 m hO) fun t hf y => ?_
  rw [after0_9]
  refine out_at (out9 m hO c) t y _ _ _ ?_ ?_ ?_
  · blk_simp
    rw [idx9]; rfl
  · blk_simp
    rw [idx9]; rfl
  · blk_simp
    rw [idx9]; show 0 * 64 + (y (2 : Fin 3)).val = (y (2 : Fin 3)).val; omega

theorem idx10 (hO : Ok m) (t : Fin grid0.N) : ((cfgM m hO).win 10).index t = ![t.val, 0, 0] := by
  have h : ∀ t : Fin grid0.N, cc0_transform_10 (grid0.coords t) = ![t.val, 0, 0] := by decide
  exact h t

theorem cov10 (hO : Ok m) : ((cfgM m hO).win 10).Covers := by
  refine ⟨three (show 0 < 1 by decide) (show 0 < 1 by decide) (show 0 < 128 by decide), fun β => ?_⟩
  have h0 : (β (0 : Fin 3)).val < (32 + 1 - 1) / 1 := (β (0 : Fin 3)).isLt
  have h1 : (β (1 : Fin 3)).val < (1 + 1 - 1) / 1 := (β (1 : Fin 3)).isLt
  have h2 : (β (2 : Fin 3)).val < (128 + 128 - 1) / 128 := (β (2 : Fin 3)).isLt
  refine ⟨pt ⟨(β (0 : Fin 3)).val, by omega⟩, flush0_10 _ _, ?_⟩
  rw [idx10]
  exact three ⟨rfl, .inl rfl⟩ ⟨by show 0 = (β (1 : Fin 3)).val; omega, .inl rfl⟩ ⟨by show 0 = (β (2 : Fin 3)).val; omega, .inl rfl⟩

/-- Result 4 after the run: row `j 0` is what grid point `j 0` left in its buffer. -/
theorem arr10 (hO : Ok m) (hL : Lens m) (c : Dev nD) : (dats m hO hL 0 c).arrAt 10 (cfgM m hO).N
    = fun j : S32x1x128.Idx => out10 m hO c (pt (j 0)) (ix3 (0 : Fin 1) (j 1) (j 2)) := by
  refine (dats m hO hL 0 c).arrAt_eq_of_covers 10 _ (cov10 m hO) fun t hf y => ?_
  rw [after0_10]
  refine out_at (out10 m hO c) t y _ _ _ ?_ ?_ ?_
  · blk_simp
    rw [idx10]; rfl
  · blk_simp
    rw [idx10]; rfl
  · blk_simp
    rw [idx10]; show 0 * 128 + (y (2 : Fin 3)).val = (y (2 : Fin 3)).val; omega

theorem idx0 (hO : Ok m) (t : Fin grid0.N) : ((cfgM m hO).win 0).index t = ![t.val, 0, 0] := by
  have h : ∀ t : Fin grid0.N, cc0_transform_0 (grid0.coords t) = ![t.val, 0, 0] := by decide
  exact h t

/-- Block 0 of grid point `b` is row `b` of the argument. -/
theorem blk0 (hO : Ok m) (c : Dev nD) (b : Fin 32) (y : (⟨3, ![1, 16, 64]⟩ : Shape).Idx) :
    iblk m hO c 0 (pt b) y = m ((c.tc : Thread nD τ).loc main_arg1) (ix3 b (y 1) (y 2)) := by
  unfold iblk
  refine congrArg (m ((c.tc : Thread nD τ).loc main_arg1)) (funext (three (Fin.ext ?_) (Fin.ext ?_) (Fin.ext ?_)))
  · blk_simp
    rw [idx0]; rfl
  · blk_simp
    rw [idx0]; show 0 * 16 + (y (1 : Fin 3)).val = (y (1 : Fin 3)).val; omega
  · blk_simp
    rw [idx0]; show 0 * 64 + (y (2 : Fin 3)).val = (y (2 : Fin 3)).val; omega

theorem idx1 (hO : Ok m) (t : Fin grid0.N) : ((cfgM m hO).win 1).index t = ![t.val, 0, 0] := by
  have h : ∀ t : Fin grid0.N, cc0_transform_1 (grid0.coords t) = ![t.val, 0, 0] := by decide
  exact h t

/-- Block 1 of grid point `b` is row `b` of the argument. -/
theorem blk1 (hO : Ok m) (c : Dev nD) (b : Fin 32) (y : (⟨3, ![1, 1, 64]⟩ : Shape).Idx) :
    iblk m hO c 1 (pt b) y = m ((c.tc : Thread nD τ).loc main_arg2) (ix3 b (y 1) (y 2)) := by
  unfold iblk
  refine congrArg (m ((c.tc : Thread nD τ).loc main_arg2)) (funext (three (Fin.ext ?_) (Fin.ext ?_) (Fin.ext ?_)))
  · blk_simp
    rw [idx1]; rfl
  · blk_simp
    rw [idx1]; rfl
  · blk_simp
    rw [idx1]; show 0 * 64 + (y (2 : Fin 3)).val = (y (2 : Fin 3)).val; omega

theorem idx2 (hO : Ok m) (t : Fin grid0.N) : ((cfgM m hO).win 2).index t = ![t.val, 0, 0] := by
  have h : ∀ t : Fin grid0.N, cc0_transform_2 (grid0.coords t) = ![t.val, 0, 0] := by decide
  exact h t

/-- Block 2 of grid point `b` is row `b` of the argument. -/
theorem blk2 (hO : Ok m) (c : Dev nD) (b : Fin 32) (y : (⟨3, ![1, 1, 64]⟩ : Shape).Idx) :
    iblk m hO c 2 (pt b) y = m ((c.tc : Thread nD τ).loc main_arg3) (ix3 b (y 1) (y 2)) := by
  unfold iblk
  refine congrArg (m ((c.tc : Thread nD τ).loc main_arg3)) (funext (three (Fin.ext ?_) (Fin.ext ?_) (Fin.ext ?_)))
  · blk_simp
    rw [idx2]; rfl
  · blk_simp
    rw [idx2]; rfl
  · blk_simp
    rw [idx2]; show 0 * 64 + (y (2 : Fin 3)).val = (y (2 : Fin 3)).val; omega

theorem idx3 (hO : Ok m) (t : Fin grid0.N) : ((cfgM m hO).win 3).index t = ![0, t.val] := by
  have h : ∀ t : Fin grid0.N, cc0_transform_3 (grid0.coords t) = ![0, t.val] := by decide
  exact h t

/-- Block 3 of grid point `b` is the columns of sequence `b` of the argument. -/
theorem blk3 (hO : Ok m) (c : Dev nD) (b : Fin 32) (y : (⟨2, ![256, 1024]⟩ : Shape).Idx) :
    iblk m hO c 3 (pt b) y = m ((c.tc : Thread nD τ).loc main_arg4) (ix2 (y 0) (⟨b.val * 1024 + (y 1).val, by
      have h : (y 1).val < 1024 := (y 1).isLt
      omega⟩ : Fin 32768)) := by
  unfold iblk
  refine congrArg (m ((c.tc : Thread nD τ).loc main_arg4)) (funext (two (Fin.ext ?_) (Fin.ext ?_)))
  · blk_simp
    rw [idx3]; show 0 * 256 + (y (0 : Fin 2)).val = (y (0 : Fin 2)).val; omega
  · blk_simp
    rw [idx3]; rfl

theorem idx4 (hO : Ok m) (t : Fin grid0.N) : ((cfgM m hO).win 4).index t = ![0, t.val] := by
  have h : ∀ t : Fin grid0.N, cc0_transform_4 (grid0.coords t) = ![0, t.val] := by decide
  exact h t

/-- Block 4 of grid point `b` is the columns of sequence `b` of the argument. -/
theorem blk4 (hO : Ok m) (c : Dev nD) (b : Fin 32) (y : (⟨2, ![256, 1024]⟩ : Shape).Idx) :
    iblk m hO c 4 (pt b) y = m ((c.tc : Thread nD τ).loc main_arg5) (ix2 (y 0) (⟨b.val * 1024 + (y 1).val, by
      have h : (y 1).val < 1024 := (y 1).isLt
      omega⟩ : Fin 32768)) := by
  unfold iblk
  refine congrArg (m ((c.tc : Thread nD τ).loc main_arg5)) (funext (two (Fin.ext ?_) (Fin.ext ?_)))
  · blk_simp
    rw [idx4]; show 0 * 256 + (y (0 : Fin 2)).val = (y (0 : Fin 2)).val; omega
  · blk_simp
    rw [idx4]; rfl

theorem idx5 (hO : Ok m) (t : Fin grid0.N) : ((cfgM m hO).win 5).index t = ![0, t.val] := by
  have h : ∀ t : Fin grid0.N, cc0_transform_5 (grid0.coords t) = ![0, t.val] := by decide
  exact h t

/-- Block 5 of grid point `b` is the columns of sequence `b` of the argument. -/
theorem blk5 (hO : Ok m) (c : Dev nD) (b : Fin 32) (y : (⟨2, ![32, 1024]⟩ : Shape).Idx) :
    iblk m hO c 5 (pt b) y = m ((c.tc : Thread nD τ).loc main_arg6) (ix2 (y 0) (⟨b.val * 1024 + (y 1).val, by
      have h : (y 1).val < 1024 := (y 1).isLt
      omega⟩ : Fin 32768)) := by
  unfold iblk
  refine congrArg (m ((c.tc : Thread nD τ).loc main_arg6)) (funext (two (Fin.ext ?_) (Fin.ext ?_)))
  · blk_simp
    rw [idx5]; show 0 * 32 + (y (0 : Fin 2)).val = (y (0 : Fin 2)).val; omega
  · blk_simp
    rw [idx5]; rfl

/-- The length of grid point `b` is element `b` of the table argument. -/
theorem word_at (c : Dev nD) (b : Fin 32) : wordOf (grid0.coords (pt b)) (tbl m 0) = m ((c.tc : Thread nD τ).loc main_arg0) (ix1 b) := by
  obtain rfl : c = 0 := Subsingleton.elim _ _
  refine congrArg (fun y => m (((0 : Dev nD).tc : Thread nD τ).loc main_arg0) y) (funext fun a => ?_)
  obtain rfl : a = (0 : Fin 1) := Subsingleton.elim (α := Fin 1) _ _
  exact Fin.ext (coord (pt b))

end Cert.KernelIdeal.Attend.Named

end
-- ==== Proof.KernelIdeal.Read.lean ====
/- The kernel's vector expressions read at an element over the extended reals: the block of queries, a slot's scores
   and weights, a group's product, the result row. -/
module

public import proofs.«01_k».proof.Proof.KernelIdeal.Outs
public import proofs.«01_k».proof.Proof.Attention
public import Idealize.ShloMosaic.Lib.FinSumWindow

@[expose] public section

set_option maxRecDepth 16384

noncomputable section

namespace Cert.KernelIdeal.Attend

open Cert.KernelIdeal.Gen Cert.Attn
open Idealize.ShloMosaic Idealize.ShloMosaic.TcCoe Idealize.ShloMosaic.Tactic Idealize.ShloMosaic.Pointwise

/-- The block a row of the tiled queries belongs to. -/
theorem row_block (i : Fin 64) (e : Fin 256) : k0_pay202 (ix2 i e) = BitVec.ofNat 32 (i.val / 16) := by
  unfold k0_pay202
  pointwise
  revert i
  decide

/-- The tiled queries. -/
theorem tile_apply (x0 : Vec Ideal S1x16x64 .bf16) (i : Fin 64) (e : Fin 256) :
    k0_pay201 x0 (ix2 i e) = x0 (ix3 (0 : Fin 1) (⟨i.val % 16, by omega⟩ : Fin 16) (⟨e.val % 64, by omega⟩ : Fin 64)) := by
  unfold k0_pay201 k0_pay200
  pointwise
  split_ifs <;> refine congrArg x0 (congrArg₂ (ix3 (0 : Fin 1)) (Fin.ext ?_) (Fin.ext ?_)) <;> simp only <;> omega

/-- Whether a row and a column of the tiled queries are of one block, as a word. -/
theorem same_block (i : Fin 64) (e : Fin 256) :
    IntOp.cmpi .eq (BitVec.ofNat 32 (i.val / 16)) (BitVec.ofNat 32 (e.val / 64)) = BitVec.ofBool (decide (i.val / 16 = e.val / 64)) := by
  have h : ∀ a b : Fin 4, IntOp.cmpi .eq (BitVec.ofNat 32 a.val) (BitVec.ofNat 32 b.val) = BitVec.ofBool (decide (a.val = b.val)) := by decide
  exact h ⟨i.val / 16, by omega⟩ ⟨e.val / 64, by omega⟩

/-- The block of a column as the kernel computes it. -/
theorem col_block (e : Fin 256) :
    Scalar.select
        (IntOp.andi
          (IntOp.cmpi CmpIPredicate.ne
            (IntOp.subi (BitVec.setWidth 32 (IntOp.cmpi CmpIPredicate.sgt (BitVec.ofNat 32 e.val) 0#32))
              (BitVec.setWidth 32 (IntOp.cmpi CmpIPredicate.slt (BitVec.ofNat 32 e.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 e.val) 64#32) 0#32))
        (IntOp.subi (IntOp.divsi ArithUnit.vector (BitVec.ofNat 32 e.val) 64#32) 1#32)
        (IntOp.divsi ArithUnit.vector (BitVec.ofNat 32 e.val) 64#32) = BitVec.ofNat 32 (e.val / 64) := by
  revert e
  decide

theorem four_cases : ∀ t : Fin 4, t = 0 ∨ t = 1 ∨ t = 2 ∨ t = 3 := by
  decide

theorem minus_inf : Ideal.ofBits .f32 0xFF800000#32 = ⊥ := by
  simp [Ideal.ofBits, Ideal.ieee]

/-- A select on a decided word. -/
theorem select_word (c : BitVec 1) (a b : EReal) : Scalar.select c a b = if c = 1#1 then a else b := by
  unfold Scalar.select
  by_cases h : c = 1#1
  · rw [if_pos h]
    exact if_pos h
  · rw [if_neg h]
    exact if_neg h

/-- The block diagonal of queries: row `16t + h` holds query row `h` in columns `64t … 64t+63`, zero elsewhere. -/
theorem qblock_apply (x0 : Vec Ideal S1x16x64 .bf16) (i : Fin 64) (e : Fin 256) :
    qblock x0 (ix2 i e) = if i.val / 16 = e.val / 64 then
      x0 (ix3 (0 : Fin 1) (⟨i.val % 16, by omega⟩ : Fin 16) (⟨e.val % 64, by omega⟩ : Fin 64)) else (0 : EReal) := by
  unfold qblock k0_pay206
  pointwise
  rw [row_block, tile_apply]
  unfold k0_pay203 k0_pay204 k0_pay205
  pointwise
  rw [col_block, same_block]
  unfold Scalar.select
  by_cases h : i.val / 16 = e.val / 64 <;> simp [h]

theorem pay3_apply (qb : FVec Ideal S64x256 .bf16) (w : Vec Ideal S64x256 .i32) (i : Fin 64) (j : Fin 256) :
    k0_pay3 qb w (ix2 i j) = ∑ e : Fin 256, qb (ix2 i e) * code (w (ix2 (⟨e.val / 4, by omega⟩ : Fin 64) j)) ⟨e.val % 4, by omega⟩ := by
  unfold k0_pay3
  pointwise
  refine Finset.sum_congr rfl fun e _ => ?_
  exact congrArg (fun z : BitVec 8 => qb (ix2 i e) * ((z.toInt : ℝ) : EReal)) (bitcast_byte (R := 64) w bitcasts_S64x256_w32_S256x256_w8 e j)

/-- The block product: one query row against one slot's codes. -/
theorem block_product (x0 : Vec Ideal S1x16x64 .bf16) (w : Vec Ideal S64x256 .i32) (t : Fin 4) (h : Fin 16) (j : Fin 256) :
    k0_pay3 (qblock x0) w (ix2 (⟨16 * t.val + h.val, by omega⟩ : Fin 64) j)
      = ∑ d : Fin 64, x0 (ix3 (0 : Fin 1) h d) * code (w (ix2 (⟨16 * t.val + d.val / 4, by omega⟩ : Fin 64) j)) ⟨d.val % 4, by omega⟩ := by
  rw [pay3_apply, FinSumWindow.sum_window (W := 64) (64 * t.val) (by omega)]
  · refine Finset.sum_congr rfl fun d _ => ?_
    rw [qblock_apply, if_pos (show (16 * t.val + h.val) / 16 = (64 * t.val + d.val) / 64 by omega)]
    have e1 : (⟨(16 * t.val + h.val) % 16, by omega⟩ : Fin 16) = h := Fin.ext (by simp only; omega)
    have e2 : (⟨(64 * t.val + d.val) % 64, by omega⟩ : Fin 64) = d := Fin.ext (by simp only; omega)
    have e3 : (⟨(64 * t.val + d.val) / 4, by omega⟩ : Fin 64) = ⟨16 * t.val + d.val / 4, by omega⟩ := Fin.ext (by simp only; omega)
    have e4 : (⟨(64 * t.val + d.val) % 4, by omega⟩ : Fin 4) = ⟨d.val % 4, by omega⟩ := Fin.ext (by simp only; omega)
    simp only [e1, e2, e3, e4]
  · intro e he
    rw [qblock_apply, if_neg (fun h' => he (by have h'' : (16 * t.val + h.val) / 16 = e.val / 64 := h'; omega)), zero_mul]

/-- The word of a token's number as the kernel computes it. -/
theorem token_word (k : Fin 4) (s : Fin 16) (j : Fin 256) :
    IntOp.addi (IntOp.muli (IntOp.addi (Scalar.muli (Scf.iv 0#32 1#32 k.val) 256#32) (BitVec.ofNat 32 j.val)) 16#32) (BitVec.ofNat 32 s.val)
      = BitVec.ofNat 32 (tok k s j).val := by
  have hk : Scf.iv 0#32 1#32 k.val = BitVec.ofNat 32 k.val := by revert k; decide
  rw [hk]
  show (BitVec.ofNat 32 k.val * BitVec.ofNat 32 256 + BitVec.ofNat 32 j.val) * BitVec.ofNat 32 16 + BitVec.ofNat 32 s.val = _
  rw [← BitVec.ofNat_mul, ← BitVec.ofNat_add, ← BitVec.ofNat_mul, ← BitVec.ofNat_add]
  congr 1
  simp only [tok]
  omega

theorem live_apply (n : BitVec 32) (k : Fin 4) (s : Fin 16) (h : Fin 16) (j : Fin 256) :
    live n k.val (BitVec.ofNat 32 s.val) (ix2 h j) = IntOp.cmpi .slt (BitVec.ofNat 32 (tok k s j).val) n := by
  unfold live page
  pointwise
  rw [token_word]

/-- The scores of a slot are the tokens' scores. -/
theorem sc_apply (n : BitVec 32) (x0 : Vec Ideal S1x16x64 .bf16) (x3 : S256x1024.Idx → Elt Ideal .i32) (x5 : S32x1024.Idx → Elt Ideal .i32)
    (k : Fin 4) (s : Fin 16) (h : Fin 16) (j : Fin 256) :
    sc n (qblock x0) x3 x5 k s (ix2 h j) = Attn.score n (fun e => x0 (ix3 (0 : Fin 1) h e)) (fun a p => x3 (ix2 a p))
      (fun a p => x5 (ix2 (⟨a.val, by omega⟩ : Fin 32) p)) (tok k s j) := by
  have hl := live_apply n k s h j
  have hp := block_product x0 (codes x3 (grp s) k) (plc s) h j
  unfold sc Attend.score
  pointwise
  rw [hl, hp]
  have hc : ∀ d : Fin 64, code (codes (F := Ideal) x3 (grp s) k (ix2 (⟨16 * (plc s).val + d.val / 4, by omega⟩ : Fin 64) j)) ⟨d.val % 4, by omega⟩
      = tokCode (fun a p => x3 (ix2 a p)) (tok k s j) d := by
    intro d
    unfold tokCode codes
    refine congrArg (fun w => code w _) (congrArg x3 (congrArg₂ ix2 (Fin.ext ?_) (Fin.ext ?_)))
    · show 64 * (s.val / 4) + (16 * (s.val % 4) + d.val / 4) = 16 * ((tok k s j).val % 16) + d.val / 4
      simp only [tok]; omega
    · show 256 * k.val + j.val = (tok k s j).val / 16
      simp only [tok]; omega
  have hs : Ideal.ofBits .f32 (scales (F := Ideal) x5 (⟨s.val, by omega⟩ : Fin 32) k (ix2 (0 : Fin 1) j))
      = tokScale (fun a p => x5 (ix2 (⟨a.val, by omega⟩ : Fin 32) p)) (tok k s j) := by
    unfold tokScale scales
    refine congrArg (Ideal.ofBits .f32) (congrArg x5 (congrArg₂ ix2 (Fin.ext ?_) (Fin.ext ?_)))
    · show s.val = (tok k s j).val % 16
      simp only [tok]; omega
    · show 256 * k.val + j.val = (tok k s j).val / 16
      simp only [tok]; omega
  rw [minus_inf, hs, select_word]
  simp only [hc]
  rfl

/-- The unnormalised weight of an entry. -/
theorem weight_apply (mx : FVec Ideal S16x1 .f32) (x : Vec Ideal S16x256 .f32) (h : Fin 16) (j : Fin 256) :
    weight mx x (ix2 h j) = Ideal.exp (HSub.hSub (α := EReal) (β := EReal) (x (ix2 h j)) (mx (ix2 h (0 : Fin 1)))) := by
  unfold weight
  pointwise

theorem wt_apply (n : BitVec 32) (mx : FVec Ideal S16x1 .f32) (x5 : S32x1024.Idx → Elt Ideal .i32) (k : Fin 4)
    (f : Fin 16 → FVec Ideal S16x256 .f32) (s : Fin 16) (h : Fin 16) (j : Fin 256) :
    wt n mx x5 k f s (ix2 h j) = if Live n (tok k s j) then
      Ideal.exp (HSub.hSub (α := EReal) (β := EReal) (f s (ix2 h j)) (mx (ix2 h (0 : Fin 1))))
        * tokScale (fun a p => x5 (ix2 (⟨16 + a.val, by omega⟩ : Fin 32) p)) (tok k s j) else 0 := by
  have hl := live_apply n k s h j
  have hw := weight_apply mx (f s) h j
  unfold wt weighted
  pointwise
  rw [hl]
  have hs : Ideal.ofBits .f32 (scales (F := Ideal) x5 (⟨16 + s.val, by omega⟩ : Fin 32) k (ix2 (0 : Fin 1) j))
      = tokScale (fun a p => x5 (ix2 (⟨16 + a.val, by omega⟩ : Fin 32) p)) (tok k s j) := by
    unfold tokScale scales
    refine congrArg (Ideal.ofBits .f32) (congrArg x5 (congrArg₂ ix2 (Fin.ext ?_) (Fin.ext ?_)))
    · show 16 + s.val = 16 + (tok k s j).val % 16
      simp only [tok]; omega
    · show 256 * k.val + j.val = (tok k s j).val / 16
      simp only [tok]; omega
  rw [hw, hs, select_word]
  rfl

/-- A group's product added, on the block diagonal. -/
theorem group_apply (acc : FVec Ideal S64x256 .f32) (p0 p1 p2 p3 : FVec Ideal S16x256 .bf16) (vw : Vec Ideal S64x256 .i32)
    (t : Fin 4) (h : Fin 16) (d : Fin 64) (p : Fin 4 → FVec Ideal S16x256 .bf16) (h0 : p0 = p 0) (h1 : p1 = p 1) (h2 : p2 = p 2) (h3 : p3 = p 3) :
    addGroup acc p0 p1 p2 p3 vw (ix2 (⟨16 * t.val + h.val, by omega⟩ : Fin 64) (⟨64 * t.val + d.val, by omega⟩ : Fin 256))
      = HAdd.hAdd (α := EReal) (β := EReal) (acc (ix2 (⟨16 * t.val + h.val, by omega⟩ : Fin 64) (⟨64 * t.val + d.val, by omega⟩ : Fin 256)))
        (∑ j : Fin 256, p t (ix2 h j) * code (vw (ix2 (⟨16 * t.val + d.val / 4, by omega⟩ : Fin 64) j)) ⟨d.val % 4, by omega⟩) := by
  subst h0 h1 h2 h3
  unfold addGroup
  pointwise
  refine congrArg (HAdd.hAdd (α := EReal) (β := EReal) _) (Finset.sum_congr rfl fun j _ => ?_)
  have hb := bitcast_byte (R := 64) vw bitcasts_S64x256_w32_S256x256_w8 (⟨64 * t.val + d.val, by omega⟩ : Fin 256) j
  have e3 : (⟨(64 * t.val + d.val) / 4, by omega⟩ : Fin 64) = ⟨16 * t.val + d.val / 4, by omega⟩ := Fin.ext (by simp only; omega)
  have e4 : (⟨(64 * t.val + d.val) % 4, by omega⟩ : Fin 4) = ⟨d.val % 4, by omega⟩ := Fin.ext (by simp only; omega)
  simp only [e3, e4] at hb
  have hs : FloatOps.sitofp (F := Ideal) FTy.bf16 (bitcast S256x256 8 vw bitcasts_S64x256_w32_S256x256_w8
      (ix2 (⟨64 * t.val + d.val, by omega⟩ : Fin 256) j))
      = code (vw (ix2 (⟨16 * t.val + d.val / 4, by omega⟩ : Fin 64) j)) ⟨d.val % 4, by omega⟩ :=
    congrArg (fun z : BitVec 8 => ((z.toInt : ℝ) : EReal)) hb
  rw [hs]
  refine congrArg (fun z : EReal => z * _) ?_
  rcases four_cases t with rfl | rfl | rfl | rfl
  · rw [dif_pos (by show 16 * 0 + h.val < 16; omega)]
    exact congrArg (p 0) (congrArg₂ ix2 (Fin.ext (by show 16 * 0 + h.val = h.val; omega)) rfl)
  · rw [dif_neg (by show ¬ (16 * 1 + h.val < 16); omega), dif_pos (by show 16 * 1 + h.val - 16 < 16; omega)]
    exact congrArg (p 1) (congrArg₂ ix2 (Fin.ext (by show 16 * 1 + h.val - 16 = h.val; omega)) rfl)
  · rw [dif_neg (by show ¬ (16 * 2 + h.val < 16); omega), dif_neg (by show ¬ (16 * 2 + h.val - 16 < 16); omega),
      dif_pos (by show 16 * 2 + h.val - 16 - 16 < 16; omega)]
    exact congrArg (p 2) (congrArg₂ ix2 (Fin.ext (by show 16 * 2 + h.val - 16 - 16 = h.val; omega)) rfl)
  · rw [dif_neg (by show ¬ (16 * 3 + h.val < 16); omega), dif_neg (by show ¬ (16 * 3 + h.val - 16 < 16); omega),
      dif_neg (by show ¬ (16 * 3 + h.val - 16 - 16 < 16); omega)]
    exact congrArg (p 3) (congrArg₂ ix2 (Fin.ext (by show 16 * 3 + h.val - 16 - 16 - 16 = h.val; omega)) rfl)

/-- A row of the result. -/
theorem pay1_apply (vs : FVec Ideal S1x1 .f32) (vc : FVec Ideal S1x64 .f32) (l : FVec Ideal S16x256 .f32) (acc : FVec Ideal S64x256 .f32)
    (p : FVec Ideal S16x1 .f32) (h : Fin 16) (d : Fin 64) :
    k0_pay1 vs vc l acc p (ix3 (0 : Fin 1) h d) = Ideal.div
      (p (ix2 h (0 : Fin 1)) * vs (ix2 (0 : Fin 1) (0 : Fin 1)) * vc (ix2 (0 : Fin 1) d)
        + ∑ t : Fin 4, acc (ix2 (⟨16 * t.val + h.val, by omega⟩ : Fin 64) (⟨64 * t.val + d.val, by omega⟩ : Fin 256)))
      (∑ j, l (ix2 h j) + p (ix2 h (0 : Fin 1))) := by
  unfold k0_pay1
  pointwise
  rw [Fin.sum_univ_four]
  have f0 : (⟨h.val, by omega⟩ : Fin 64) = ⟨16 * (0 : Fin 4).val + h.val, by omega⟩ := Fin.ext (by show h.val = 16 * 0 + h.val; omega)
  have g0 : (⟨d.val, by omega⟩ : Fin 256) = ⟨64 * (0 : Fin 4).val + d.val, by omega⟩ := Fin.ext (by show d.val = 64 * 0 + d.val; omega)
  rw [f0, g0]
  refine congrArg (fun z => Ideal.div z _) ?_
  simp only [← add_assoc]
  rfl

/-- The new token's score, and the greatest score of a row. -/
theorem max_apply (v31 : FVec Ideal S1x1 .f32) (v38 : FVec Ideal S1x64 .f32) (v77 : FVec Ideal S16x64 .bf16) (v149 : FVec Ideal S16x256 .f32)
    (h : Fin 16) : k0_pay213 v31 v38 v77 v149 (ix2 h (0 : Fin 1)) = max (Finset.univ.sup fun j => v149 (ix2 h j)) (k0_pay207 v31 v38 v77 (ix2 h (0 : Fin 1))) := by
  unfold k0_pay213
  pointwise
  refine congrArg (fun z => max z _) (eq_of_forall_ge_iff fun c => ?_)
  rw [Finset.fold_max_le, Finset.sup_le_iff, minus_inf]
  exact ⟨fun h => h.2, fun h => ⟨bot_le, h⟩⟩

theorem new_apply (v31 : FVec Ideal S1x1 .f32) (v38 : FVec Ideal S1x64 .f32) (x0 : Vec Ideal S1x16x64 .bf16)
    (h : Fin 16) : k0_pay207 v31 v38 (k0_pay200 x0) (ix2 h (0 : Fin 1)) =
      (∑ d : Fin 64, x0 (ix3 (0 : Fin 1) h d) * v38 (ix2 (0 : Fin 1) d)) * v31 (ix2 (0 : Fin 1) (0 : Fin 1)) * Ideal.ofBits .f32 0x3E000000#32 := by
  unfold k0_pay207 k0_pay200
  pointwise

theorem weight_new (v31 : FVec Ideal S1x1 .f32) (v38 : FVec Ideal S1x64 .f32) (v77 : FVec Ideal S16x64 .bf16) (v149 : FVec Ideal S16x256 .f32)
    (h : Fin 16) : k0_pay218 v31 v38 v77 v149 (ix2 h (0 : Fin 1)) = Ideal.exp (HSub.hSub (α := EReal) (β := EReal)
      (k0_pay207 v31 v38 v77 (ix2 h (0 : Fin 1))) (k0_pay213 v31 v38 v77 v149 (ix2 h (0 : Fin 1)))) := by
  unfold k0_pay218
  pointwise

end Cert.KernelIdeal.Attend

end
-- ==== Proof.KernelIdeal.Quant.lean ====
/- The kernel's quantiser read over the extended reals: the scale and the codes of a new row. -/
module

public import proofs.«01_k».proof.Proof.Gen.KernelIdeal.Skeleton
public import proofs.«01_k».proof.Proof.Finite
public import Idealize.ShloMosaic.Lib.Pipeline.Value

@[expose] public section

set_option maxRecDepth 16384

noncomputable section

namespace Cert.KernelIdeal.Attend

open Cert.KernelIdeal.Gen Cert.Attn
open Idealize.ShloMosaic Idealize.ShloMosaic.TcCoe Idealize.ShloMosaic.Tactic Idealize.ShloMosaic.Pointwise

theorem fold_amax (x : Fin 64 → EReal) : Finset.fold max (Ideal.ofBits .f32 0xFF800000#32) (fun e => max (x e) (-(x e))) Finset.univ = amax x := by
  have neg_inf : Ideal.ofBits .f32 0xFF800000#32 = ⊥ := by simp [Ideal.ofBits, Ideal.ieee]
  unfold amax
  refine eq_of_forall_ge_iff fun c => ?_
  rw [Finset.fold_max_le, Finset.sup_le_iff, neg_inf]
  exact ⟨fun h e he => h.2 e he, fun h => ⟨bot_le, h⟩⟩

theorem k0_pay190_read (x : Vec Ideal S1x1x64 .bf16) (d : Fin 64) :
    k0_pay190 x (ix2 (0 : Fin 1) d) = x (ix3 (0 : Fin 1) (0 : Fin 1) d) := by
  unfold k0_pay190
  pointwise

theorem k0_pay193_read (x : Vec Ideal S1x1x64 .bf16) (d : Fin 64) :
    k0_pay193 x (ix2 (0 : Fin 1) d) = x (ix3 (0 : Fin 1) (0 : Fin 1) d) := by
  unfold k0_pay193
  pointwise

theorem key_scale (x : Vec Ideal S1x1x64 .bf16) :
    k0_pay191 x (ix2 (0 : Fin 1) (0 : Fin 1)) = scale fun e => x (ix3 (0 : Fin 1) (0 : Fin 1) e) := by
  unfold k0_pay191
  pointwise
  have e : Finset.fold max (Ideal.ofBits .f32 0xFF800000#32) (fun e => FloatOps.absf (k0_pay190 x (ix2 (0 : Fin 1) e))) Finset.univ
      = amax fun e => x (ix3 (0 : Fin 1) (0 : Fin 1) e) := by
    rw [← fold_amax]
    simp only [k0_pay190_read]
    rfl
  rw [e]
  rfl

theorem val_scale (x : Vec Ideal S1x1x64 .bf16) :
    k0_pay194 x (ix2 (0 : Fin 1) (0 : Fin 1)) = scale fun e => x (ix3 (0 : Fin 1) (0 : Fin 1) e) := by
  unfold k0_pay194
  pointwise
  have e : Finset.fold max (Ideal.ofBits .f32 0xFF800000#32) (fun e => FloatOps.absf (k0_pay193 x (ix2 (0 : Fin 1) e))) Finset.univ
      = amax fun e => x (ix3 (0 : Fin 1) (0 : Fin 1) e) := by
    rw [← fold_amax]
    simp only [k0_pay193_read]
    rfl
  rw [e]
  rfl

theorem key_codes (x : Vec Ideal S1x1x64 .bf16) (d : Fin 64) :
    k0_pay192 x (ix2 (0 : Fin 1) d) = quant (fun e => x (ix3 (0 : Fin 1) (0 : Fin 1) e)) d := by
  unfold k0_pay192
  pointwise
  rw [k0_pay190_read, key_scale]
  rfl

theorem val_codes (x : Vec Ideal S1x1x64 .bf16) (d : Fin 64) :
    k0_pay195 x (ix2 (0 : Fin 1) d) = quant (fun e => x (ix3 (0 : Fin 1) (0 : Fin 1) e)) d := by
  unfold k0_pay195
  pointwise
  rw [k0_pay193_read, val_scale]
  rfl

theorem out7_read (x : FVec Ideal S1x64 .f32) (d : Fin 64) :
    k0_pay196 x (ix3 (0 : Fin 1) (0 : Fin 1) d) = Ideal.fptosi 8 (x (ix2 (0 : Fin 1) d)) := by
  unfold k0_pay196
  pointwise
  rfl

theorem out9_read (x : Vec Ideal S1x1x64 .bf16) (d : Fin 64) :
    k0_pay197 x (ix3 (0 : Fin 1) (0 : Fin 1) d) = Ideal.fptosi 8 (k0_pay195 x (ix2 (0 : Fin 1) d)) := by
  unfold k0_pay197
  pointwise
  rfl

theorem out8_read (x : FVec Ideal S1x1 .f32) (d : Fin 128) :
    k0_pay198 x (ix3 (0 : Fin 1) (0 : Fin 1) d) = x (ix2 (0 : Fin 1) (0 : Fin 1)) := by
  unfold k0_pay198
  pointwise

theorem out10_read (x : Vec Ideal S1x1x64 .bf16) (d : Fin 128) :
    k0_pay199 x (ix3 (0 : Fin 1) (0 : Fin 1) d) = k0_pay194 x (ix2 (0 : Fin 1) (0 : Fin 1)) := by
  unfold k0_pay199
  pointwise

/-- A code made an integer of eight bits is the one made of 32 bits, its low byte. -/
theorem quant_int (x : Fin 64 → EReal) (d : Fin 64) :
    (Ideal.fptosi 32 (quant x d)).setWidth 8 = Ideal.fptosi 8 (quant x d) := by
  have hlo : ((-127 : ℝ) : EReal) ≤ quant x d := by
    unfold quant
    rw [c127, cm127]
    exact le_min (by exact_mod_cast (by norm_num : (-127 : ℝ) ≤ 127)) (le_max_left _ _)
  have hhi : quant x d ≤ ((127 : ℝ) : EReal) := by
    unfold quant
    rw [c127]
    exact min_le_left _ _
  obtain ⟨r, hr⟩ := (fin_iff _).1 (quant_fin x d)
  rw [hr] at hlo hhi ⊢
  rw [EReal.coe_le_coe_iff] at hlo hhi
  have hz : ∃ z : ℤ, (if 0 ≤ r then ⌊r⌋ else ⌈r⌉) = z ∧ -127 ≤ z ∧ z ≤ 127 := by
    refine ⟨_, rfl, ?_, ?_⟩
    · split_ifs with h
      · exact le_trans (by norm_num) (Int.floor_nonneg.2 h)
      · exact Int.cast_le.1 (le_trans (by push_cast; exact hlo) (Int.le_ceil r))
    · split_ifs with h
      · exact Int.cast_le.1 (le_trans (Int.floor_le r) (by push_cast; exact hhi))
      · exact le_trans (Int.ceil_le.2 (by push_cast; linarith)) (by norm_num : (0 : ℤ) ≤ 127)
  obtain ⟨z, hz, h1, h2⟩ := hz
  have e (w : ℕ) (lo hi : ℤ) (hl : lo ≤ -127) (hh : 127 ≤ hi) : Ideal.toIntClamped lo hi ((r : ℝ) : EReal) = z := by
    show max lo (min hi (if 0 ≤ r then ⌊r⌋ else ⌈r⌉)) = z
    rw [hz]
    omega
  unfold Ideal.fptosi
  rw [e 32 _ _ (by norm_num) (by norm_num), e 8 _ _ (by norm_num) (by norm_num)]
  apply BitVec.eq_of_toNat_eq
  rw [BitVec.toNat_setWidth, BitVec.toNat_ofInt, BitVec.toNat_ofInt]
  omega

end Cert.KernelIdeal.Attend

end
-- ==== Proof.KernelIdeal.Sums.lean ====
/- The two chunk loops over the extended reals: the running maximum, the running sums and the running block product are
   the maximum and the sums over the tokens, so the result row is attention. -/
module

public import proofs.«01_k».proof.Proof.KernelIdeal.Read
public import proofs.«01_k».proof.Proof.KernelIdeal.Quant
public import proofs.«01_k».proof.Proof.Finite

@[expose] public section

set_option maxRecDepth 16384

noncomputable section

namespace Cert.KernelIdeal.Attend

open Cert.KernelIdeal.Gen Cert.Attn
open Idealize.ShloMosaic Idealize.ShloMosaic.TcCoe Idealize.ShloMosaic.Tactic Idealize.ShloMosaic.Pointwise

theorem slots_fin : slots = List.finRange 16 := by
  decide

theorem groups_fin : ([0, 1, 2, 3] : List (Fin 4)) = List.finRange 4 := by
  decide

/-- A fold of maxima is below a bound when each of its members is. -/
theorem foldl_max (f : Fin 16 → FVec Ideal S16x256 .f32) (i : S16x256.Idx) (c : EReal) (l : List (Fin 16)) :
    ∀ acc : FVec Ideal S16x256 .f32, LE.le (α := EReal) (l.foldl (fun a s => maximumf a (f s)) acc i) c
      ↔ LE.le (α := EReal) (acc i) c ∧ ∀ s ∈ l, LE.le (α := EReal) (f s i) c := by
  induction l with
  | nil => intro acc; simp
  | cons a l ih =>
    intro acc
    rw [List.foldl_cons, ih]
    have e : LE.le (α := EReal) (maximumf acc (f a) i) c ↔ LE.le (α := EReal) (acc i) c ∧ LE.le (α := EReal) (f a i) c :=
      max_le_iff (α := EReal)
    rw [e, List.forall_mem_cons, and_assoc]

/-- A fold of sums read at an entry. -/
theorem foldl_add {ι : Type} (g : ι → FVec Ideal S16x256 .f32) (i : S16x256.Idx) (l : List ι) :
    ∀ acc : FVec Ideal S16x256 .f32, l.foldl (fun a s => addf a (g s)) acc i
      = HAdd.hAdd (α := EReal) (β := EReal) (acc i) (List.sum (α := EReal) (l.map fun s => (g s i : EReal))) := by
  induction l with
  | nil => intro acc; exact (add_zero (M := EReal) _).symm
  | cons a l ih =>
    intro acc
    rw [List.foldl_cons, ih, List.map_cons, List.sum_cons]
    exact add_assoc (G := EReal) _ _ _

theorem pay208_read (h : Fin 16) (j : Fin 256) : k0_pay208 (F := Ideal) (ix2 h j) = (⊥ : EReal) := by
  rw [← minus_inf]
  unfold k0_pay208
  pointwise

theorem pay214_read (h : Fin 16) (j : Fin 256) : k0_pay214 (F := Ideal) (ix2 h j) = (0 : EReal) := by
  unfold k0_pay214
  pointwise

theorem pay215_read (i : Fin 64) (e : Fin 256) : k0_pay215 (F := Ideal) (ix2 i e) = (0 : EReal) := by
  unfold k0_pay215
  pointwise

/-- The running maximum is below a bound when every score so far is. -/
theorem runMax_le (n : BitVec 32) (qb : FVec Ideal S64x256 .bf16) (x3 : S256x1024.Idx → Elt Ideal .i32) (x5 : S32x1024.Idx → Elt Ideal .i32)
    (h : Fin 16) (j : Fin 256) (c : EReal) (T : ℕ) : LE.le (α := EReal) (runMax n qb x3 x5 T (ix2 h j)) c
      ↔ ∀ k < T, ∀ s, LE.le (α := EReal) (sc n qb x3 x5 (chunk k) s (ix2 h j)) c := by
  induction T with
  | zero =>
    refine ⟨fun _ k hk => absurd hk (Nat.not_lt_zero k), fun _ => ?_⟩
    show LE.le (α := EReal) (k0_pay208 (F := Ideal) (ix2 h j)) c
    rw [pay208_read]
    exact bot_le
  | succ T ih =>
    refine (foldl_max (sc n qb x3 x5 (chunk T)) (ix2 h j) c slots (runMax n qb x3 x5 T)).trans ?_
    rw [ih]
    refine ⟨fun H k hk s => ?_, fun H => ⟨fun k hk s => H k (Nat.lt_succ_of_lt hk) s, fun s _ => H T (Nat.lt_succ_self T) s⟩⟩
    rcases Nat.lt_succ_iff_lt_or_eq.1 hk with hk | rfl
    · exact H.1 k hk s
    · exact H.2 s (List.mem_reverse.1 (mem_slots s))

/-- The running sums are the sums of the weights so far. -/
theorem runSum_eq (n : BitVec 32) (qb : FVec Ideal S64x256 .bf16) (mx : FVec Ideal S16x1 .f32) (x3 : S256x1024.Idx → Elt Ideal .i32) (x5 : S32x1024.Idx → Elt Ideal .i32)
    (h : Fin 16) (j : Fin 256) (T : ℕ) : runSum n qb mx x3 x5 T (ix2 h j)
      = Finset.sum (M := EReal) (Finset.range T) fun k => ∑ s : Fin 16, Ideal.exp (HSub.hSub (α := EReal) (β := EReal) (sc n qb x3 x5 (chunk k) s (ix2 h j)) (mx (ix2 h (0 : Fin 1)))) := by
  induction T with
  | zero => exact pay214_read h j
  | succ T ih =>
    rw [Finset.sum_range_succ, ← ih, Fin.sum_univ_def, ← slots_fin]
    refine (foldl_add (fun s => weight mx (sc n qb x3 x5 (chunk T) s)) (ix2 h j) slots (runSum n qb mx x3 x5 T)).trans ?_
    simp only [weight_apply]

/-- One chunk's weighted codes, added group by group. -/
theorem valStep_eq (n : BitVec 32) (mx : FVec Ideal S16x1 .f32) (x4 : S256x1024.Idx → Elt Ideal .i32) (x5 : S32x1024.Idx → Elt Ideal .i32)
    (k : Fin 4) (f : Fin 16 → FVec Ideal S16x256 .f32) (acc : FVec Ideal S64x256 .f32) (t : Fin 4) (h : Fin 16) (d : Fin 64) :
    valStep n mx x4 x5 k f acc (ix2 (⟨16 * t.val + h.val, by omega⟩ : Fin 64) (⟨64 * t.val + d.val, by omega⟩ : Fin 256))
      = HAdd.hAdd (α := EReal) (β := EReal) (acc (ix2 (⟨16 * t.val + h.val, by omega⟩ : Fin 64) (⟨64 * t.val + d.val, by omega⟩ : Fin 256)))
        (∑ g : Fin 4, ∑ j : Fin 256, wt n mx x5 k f (⟨4 * g.val + t.val, by omega⟩ : Fin 16) (ix2 h j)
          * code (codes x4 g k (ix2 (⟨16 * t.val + d.val / 4, by omega⟩ : Fin 64) j)) ⟨d.val % 4, by omega⟩) := by
  rw [Fin.sum_univ_def, ← groups_fin]
  unfold valStep
  generalize ([0, 1, 2, 3] : List (Fin 4)) = l
  induction l generalizing acc with
  | nil => exact (add_zero (M := EReal) _).symm
  | cons g l ih =>
    rw [List.foldl_cons, ih, List.map_cons, List.sum_cons]
    refine (congrArg (fun z : EReal => z + _) (group_apply acc _ _ _ _ (codes x4 g k) t h d
      (fun u => wt n mx x5 k f (⟨4 * g.val + u.val, by omega⟩ : Fin 16)) rfl rfl rfl rfl)).trans ?_
    exact add_assoc (G := EReal) _ _ _

/-- The code a group's product reads is the token's. -/
theorem group_code (x4 : S256x1024.Idx → Elt Ideal .i32) (k g t : Fin 4) (j : Fin 256) (d : Fin 64) :
    code (codes (F := Ideal) x4 g k (ix2 (⟨16 * t.val + d.val / 4, by omega⟩ : Fin 64) j)) ⟨d.val % 4, by omega⟩
      = tokCode (fun a p => x4 (ix2 a p)) (tok k (⟨4 * g.val + t.val, by omega⟩ : Fin 16) j) d := by
  unfold tokCode codes
  refine congrArg (fun w => code w _) (congrArg x4 (congrArg₂ ix2 (Fin.ext ?_) (Fin.ext ?_)))
  · show 64 * g.val + (16 * t.val + d.val / 4) = 16 * ((tok k (⟨4 * g.val + t.val, by omega⟩ : Fin 16) j).val % 16) + d.val / 4
    simp only [tok]; omega
  · show 256 * k.val + j.val = (tok k (⟨4 * g.val + t.val, by omega⟩ : Fin 16) j).val / 16
    simp only [tok]; omega

/-- The running block product is the weighted sum of the codes so far, by groups. -/
theorem runVal_eq (n : BitVec 32) (qb : FVec Ideal S64x256 .bf16) (mx : FVec Ideal S16x1 .f32) (x3 x4 : S256x1024.Idx → Elt Ideal .i32) (x5 : S32x1024.Idx → Elt Ideal .i32)
    (t : Fin 4) (h : Fin 16) (d : Fin 64) (T : ℕ) :
    runVal n qb mx x3 x4 x5 T (ix2 (⟨16 * t.val + h.val, by omega⟩ : Fin 64) (⟨64 * t.val + d.val, by omega⟩ : Fin 256))
      = Finset.sum (M := EReal) (Finset.range T) fun k => ∑ g : Fin 4, ∑ j : Fin 256,
        HMul.hMul (α := EReal) (β := EReal) (wt n mx x5 (chunk k) (sc n qb x3 x5 (chunk k)) (⟨4 * g.val + t.val, by omega⟩ : Fin 16) (ix2 h j))
          (tokCode (fun a p => x4 (ix2 a p)) (tok (chunk k) (⟨4 * g.val + t.val, by omega⟩ : Fin 16) j) d) := by
  induction T with
  | zero => exact pay215_read _ _
  | succ T ih =>
    rw [Finset.sum_range_succ, ← ih]
    refine (valStep_eq n mx x4 x5 (chunk T) (sc n qb x3 x5 (chunk T)) (runVal n qb mx x3 x4 x5 T) t h d).trans ?_
    simp only [group_code]

/-- A sum over the chunks run is the sum over all chunks when the others contribute nothing. -/
theorem chunks_sum (G : Fin 4 → EReal) (T : ℕ) (hT : T ≤ 4) (h : ∀ k : Fin 4, T ≤ k.val → G k = 0) :
    ∑ k ∈ Finset.range T, G (chunk k) = ∑ k, G k := by
  have e : ∑ k, G k = ∑ k ∈ Finset.range 4, G (chunk k) := by
    rw [Finset.sum_range]
    exact Finset.sum_congr rfl fun k _ => congrArg G (Fin.ext (by show k.val = k.val % 4; omega))
  rw [e]
  refine Finset.sum_subset (Finset.range_mono hT) fun k h4 hk => ?_
  have h4' := Finset.mem_range.1 h4
  refine h (chunk k) ?_
  rw [Finset.mem_range] at hk
  show T ≤ k % 4
  omega

/-- A sum over four places of four groups is the sum over the sixteen slots. -/
theorem sum_groups (f : Fin 16 → EReal) : ∑ t : Fin 4, ∑ g : Fin 4, f ⟨4 * g.val + t.val, by omega⟩ = ∑ s, f s := by
  rw [← (finProdFinEquiv (m := 4) (n := 4)).sum_comp f, Fintype.sum_prod_type, Finset.sum_comm]
  refine Finset.sum_congr rfl fun t _ => Finset.sum_congr rfl fun g _ => congrArg f (Fin.ext ?_)
  show 4 * t.val + g.val = g.val + 4 * t.val
  omega

theorem live_iff (n : BitVec 32) (t : Fin 16384) : Live n t ↔ (t.val : ℤ) < n.toInt := by
  have ht := t.isLt
  have e : (BitVec.ofNat 32 t.val).toInt = t.val := by
    rw [BitVec.toInt_eq_toNat_of_lt (by rw [BitVec.toNat_ofNat]; omega), BitVec.toNat_ofNat]
    omega
  unfold Live IntOp.cmpi
  by_cases h : (t.val : ℤ) < n.toInt <;> simp [BitVec.slt, e, h]

/-- Tokens of the chunks that are not run are past the length. -/
theorem dead_chunk (n : BitVec 32) (hn : n.toInt ≤ 16384) (k : Fin 4) (hk : (k0_t1_loop n).trips ≤ k.val) (s : Fin 16) (j : Fin 256) :
    ¬ Live n (tok k s j) := by
  rw [trips_eq n hn] at hk
  rw [live_iff]
  simp only [tok]
  omega

theorem dead_score {n : BitVec 32} {t : Fin 16384} (q : Fin 64 → EReal) (kw : Fin 256 → Fin 1024 → BitVec 32) (ks : Fin 16 → Fin 1024 → BitVec 32)
    (h : ¬ Live n t) : Attn.score n q kw ks t = ⊥ := if_neg h

/-- The scores of a query row. -/
def rowScore (n : BitVec 32) (x0 : Vec Ideal S1x16x64 .bf16) (x3 : S256x1024.Idx → Elt Ideal .i32) (x5 : S32x1024.Idx → Elt Ideal .i32) (h : Fin 16) : Fin 16384 → EReal :=
  Attn.score n (fun e => x0 (ix3 (0 : Fin 1) h e)) (fun a p => x3 (ix2 a p)) (fun a p => x5 (ix2 (⟨a.val, by omega⟩ : Fin 32) p))

/-- The kernel's maximum is the greatest score. -/
theorem max_top (n : BitVec 32) (hn : n.toInt ≤ 16384) (x0 : Vec Ideal S1x16x64 .bf16) (x3 : S256x1024.Idx → Elt Ideal .i32) (x5 : S32x1024.Idx → Elt Ideal .i32) (h : Fin 16)
    (v31 : FVec Ideal S1x1 .f32) (v38 : FVec Ideal S1x64 .f32) (v77 : FVec Ideal S16x64 .bf16) :
    k0_pay213 v31 v38 v77 (runMax n (qblock x0) x3 x5 (k0_t1_loop n).trips) (ix2 h (0 : Fin 1))
      = top (rowScore n x0 x3 x5 h) (k0_pay207 v31 v38 v77 (ix2 h (0 : Fin 1))) := by
  rw [max_apply]
  refine eq_of_forall_ge_iff fun c => ?_
  rw [max_le_iff, Finset.sup_le_iff, top_le_iff, forall_tokens]
  refine and_congr_left fun _ => ⟨fun H k s j => ?_, fun H j _ => ?_⟩
  · by_cases hk : k.val < (k0_t1_loop n).trips
    · have := (runMax_le n (qblock x0) x3 x5 h j c _).1 (H j (Finset.mem_univ j)) k.val hk s
      rw [show chunk k.val = k from Fin.ext (by show k.val % 4 = k.val; omega), sc_apply] at this
      exact this
    · have := dead_score (fun e => x0 (ix3 (0 : Fin 1) h e)) (fun a p => x3 (ix2 a p)) (fun a p => x5 (ix2 (⟨a.val, by omega⟩ : Fin 32) p))
        (dead_chunk n hn k (Nat.le_of_not_lt hk) s j)
      unfold rowScore
      rw [this]
      exact bot_le
  · refine (runMax_le n (qblock x0) x3 x5 h j c _).2 fun k hk s => ?_
    rw [sc_apply]
    exact H (chunk k) s j

/-- The sums of a row are the sum of its weights over the tokens. -/
theorem sum_total (n : BitVec 32) (hn : n.toInt ≤ 16384) (x0 : Vec Ideal S1x16x64 .bf16) (x3 : S256x1024.Idx → Elt Ideal .i32) (x5 : S32x1024.Idx → Elt Ideal .i32) (h : Fin 16)
    (mx : FVec Ideal S16x1 .f32) :
    (∑ j : Fin 256, runSum n (qblock x0) mx x3 x5 (k0_t1_loop n).trips (ix2 h j) : EReal)
      = ∑ t, Ideal.exp (HSub.hSub (α := EReal) (β := EReal) (rowScore n x0 x3 x5 h t) (mx (ix2 h (0 : Fin 1)))) := by
  simp only [runSum_eq, sc_apply]
  rw [Finset.sum_comm]
  refine (chunks_sum (fun k => ∑ j : Fin 256, ∑ s : Fin 16, Ideal.exp (HSub.hSub (α := EReal) (β := EReal) (rowScore n x0 x3 x5 h (tok k s j)) (mx (ix2 h (0 : Fin 1)))))
    _ (trips_le n hn) ?_).trans ?_
  rotate_left
  · rw [← sum_tokens]
    exact Finset.sum_congr rfl fun k _ => Finset.sum_comm
  · intro k hk
    refine Finset.sum_eq_zero fun j _ => Finset.sum_eq_zero fun s _ => ?_
    unfold rowScore
    rw [dead_score _ _ _ (dead_chunk n hn k hk s j)]
    simp

/-- The block products of a row, added over the four places, are its weighted sum of codes over the tokens. -/
theorem val_total (n : BitVec 32) (hn : n.toInt ≤ 16384) (x0 : Vec Ideal S1x16x64 .bf16) (x3 x4 : S256x1024.Idx → Elt Ideal .i32) (x5 : S32x1024.Idx → Elt Ideal .i32) (h : Fin 16)
    (mx : FVec Ideal S16x1 .f32) (d : Fin 64) :
    (∑ t : Fin 4, runVal n (qblock x0) mx x3 x4 x5 (k0_t1_loop n).trips
        (ix2 (⟨16 * t.val + h.val, by omega⟩ : Fin 64) (⟨64 * t.val + d.val, by omega⟩ : Fin 256)) : EReal)
      = ∑ t, (if Live n t then Ideal.exp (HSub.hSub (α := EReal) (β := EReal) (rowScore n x0 x3 x5 h t) (mx (ix2 h (0 : Fin 1))))
          * tokScale (fun a p => x5 (ix2 (⟨16 + a.val, by omega⟩ : Fin 32) p)) t else 0) * tokCode (fun a p => x4 (ix2 a p)) t d := by
  simp only [runVal_eq, wt_apply, sc_apply]
  rw [Finset.sum_comm, ← sum_tokens]
  rw [← chunks_sum _ _ (trips_le n hn) ?_]
  · refine Finset.sum_congr rfl fun k _ => ?_
    rw [← sum_groups]
    rfl
  · intro k hk
    refine Finset.sum_eq_zero fun s _ => Finset.sum_eq_zero fun j _ => ?_
    rw [if_neg (dead_chunk n hn k hk s j), zero_mul]

/-- The attention row of a grid point, from its windows: finite queries and finite live key scales make it attention. -/
theorem out_attend (n : BitVec 32) (hn : n.toInt ≤ 16384) (x0 : Vec Ideal S1x16x64 .bf16) (x1 x2 : Vec Ideal S1x1x64 .bf16) (x3 x4 : S256x1024.Idx → Elt Ideal .i32) (x5 : S32x1024.Idx → Elt Ideal .i32)
    (h : Fin 16) (d : Fin 64) (hq : ∀ e, Fin' (x0 (ix3 (0 : Fin 1) h e) : EReal))
    (hk : ∀ t, Live n t → Fin' (tokScale (fun a p => x5 (ix2 (⟨a.val, by omega⟩ : Fin 32) p)) t)) :
    outO n x0 x1 x2 x3 x4 x5 (ix3 (0 : Fin 1) h d)
      = attend (Attn.score n (fun e => x0 (ix3 (0 : Fin 1) h e)) (fun a p => x3 (ix2 a p)) (fun a p => x5 (ix2 (⟨a.val, by omega⟩ : Fin 32) p)))
        (newScore (fun e => x0 (ix3 (0 : Fin 1) h e)) fun e => x1 (ix3 (0 : Fin 1) (0 : Fin 1) e))
        (tokScale fun a p => x5 (ix2 (⟨16 + a.val, by omega⟩ : Fin 32) p)) (fun t => tokCode (fun a p => x4 (ix2 a p)) t d)
        (scale fun e => x2 (ix3 (0 : Fin 1) (0 : Fin 1) e)) (quant (fun e => x2 (ix3 (0 : Fin 1) (0 : Fin 1) e)) d) := by
  have hs := newScore_fin (fun e => x0 (ix3 (0 : Fin 1) h e)) (fun e => x1 (ix3 (0 : Fin 1) (0 : Fin 1) e)) hq
  have hn0 : k0_pay207 (k0_pay191 x1) (k0_pay192 x1) (k0_pay200 x0) (ix2 h (0 : Fin 1))
      = newScore (fun e => x0 (ix3 (0 : Fin 1) h e)) fun e => x1 (ix3 (0 : Fin 1) (0 : Fin 1) e) := by
    rw [new_apply]
    simp only [key_scale, key_codes]
    rfl
  have hm := max_top n hn x0 x3 x5 h (k0_pay191 x1) (k0_pay192 x1) (k0_pay200 x0)
  rw [hn0] at hm
  rw [attend_late (score_ne_top n _ _ _ hq hk) hs.1 hs.2 (live := Live n) (fun t ht => dead_score _ _ _ ht)]
  unfold outO outCore
  rw [pay1_apply, sum_total n hn, val_total n hn, weight_new, hn0, hm, val_scale, val_codes]
  rfl

end Cert.KernelIdeal.Attend

end
-- ==== Proof.KernelIdeal.RunValue.lean ====
/- The attention call's five result arrays after the run, as functions of the problem's arrays. -/
module

public import proofs.«01_k».proof.Proof.KernelIdeal.Arrays
public import proofs.«01_k».proof.Proof.KernelIdeal.Sums
public import proofs.«01_k».proof.Proof.KernelIdeal.Frame

@[expose] public section

set_option maxRecDepth 16384

noncomputable section

namespace Cert.KernelIdeal.Attend.Named

open Cert.KernelIdeal.Gen Cert.Attn
open Idealize.ShloMosaic Idealize.ShloMosaic.TcCoe Idealize.ShloMosaic.Tactic Idealize.ShloMosaic.Pointwise Idealize.SL.Sem

variable (m : (ℓ : Loc nD τ sig) → Buf (Elt Ideal) ℓ) (ρ : Dev nD → PrngReg)

/-- The attention array of a memory. -/
def outArr (c : Dev nD) : S32x16x64.Idx → EReal := fun j =>
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (j 0) (j 1) (j 2)

/-- The codes of a new row array. -/
def codeArr (x : S32x1x64.Idx → EReal) : S32x1x64.Idx → BitVec 8 := fun j =>
  Ideal.fptosi 8 (quant (fun e => x (ix3 (j 0) (0 : Fin 1) e)) (j 2))

/-- The scales of a new row array, each along 128 lanes. -/
def scaleArr (x : S32x1x64.Idx → EReal) : S32x1x128.Idx → EReal := fun j =>
  scale fun e => x (ix3 (j 0) (0 : Fin 1) e)

/-- What the value claim needs of a memory. -/
def Good (c : Dev nD) : Prop :=
  (∀ b h d, Fin' (m ((c.tc : Thread nD τ).loc main_arg1) (ix3 b h d) : EReal))
    ∧ ∀ b t, Live (m ((c.tc : Thread nD τ).loc main_arg0) (ix1 b)) t → Fin' (tokScale (seqKeyScales (m ((c.tc : Thread nD τ).loc main_arg6)) b) t)

/-- The attention row of windows that hold sequence `b`'s words and rows is the attention of sequence `b`. -/
theorem out_result (len : S32.Idx → BitVec 32) (q : S32x16x64.Idx → EReal) (kn vn : S32x1x64.Idx → EReal)
    (kw vw : S256x32768.Idx → BitVec 32) (sw : S32x32768.Idx → BitVec 32) (b : Fin 32)
    (n : BitVec 32) (x0 : Vec Ideal S1x16x64 .bf16) (x1 x2 : Vec Ideal S1x1x64 .bf16) (x3 x4 : S256x1024.Idx → Elt Ideal .i32) (x5 : S32x1024.Idx → Elt Ideal .i32)
    (en : n = len (ix1 b)) (e0 : ∀ h e, x0 (ix3 (0 : Fin 1) h e) = q (ix3 b h e))
    (e1 : ∀ e, x1 (ix3 (0 : Fin 1) (0 : Fin 1) e) = kn (ix3 b (0 : Fin 1) e)) (e2 : ∀ e, x2 (ix3 (0 : Fin 1) (0 : Fin 1) e) = vn (ix3 b (0 : Fin 1) e))
    (e3 : ∀ a p, x3 (ix2 a p) = seqWords kw b a p) (e4 : ∀ a p, x4 (ix2 a p) = seqWords vw b a p)
    (e5 : ∀ (a : Fin 32) p, x5 (ix2 a p) = sw (ix2 a (⟨b.val * 1024 + p.val, by omega⟩ : Fin 32768)))
    (hn : (len (ix1 b)).toInt ≤ 16384) (hq : ∀ h e, Fin' (q (ix3 b h e))) (hk : ∀ t, Live (len (ix1 b)) t → Fin' (tokScale (seqKeyScales sw b) t))
    (h : Fin 16) (d : Fin 64) :
    outO n x0 x1 x2 x3 x4 x5 (ix3 (0 : Fin 1) h d) = result len q kn vn kw vw sw b h d := by
  subst en
  have f0 : (fun e => (x0 (ix3 (0 : Fin 1) h e) : EReal)) = fun e => q (ix3 b h e) := funext (e0 h)
  have f1 : (fun e => (x1 (ix3 (0 : Fin 1) (0 : Fin 1) e) : EReal)) = fun e => kn (ix3 b (0 : Fin 1) e) := funext e1
  have f2 : (fun e => (x2 (ix3 (0 : Fin 1) (0 : Fin 1) e) : EReal)) = fun e => vn (ix3 b (0 : Fin 1) e) := funext e2
  have f3 : (fun a p => (x3 (ix2 a p) : BitVec 32)) = seqWords kw b := funext fun a => funext fun p => e3 a p
  have f4 : (fun a p => (x4 (ix2 a p) : BitVec 32)) = seqWords vw b := funext fun a => funext fun p => e4 a p
  have f5 : (fun (a : Fin 16) p => (x5 (ix2 (⟨a.val, by omega⟩ : Fin 32) p) : BitVec 32)) = seqKeyScales sw b := funext fun a => funext fun p => e5 _ p
  have f6 : (fun (a : Fin 16) p => (x5 (ix2 (⟨16 + a.val, by omega⟩ : Fin 32) p) : BitVec 32)) = seqValScales sw b := funext fun a => funext fun p => e5 _ p
  have ho := out_attend (len (ix1 b)) hn x0 x1 x2 x3 x4 x5 h d (fun e => by rw [e0]; exact hq h e) (fun t ht => by rw [f5]; exact hk t ht)
  rw [f0, f1, f2, f3, f4, f5, f6] at ho
  exact ho

theorem out6_value (hO : Ok m) (hL : Lens m) (c : Dev nD) (hG : Good m c) (b : Fin 32) (h : Fin 16) (d : Fin 64) :
    out6 m hO c (pt b) (ix3 (0 : Fin 1) h d) = outArr m c (ix3 b h d) := by
  have hn : (m ((c.tc : Thread nD τ).loc main_arg0) (ix1 b) : BitVec 32).toInt ≤ 16384 := by
    have e := word_at m c b
    obtain rfl : c = 0 := Subsingleton.elim _ _
    exact hL (ix1 b)
  exact out_result _ _ _ _ _ _ _ b _ _ _ _ _ _ _ (word_at m c b) (fun h e => blk0 m hO c b (ix3 (0 : Fin 1) h e))
    (fun e => blk1 m hO c b (ix3 (0 : Fin 1) (0 : Fin 1) e)) (fun e => blk2 m hO c b (ix3 (0 : Fin 1) (0 : Fin 1) e))
    (fun a p => blk3 m hO c b (ix2 a p)) (fun a p => blk4 m hO c b (ix2 a p)) (fun a p => blk5 m hO c b (ix2 a p))
    hn (fun h e => hG.1 b h e) (hG.2 b) h d

theorem code_out (x : Vec Ideal S1x1x64 .bf16) (X : S32x1x64.Idx → EReal) (b : Fin 32) (d : Fin 64)
    (e : ∀ e, x (ix3 (0 : Fin 1) (0 : Fin 1) e) = X (ix3 b (0 : Fin 1) e)) :
    k0_pay196 (k0_pay192 x) (ix3 (0 : Fin 1) (0 : Fin 1) d) = codeArr X (ix3 b (0 : Fin 1) d)
      ∧ k0_pay197 x (ix3 (0 : Fin 1) (0 : Fin 1) d) = codeArr X (ix3 b (0 : Fin 1) d) := by
  have f : (fun e => (x (ix3 (0 : Fin 1) (0 : Fin 1) e) : EReal)) = fun e => X (ix3 b (0 : Fin 1) e) := funext e
  rw [out7_read, out9_read, key_codes, val_codes, f]
  exact ⟨rfl, rfl⟩

theorem scale_out (x : Vec Ideal S1x1x64 .bf16) (X : S32x1x64.Idx → EReal) (b : Fin 32) (d : Fin 128)
    (e : ∀ e, x (ix3 (0 : Fin 1) (0 : Fin 1) e) = X (ix3 b (0 : Fin 1) e)) :
    k0_pay198 (k0_pay191 x) (ix3 (0 : Fin 1) (0 : Fin 1) d) = scaleArr X (ix3 b (0 : Fin 1) d)
      ∧ k0_pay199 x (ix3 (0 : Fin 1) (0 : Fin 1) d) = scaleArr X (ix3 b (0 : Fin 1) d) := by
  have f : (fun e => (x (ix3 (0 : Fin 1) (0 : Fin 1) e) : EReal)) = fun e => X (ix3 b (0 : Fin 1) e) := funext e
  rw [out8_read, out10_read, key_scale, val_scale, f]
  exact ⟨rfl, rfl⟩

theorem out7_value (hO : Ok m) (c : Dev nD) (b : Fin 32) (d : Fin 64) :
    out7 m hO c (pt b) (ix3 (0 : Fin 1) (0 : Fin 1) d) = codeArr (m ((c.tc : Thread nD τ).loc main_arg2)) (ix3 b (0 : Fin 1) d) :=
  (code_out _ _ b d fun e => blk1 m hO c b (ix3 (0 : Fin 1) (0 : Fin 1) e)).1

theorem out8_value (hO : Ok m) (c : Dev nD) (b : Fin 32) (d : Fin 128) :
    out8 m hO c (pt b) (ix3 (0 : Fin 1) (0 : Fin 1) d) = scaleArr (m ((c.tc : Thread nD τ).loc main_arg2)) (ix3 b (0 : Fin 1) d) :=
  (scale_out _ _ b d fun e => blk1 m hO c b (ix3 (0 : Fin 1) (0 : Fin 1) e)).1

theorem out9_value (hO : Ok m) (c : Dev nD) (b : Fin 32) (d : Fin 64) :
    out9 m hO c (pt b) (ix3 (0 : Fin 1) (0 : Fin 1) d) = codeArr (m ((c.tc : Thread nD τ).loc main_arg3)) (ix3 b (0 : Fin 1) d) :=
  (code_out _ _ b d fun e => blk2 m hO c b (ix3 (0 : Fin 1) (0 : Fin 1) e)).2

theorem out10_value (hO : Ok m) (c : Dev nD) (b : Fin 32) (d : Fin 128) :
    out10 m hO c (pt b) (ix3 (0 : Fin 1) (0 : Fin 1) d) = scaleArr (m ((c.tc : Thread nD τ).loc main_arg3)) (ix3 b (0 : Fin 1) d) :=
  (scale_out _ _ b d fun e => blk2 m hO c b (ix3 (0 : Fin 1) (0 : Fin 1) e)).2

/-- Every index of a three-axis shape with one middle entry. -/
theorem mid_one {n0 n2 : ℕ} (j : (⟨3, ![n0, 1, n2]⟩ : Shape).Idx) : j = ix3 (j 0) (0 : Fin 1) (j 2) :=
  funext (three rfl (Subsingleton.elim (α := Fin 1) _ _) rfl)

/-- The result arrays a run leaves. -/
def Results (c : Dev nD) (r : PUnit × MemSt nD τ sig (Elt Ideal)) : Prop :=
  r.2.mem ((c.tc : Thread nD τ).loc main_v0_0) = outArr m c
    ∧ r.2.mem ((c.tc : Thread nD τ).loc main_v0_1) = codeArr (m ((c.tc : Thread nD τ).loc main_arg2))
    ∧ r.2.mem ((c.tc : Thread nD τ).loc main_v0_2) = scaleArr (m ((c.tc : Thread nD τ).loc main_arg2))
    ∧ r.2.mem ((c.tc : Thread nD τ).loc main_v0_3) = codeArr (m ((c.tc : Thread nD τ).loc main_arg3))
    ∧ r.2.mem ((c.tc : Thread nD τ).loc main_v0_4) = scaleArr (m ((c.tc : Thread nD τ).loc main_arg3))

theorem results_of (hO : Ok m) (hL : Lens m) (hG : ∀ c, Good m c) (r : PUnit × MemSt nD τ sig (Elt Ideal))
    (hr : Pipeline.FramePost (Pipeline.pin pcfgs fun _ => adm m hO) (dats m hO hL) 0 (V m) r) (c : Dev nD) : Results m c r := by
  refine ⟨(hr.out_eq c 6).trans ((arr6 m hO hL c).trans ?_), (hr.out_eq c 7).trans ((arr7 m hO hL c).trans ?_),
    (hr.out_eq c 8).trans ((arr8 m hO hL c).trans ?_), (hr.out_eq c 9).trans ((arr9 m hO hL c).trans ?_),
    (hr.out_eq c 10).trans ((arr10 m hO hL c).trans ?_)⟩
  · funext j
    exact (out6_value m hO hL c (hG c) (j 0) (j 1) (j 2))
  · funext j
    rw [mid_one j]
    exact out7_value m hO c (j 0) (j 2)
  · funext j
    rw [mid_one j]
    exact out8_value m hO c (j 0) (j 2)
  · funext j
    rw [mid_one j]
    exact out9_value m hO c (j 0) (j 2)
  · funext j
    rw [mid_one j]
    exact out10_value m hO c (j 0) (j 2)

/-- Every run ends with the five result arrays at attention and the quantised rows, its arguments unchanged. -/
theorem run_value (hO : Ok m) (hL : Lens m) (hG : ∀ c, Good m c) :
    θ_run defs (onTc (τ := τ) (main (F := Ideal))) ⟨m, fun _ => 0, ρ⟩ (fun r => (∀ c : Dev nD, Results m c r) ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  θ_run_and ((θ_run defs _ _).mono (fun r hr c => results_of m hO hL hG r hr c) (run_main m ρ hO hL)) (Attend.unchanged m ρ hO hL)

end Cert.KernelIdeal.Attend.Named

end
-- ==== Proof.ReferenceIdeal.Terms.lean ====
/- The reference's arrays named: tokens' codes and scales, scores, the first result. -/
module

public import proofs.«01_k».proof.Proof.Gen.ReferenceIdeal.Run
public import proofs.«01_k».proof.Proof.Bytes

@[expose] public section

set_option maxRecDepth 16384

noncomputable section

namespace Cert.ReferenceIdeal.Attend

open Cert.ReferenceIdeal Cert.ReferenceIdeal.Gen Cert.ReferenceIdeal.Value Cert.Attn
open Idealize.ShloMosaic Idealize.ShloMosaic.TcCoe Idealize.ShloMosaic.Tactic Idealize.ShloMosaic.Pointwise

section
variable {F : FTy → Type} [FloatOps F]

/-- The four codes of each word, as four rows. -/
def stack (x : (⟨S256x32768, .i32⟩ : BufTy).Contents (Elt F)) : (⟨S256x4x32768, .i32⟩ : BufTy).Contents (Elt F) :=
  ((concatenate S256x4x32768 1 [⟨S256x1x32768, ((broadcastInDim S256x1x32768 ![0, 2] bcast_S256x32768_S256x1x32768_0_2 (Host.shrsi (Host.shli x (broadcastInDim S256x32768 ![] bcast_S_S256x32768 (constantI S_ 32 24#32))) (broadcastInDim S256x32768 ![] bcast_S_S256x32768 (constantI S_ 32 24#32)))) : (⟨S256x1x32768, .i32⟩ : BufTy).Contents (Elt F))⟩, ⟨S256x1x32768, ((broadcastInDim S256x1x32768 ![0, 2] bcast_S256x32768_S256x1x32768_0_2 (Host.shrsi (Host.shli x (broadcastInDim S256x32768 ![] bcast_S_S256x32768 (constantI S_ 32 16#32))) (broadcastInDim S256x32768 ![] bcast_S_S256x32768 (constantI S_ 32 24#32)))) : (⟨S256x1x32768, .i32⟩ : BufTy).Contents (Elt F))⟩, ⟨S256x1x32768, ((broadcastInDim S256x1x32768 ![0, 2] bcast_S256x32768_S256x1x32768_0_2 (Host.shrsi (Host.shli x (broadcastInDim S256x32768 ![] bcast_S_S256x32768 (constantI S_ 32 8#32))) (broadcastInDim S256x32768 ![] bcast_S_S256x32768 (constantI S_ 32 24#32)))) : (⟨S256x1x32768, .i32⟩ : BufTy).Contents (Elt F))⟩, ⟨S256x1x32768, ((broadcastInDim S256x1x32768 ![0, 2] bcast_S256x32768_S256x1x32768_0_2 (Host.shrsi (Host.shli x (broadcastInDim S256x32768 ![] bcast_S_S256x32768 (constantI S_ 32 0#32))) (broadcastInDim S256x32768 ![] bcast_S_S256x32768 (constantI S_ 32 24#32)))) : (⟨S256x1x32768, .i32⟩ : BufTy).Contents (Elt F))⟩] concatenates_S256x1x32768_S256x1x32768_S256x1x32768_S256x1x32768_S256x4x32768_d1 : (⟨S256x4x32768, .i32⟩ : BufTy).Contents (Elt F)))

/-- The same codes by slot, feature, sequence and page. -/
def spread (x : (⟨S256x32768, .i32⟩ : BufTy).Contents (Elt F)) : (⟨S16x64x32x1024, .i32⟩ : BufTy).Contents (Elt F) :=
  (shapeCast _ (stack x) shapeCasts_S256x4x32768_S16x64x32x1024)

/-- The codes of all tokens, from the words that pack four of them. -/
def tokens (x : (⟨S256x32768, .i32⟩ : BufTy).Contents (Elt F)) : FVec F S32x16384x64 .bf16 :=
  (sitofp .bf16 (shapeCast _ (transpose S32x1024x16x64 [2, 3, 0, 1] (spread x) transposes_S16x64x32x1024_S32x1024x16x64_2_3_0_1) shapeCasts_S32x1024x16x64_S32x16384x64))

/-- The key scales of all tokens. -/
def keyScales (x : (⟨S32x32768, .i32⟩ : BufTy).Contents (Elt F)) : FVec F S32x16384 .f32 :=
  (shapeCast _ (transpose S32x1024x16 [1, 2, 0] (shapeCast _ (bitcastToFloat  .f32 (extractStridedSlice S16x32768 ![0, 0] x slices_S32x32768_S16x32768_0_0)) shapeCasts_S16x32768_S16x32x1024) transposes_S16x32x1024_S32x1024x16_1_2_0) shapeCasts_S32x1024x16_S32x16384)

/-- The value scales of all tokens. -/
def valScales (x : (⟨S32x32768, .i32⟩ : BufTy).Contents (Elt F)) : FVec F S32x16384 .f32 :=
  (shapeCast _ (transpose S32x1024x16 [1, 2, 0] (shapeCast _ (bitcastToFloat  .f32 (extractStridedSlice S16x32768 ![16, 0] x slices_S32x32768_S16x32768_16_0)) shapeCasts_S16x32768_S16x32x1024) transposes_S16x32x1024_S32x1024x16_1_2_0) shapeCasts_S32x1024x16_S32x16384)

/-- The scores of all tokens and of the new one, from the arrays of the problem. -/
def scores (V0 : Valuation τ sig (Elt F)) : FVec F S32x16x16385 .f32 :=
  concatenate S32x16x16385 2 [⟨S32x16x16384, (select (broadcastInDim S32x16x16384 ![0, 1, 2] bcast_S32x1x16384_S32x16x16384_0_1_2 (broadcastInDim S32x1x16384 ![0, 2] bcast_S32x16384_S32x1x16384_0_2 (cmpi .slt (broadcastInDim S32x16384 ![0, 1] bcast_S1x16384_S32x16384_0_1 (broadcastInDim S1x16384 ![1] bcast_S16384_S1x16384_1 (iotaInDim S16384 32 0))) (broadcastInDim S32x16384 ![0, 1] bcast_S32x1_S32x16384_0_1 (broadcastInDim S32x1 ![0] bcast_S32_S32x1_0 (V0 (Proc.devRef .tc main_arg0))))))) (mulf (mulf (Host.dotGeneral dot_S32x16x64_S32x16384x64_S32x16x16384_2_2_1_1_0_0 none (V0 (Proc.devRef .tc main_arg1)) (tokens (V0 (Proc.devRef .tc main_arg4)))) (broadcastInDim S32x16x16384 ![0, 1, 2] bcast_S32x1x16384_S32x16x16384_0_1_2 (broadcastInDim S32x1x16384 ![0, 2] bcast_S32x16384_S32x1x16384_0_2 (keyScales (V0 (Proc.devRef .tc main_arg6)))))) (broadcastInDim S32x16x16384 ![] bcast_S_S32x16x16384 (constant S_ .f32 0x3E000000#32))) (broadcastInDim S32x16x16384 ![] bcast_S_S32x16x16384 (id (constant S_ .f32 0xFF800000#32))))⟩, ⟨S32x16x1, (mulf (mulf (Host.dotGeneral dot_S32x16x64_S32x1x64_S32x16x1_2_2_1_1_0_0 none (V0 (Proc.devRef .tc main_arg1)) (truncf .bf16 (res_main_v12 V0) bitsLt_bf16_f32)) (broadcastInDim S32x16x1 ![0, 1, 2] bcast_S32x1x1_S32x16x1_0_1_2 (broadcastInDim S32x1x1 ![0] bcast_S32_S32x1x1_0 (res_main_v7 V0)))) (broadcastInDim S32x16x1 ![] bcast_S_S32x16x1 (constant S_ .f32 0x3E000000#32)))⟩] concatenates_S32x16x16384_S32x16x1_S32x16x16385_d2

/-- The first result. -/
def outTerm (V0 : Valuation τ sig (Elt F)) : FVec F S32x16x64 .bf16 :=
  truncf .bf16 (addf (Host.dotGeneral dot_S32x16x16384_S32x16384x64_S32x16x64_2_1_1_2_0_0 none (truncf .bf16 (mulf (extractStridedSlice S32x16x16384 ![0, 0, 0] (res_main_v117 V0) slices_S32x16x16385_S32x16x16384_0_0_0) (broadcastInDim S32x16x16384 ![0, 1, 2] bcast_S32x1x16384_S32x16x16384_0_1_2 (broadcastInDim S32x1x16384 ![0, 2] bcast_S32x16384_S32x1x16384_0_2 (valScales (V0 (Proc.devRef .tc main_arg6)))))) bitsLt_bf16_f32) (tokens (V0 (Proc.devRef .tc main_arg5)))) (Host.dotGeneral dot_S32x16x1_S32x1x64_S32x16x64_2_1_1_2_0_0 none (truncf .bf16 (mulf (extractStridedSlice S32x16x1 ![0, 0, 16384] (res_main_v117 V0) slices_S32x16x16385_S32x16x1_0_0_16384) (broadcastInDim S32x16x1 ![0, 1, 2] bcast_S32x1x1_S32x16x1_0_1_2 (broadcastInDim S32x1x1 ![0] bcast_S32_S32x1x1_0 (res_main_v20 V0)))) bitsLt_bf16_f32) (truncf .bf16 (res_main_v25 V0) bitsLt_bf16_f32))) bitsLt_bf16_f32

theorem v106_eq (V0 : Valuation τ sig (Elt F)) : res_main_v106 V0 = scores V0 := rfl
end

end Cert.ReferenceIdeal.Attend

end
-- ==== Proof.ReferenceIdeal.Read.lean ====
/- The reference's arrays read at an element over the extended reals, and its results as those of `Attention.lean`. -/
module

public import proofs.«01_k».proof.Proof.ReferenceIdeal.Terms
public import proofs.«01_k».proof.Proof.Attention
public import Idealize.ShloMosaic.Lib.Pipeline.Value
public import Idealize.ShloMosaic.Lib.Tactic.CleanTypes

@[expose] public section

set_option maxRecDepth 16384

noncomputable section

namespace Cert.ReferenceIdeal.Attend

open Cert.ReferenceIdeal Cert.ReferenceIdeal.Gen Cert.ReferenceIdeal.Value Cert.Attn
open Idealize.ShloMosaic Idealize.ShloMosaic.TcCoe Idealize.ShloMosaic.Tactic Idealize.ShloMosaic.Pointwise

theorem shift_word (w : BitVec 32) (r : Fin 4) (a : BitVec 32) (ha : a = BitVec.ofNat 32 (24 - 8 * r.val)) :
    (IntOp.shrsi .host (IntOp.shli .host w a) 24#32).toInt = (byte w r).toInt := by
  subst ha
  rw [← shifts_byte]
  have h : (BitVec.ofNat 32 (24 - 8 * r.val)).toNat = 24 - 8 * r.val := by
    rw [BitVec.toNat_ofNat]; omega
  unfold IntOp.shrsi IntOp.shli
  rw [h, if_pos (show (24#32).toNat < 32 by decide), if_pos (show 24 - 8 * r.val < 32 by omega), BitVec.shiftLeft_eq', h]
  rfl

theorem stack_apply (x : (⟨S256x32768, .i32⟩ : BufTy).Contents (Elt Ideal)) (a : Fin 256) (r : Fin 4) (l : Fin 32768) :
    (stack (F := Ideal) x (ix3 a r l)).toInt = (byte (x (ix2 a l)) r).toInt := by
  unfold stack
  pointwise
  split_ifs <;> exact shift_word _ _ _ (by
    have : r.val = 0 ∨ r.val = 1 ∨ r.val = 2 ∨ r.val = 3 := by omega
    rcases this with h | h | h | h <;> rw [h] <;> first | rfl | omega)

theorem spread_apply (x : (⟨S256x32768, .i32⟩ : BufTy).Contents (Elt Ideal)) (s : Fin 16) (d : Fin 64) (b : Fin 32) (p : Fin 1024) :
    spread (F := Ideal) x (ix4 s d b p) = stack (F := Ideal) x (ix3 (⟨16 * s.val + d.val / 4, by omega⟩ : Fin 256) (⟨d.val % 4, by omega⟩ : Fin 4)
      (⟨b.val * 1024 + p.val, by omega⟩ : Fin 32768)) := by
  unfold spread
  refine congrArg (stack (F := Ideal) x) (Shape.reshapeEquiv_eq_of_rowMajor _ ?_)
  rw [Shape.rowMajor_val_three, Shape.rowMajor_val_four]
  show (((16 * s.val + d.val / 4) * 4 + d.val % 4) * 32768 + (b.val * 1024 + p.val)) = ((s.val * 64 + d.val) * 32 + b.val) * 1024 + p.val
  omega

theorem merge_apply (y : S16x64x32x1024.Idx → BitVec 32) (b : Fin 32) (t : Fin 16384) (d : Fin 64) :
    shapeCast S32x16384x64 (transpose S32x1024x16x64 [2, 3, 0, 1] y transposes_S16x64x32x1024_S32x1024x16x64_2_3_0_1)
      shapeCasts_S32x1024x16x64_S32x16384x64 (ix3 b t d)
      = y (ix4 (⟨t.val % 16, by omega⟩ : Fin 16) d b (⟨t.val / 16, by omega⟩ : Fin 1024)) := by
  have e : ((⟨4, ![32, 1024, 16, 64]⟩ : Shape).rowMajor (ix4 b (⟨t.val / 16, by omega⟩ : Fin 1024) (⟨t.val % 16, by omega⟩ : Fin 16) d)).val
      = ((⟨3, ![32, 16384, 64]⟩ : Shape).rowMajor (ix3 b t d)).val := by
    rw [Shape.rowMajor_val_three, Shape.rowMajor_val_four]
    show ((b.val * 1024 + t.val / 16) * 16 + t.val % 16) * 64 + d.val = (b.val * 16384 + t.val) * 64 + d.val
    omega
  rw [shapeCast_apply _ _ _ _ e]
  pointwise

theorem tokens_apply (x : (⟨S256x32768, .i32⟩ : BufTy).Contents (Elt Ideal)) (b : Fin 32) (t : Fin 16384) (d : Fin 64) :
    tokens x (ix3 b t d) = tokCode (seqWords x b) t d := by
  unfold tokens
  refine (congrArg (fun w : BitVec 32 => ((w.toInt : ℝ) : EReal)) (merge_apply (spread (F := Ideal) x) b t d)).trans ?_
  rw [spread_apply]
  exact congrArg (fun z : ℤ => ((z : ℝ) : EReal)) (stack_apply x _ _ _)

theorem keyScales_apply (x : (⟨S32x32768, .i32⟩ : BufTy).Contents (Elt Ideal)) (b : Fin 32) (t : Fin 16384) :
    keyScales x (ix2 b t) = tokScale (seqKeyScales x b) t := by
  unfold keyScales
  pointwise
  rfl

theorem valScales_apply (x : (⟨S32x32768, .i32⟩ : BufTy).Contents (Elt Ideal)) (b : Fin 32) (t : Fin 16384) :
    valScales x (ix2 b t) = tokScale (seqValScales x b) t := by
  unfold valScales
  pointwise
  rfl

/-- A fold of the maximum from minus infinity over the entries that drop to one index. -/
theorem neg_inf : Ideal.ofBits .f32 0xFF800000#32 = ⊥ := by
  simp [Ideal.ofBits, Ideal.ieee]

theorem v2_apply (V0 : Valuation τ sig (Elt Ideal)) (b : Fin 32) :
    res_main_v2 V0 (ix1 b) = amax fun e => V0 (Proc.devRef .tc main_arg2) (ix3 b (0 : Fin 1) e) := by
  unfold res_main_v2 res_main_v0
  clean_types
  pointwise
  unfold amax
  refine eq_of_forall_ge_iff fun c => ?_
  rw [Finset.fold_max_le, Finset.sup_le_iff, neg_inf]
  refine ⟨fun h e _ => h.2 (0, e) (Finset.mem_univ _), fun h => ⟨bot_le, fun x _ => ?_⟩⟩
  obtain ⟨u, e⟩ := x
  obtain rfl : u = 0 := Subsingleton.elim _ _
  exact h e (Finset.mem_univ _)

theorem v7_apply (V0 : Valuation τ sig (Elt Ideal)) (b : Fin 32) :
    res_main_v7 V0 (ix1 b) = scale fun e => V0 (Proc.devRef .tc main_arg2) (ix3 b (0 : Fin 1) e) := by
  unfold res_main_v7
  simp only [id]
  pointwise
  rw [v2_apply]
  rfl

theorem v12_apply (V0 : Valuation τ sig (Elt Ideal)) (b : Fin 32) (d : Fin 64) :
    res_main_v12 V0 (ix3 b (0 : Fin 1) d) = quant (fun e => V0 (Proc.devRef .tc main_arg2) (ix3 b (0 : Fin 1) e)) d := by
  unfold res_main_v12 res_main_v0
  simp only [id]
  pointwise
  rw [v7_apply]
  rfl

theorem v106_apply (V0 : Valuation τ sig (Elt Ideal)) (b : Fin 32) (h : Fin 16) (t : Fin 16385) :
    res_main_v106 V0 (ix3 b h t) = if ht : t.val < 16384 then
      score (V0 (Proc.devRef .tc main_arg0) (ix1 b)) (fun e => V0 (Proc.devRef .tc main_arg1) (ix3 b h e))
        (seqWords (V0 (Proc.devRef .tc main_arg4)) b) (seqKeyScales (V0 (Proc.devRef .tc main_arg6)) b) ⟨t.val, ht⟩
      else newScore (fun e => V0 (Proc.devRef .tc main_arg1) (ix3 b h e)) fun e => V0 (Proc.devRef .tc main_arg2) (ix3 b (0 : Fin 1) e) := by
  rw [v106_eq]
  unfold scores
  simp only [id]
  pointwise
  split_ifs with ht
  · simp only [tokens_apply, keyScales_apply, neg_inf]
    rfl
  · have e : (⟨t.val - 16384, by omega⟩ : Fin 1) = 0 := Subsingleton.elim _ _
    rw [v7_apply]
    refine congrArg (fun x : EReal => x * _ * _) (Finset.sum_congr rfl fun x _ => ?_)
    rw [e, v12_apply]
  · rename_i h2
    exact absurd rfl h2

/-- The scores of one row, as `score` and `newScore` of the problem's arrays. -/
def rowScore (V0 : Valuation τ sig (Elt Ideal)) (b : Fin 32) (h : Fin 16) (t : Fin 16384) : EReal :=
  score (V0 (Proc.devRef .tc main_arg0) (ix1 b)) (fun e => V0 (Proc.devRef .tc main_arg1) (ix3 b h e))
    (seqWords (V0 (Proc.devRef .tc main_arg4)) b) (seqKeyScales (V0 (Proc.devRef .tc main_arg6)) b) t

def rowNew (V0 : Valuation τ sig (Elt Ideal)) (b : Fin 32) (h : Fin 16) : EReal :=
  newScore (fun e => V0 (Proc.devRef .tc main_arg1) (ix3 b h e)) fun e => V0 (Proc.devRef .tc main_arg2) (ix3 b (0 : Fin 1) e)

theorem v106_old (V0 : Valuation τ sig (Elt Ideal)) (b : Fin 32) (h : Fin 16) (t : Fin 16384) :
    res_main_v106 V0 (ix3 b h (⟨t.val, by omega⟩ : Fin 16385)) = rowScore V0 b h t := by
  rw [v106_apply, dif_pos t.isLt]
  rfl

theorem v106_new (V0 : Valuation τ sig (Elt Ideal)) (b : Fin 32) (h : Fin 16) :
    res_main_v106 V0 (ix3 b h (16384 : Fin 16385)) = rowNew V0 b h := by
  rw [v106_apply, dif_neg (by decide)]
  rfl

/-- A fold of the maximum over the entries of one row of scores is the greatest score. -/
theorem fold_top (x : S32x16x16385.Idx → EReal) (S : Fin 16384 → EReal) (s : EReal) (b : Fin 32) (h : Fin 16)
    (hS : ∀ t : Fin 16384, x (ix3 b h (⟨t.val, by omega⟩ : Fin 16385)) = S t) (hs : x (ix3 b h (16384 : Fin 16385)) = s) :
    max ⊥ (Finset.fold max ⊥ x (Finset.univ.filter fun i => reducesTo_S32x16x16385_S32x16_d2.drop i = ix2 b h)) = top S s := by
  refine eq_of_forall_ge_iff fun c => ?_
  rw [max_le_iff, Finset.fold_max_le, top_le_iff]
  have key : ∀ i : S32x16x16385.Idx, reducesTo_S32x16x16385_S32x16_d2.drop i = ix2 b h ↔ i = ix3 b h (i 2) := by
    intro i
    constructor
    · intro e
      funext a
      match a with
      | ⟨0, _⟩ => exact congrFun e 0
      | ⟨1, _⟩ => exact congrFun e 1
      | ⟨2, _⟩ => rfl
    · intro e
      rw [e]
      funext a
      match a with
      | ⟨0, _⟩ => rfl
      | ⟨1, _⟩ => rfl
  constructor
  · rintro ⟨-, -, H⟩
    refine ⟨fun t => ?_, ?_⟩
    · rw [← hS]
      exact H _ (Finset.mem_filter.2 ⟨Finset.mem_univ _, (key _).2 rfl⟩)
    · rw [← hs]
      exact H _ (Finset.mem_filter.2 ⟨Finset.mem_univ _, (key _).2 rfl⟩)
  · rintro ⟨H, H'⟩
    refine ⟨bot_le, bot_le, fun i hi => ?_⟩
    rw [(key i).1 (Finset.mem_filter.1 hi).2]
    have hlt : (i 2).val < 16385 := (i 2).isLt
    by_cases h' : (i 2).val < 16384
    · have := H ⟨(i 2).val, h'⟩
      rw [← hS] at this
      exact this
    · have e : i 2 = (16384 : Fin 16385) := Fin.ext (show (i 2).val = 16384 by omega)
      rw [← hs] at H'
      rw [e]
      exact H'

theorem exp_read (x : FVec Ideal S32x16x16385 .f32) (M : FVec Ideal S32x16 .f32) (b : Fin 32) (h : Fin 16) (t : Fin 16385) :
    Host.exp (subf x (broadcastInDim S32x16x16385 ![0, 1, 2] bcast_S32x16x1_S32x16x16385_0_1_2
      (broadcastInDim S32x16x1 ![0, 1] bcast_S32x16_S32x16x1_0_1
        (maximumf (broadcastInDim S32x16 ![] bcast_S_S32x16 (constant S_ .f32 0xFF800000#32)) M)))) (ix3 b h t)
      = Ideal.exp (x (ix3 b h t) - max (Ideal.ofBits .f32 0xFF800000#32) (M (ix2 b h))) := by
  pointwise

theorem reduce_read (x : FVec Ideal S32x16x16385 .f32) (b : Fin 32) (h : Fin 16) :
    Host.reduce FloatOps.maximumf x (constant S_ .f32 0xFF800000#32) reducesTo_S32x16x16385_S32x16_d2 h_S_ (ix2 b h)
      = Finset.fold max (Ideal.ofBits .f32 0xFF800000#32) x
          (Finset.univ.filter fun i => reducesTo_S32x16x16385_S32x16_d2.drop i = ix2 b h) := by
  rw [Host.reduce_eq_fold]
  rfl

theorem v113_apply (V0 : Valuation τ sig (Elt Ideal)) (b : Fin 32) (h : Fin 16) (t : Fin 16385) :
    res_main_v113 V0 (ix3 b h t) = Ideal.exp (HSub.hSub (α := EReal) (β := EReal) (res_main_v106 V0 (ix3 b h t)) (top (rowScore V0 b h) (rowNew V0 b h))) := by
  unfold res_main_v113
  refine (exp_read (res_main_v106 V0) _ b h t).trans ?_
  refine congrArg (fun z : EReal => Ideal.exp (HSub.hSub (α := EReal) (β := EReal) (res_main_v106 V0 (ix3 b h t)) z)) ?_
  refine (congrArg (max _) (reduce_read (res_main_v106 V0) b h)).trans ?_
  rw [neg_inf]
  exact fold_top (res_main_v106 V0) _ _ b h (v106_old V0 b h) (v106_new V0 b h)

theorem v117_apply (V0 : Valuation τ sig (Elt Ideal)) (b : Fin 32) (h : Fin 16) (t : Fin 16385) :
    res_main_v117 V0 (ix3 b h t) = Ideal.div (Ideal.exp (HSub.hSub (α := EReal) (β := EReal) (res_main_v106 V0 (ix3 b h t)) (top (rowScore V0 b h) (rowNew V0 b h))))
      (total (rowScore V0 b h) (rowNew V0 b h)) := by
  have e : Finset.sum (M := EReal) Finset.univ (fun i : Fin 16385 => res_main_v113 V0 (ix3 b h i)) = total (rowScore V0 b h) (rowNew V0 b h) := by
    rw [Fin.sum_univ_castSucc (n := 16384)]
    unfold total
    refine congrArg₂ (· + ·) (Finset.sum_congr rfl fun t _ => ?_) ?_
    · rw [v113_apply, ← v106_old]
      rfl
    · rw [v113_apply, ← v106_new]
      rfl
  rw [← e, ← v113_apply]
  unfold res_main_v117
  clean_types
  pointwise

theorem v15_apply (V0 : Valuation τ sig (Elt Ideal)) (b : Fin 32) :
    res_main_v15 V0 (ix1 b) = amax fun e => V0 (Proc.devRef .tc main_arg3) (ix3 b (0 : Fin 1) e) := by
  unfold res_main_v15 res_main_v13
  clean_types
  pointwise
  unfold amax
  refine eq_of_forall_ge_iff fun c => ?_
  rw [Finset.fold_max_le, Finset.sup_le_iff, neg_inf]
  refine ⟨fun h e _ => h.2 (0, e) (Finset.mem_univ _), fun h => ⟨bot_le, fun x _ => ?_⟩⟩
  obtain ⟨u, e⟩ := x
  obtain rfl : u = 0 := Subsingleton.elim _ _
  exact h e (Finset.mem_univ _)

theorem v20_apply (V0 : Valuation τ sig (Elt Ideal)) (b : Fin 32) :
    res_main_v20 V0 (ix1 b) = scale fun e => V0 (Proc.devRef .tc main_arg3) (ix3 b (0 : Fin 1) e) := by
  unfold res_main_v20
  simp only [id]
  pointwise
  rw [v15_apply]
  rfl

theorem v25_apply (V0 : Valuation τ sig (Elt Ideal)) (b : Fin 32) (d : Fin 64) :
    res_main_v25 V0 (ix3 b (0 : Fin 1) d) = quant (fun e => V0 (Proc.devRef .tc main_arg3) (ix3 b (0 : Fin 1) e)) d := by
  unfold res_main_v25 res_main_v13
  simp only [id]
  pointwise
  rw [v20_apply]
  rfl

/-- The reference's first result is the attention of the problem's arrays. -/
theorem out_apply (V0 : Valuation τ sig (Elt Ideal)) (b : Fin 32) (h : Fin 16) (d : Fin 64) :
    outTerm V0 (ix3 b h d) = result (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5))
      (V0 (Proc.devRef .tc main_arg6)) b h d := by
  unfold outTerm
  pointwise
  unfold result attend
  refine congrArg₂ (· + ·) (Finset.sum_congr rfl fun t _ => ?_) ?_
  · rw [v117_apply, v106_old, valScales_apply, tokens_apply]
    rfl
  · rw [Fin.sum_univ_one, v117_apply, v106_new, v20_apply, v25_apply]
    rfl

/-- The reference's second result, before it is made integers, and the others. -/
theorem codes_apply (x : FVec Ideal S32x1x64 .f32) (b : Fin 32) (d : Fin 64) :
    trunci 8 (fptosi 32 x) natLt_8_32 (ix3 b (0 : Fin 1) d) = (Ideal.fptosi 32 (x (ix3 b (0 : Fin 1) d))).setWidth 8 := by
  pointwise
  rfl

theorem scales_apply (x : FVec Ideal S32 .f32) (b : Fin 32) (d : Fin 128) :
    broadcastInDim S32x1x128 ![0, 1, 2] bcast_S32x1x1_S32x1x128_0_1_2 (broadcastInDim S32x1x1 ![0] bcast_S32_S32x1x1_0 x)
      (ix3 b (0 : Fin 1) d) = x (ix1 b) := by
  pointwise

end Cert.ReferenceIdeal.Attend

end
-- ==== Proof.Algebraic.lean ====
/- The kernel's and the reference's five results are equal over the extended reals. -/
module

public import proofs.«01_k».proof.Defs
public import proofs.«01_k».proof.Proof.Admissible
public import proofs.«01_k».proof.Proof.KernelIdeal.RunValue
public import proofs.«01_k».proof.Proof.ReferenceIdeal.Read

@[expose] public section

set_option maxRecDepth 16384

noncomputable section

namespace Cert.Equal

open Cert.Attn Cert.KernelIdeal.Attend.Named
open Idealize.ShloMosaic Idealize.ShloMosaic.TcCoe Idealize.ShloMosaic.Tactic Idealize.ShloMosaic.Pointwise Idealize.SL.Sem

/-- The reference's attention term is the attention array. -/
theorem ref_out (V0 : Valuation Cert.ReferenceIdeal.τ Cert.ReferenceIdeal.sig (Elt Ideal)) (f : (⟨3, ![32, 16, 64]⟩ : Shape).Idx → EReal)
    (e : ∀ b h d, f (ix3 b h d) = result (V0 (Proc.devRef .tc Cert.ReferenceIdeal.main_arg0)) (V0 (Proc.devRef .tc Cert.ReferenceIdeal.main_arg1)) (V0 (Proc.devRef .tc Cert.ReferenceIdeal.main_arg2))
      (V0 (Proc.devRef .tc Cert.ReferenceIdeal.main_arg3)) (V0 (Proc.devRef .tc Cert.ReferenceIdeal.main_arg4)) (V0 (Proc.devRef .tc Cert.ReferenceIdeal.main_arg5))
      (V0 (Proc.devRef .tc Cert.ReferenceIdeal.main_arg6)) b h d) :
    Cert.ReferenceIdeal.Attend.outTerm V0 = f := by
  have key : ∀ (b : Fin 32) (h : Fin 16) (d : Fin 64), Cert.ReferenceIdeal.Attend.outTerm V0 (ix3 b h d) = f (ix3 b h d) := fun b h d =>
    (Cert.ReferenceIdeal.Attend.out_apply V0 b h d).trans (e b h d).symm
  funext j
  have ej : j = ix3 (j 0) (j 1) (j 2) := funext (three rfl rfl rfl)
  rw [ej]
  exact key (j 0) (j 1) (j 2)

/-- The reference's codes of a quantised row are the code array. -/
theorem ref_codes (x : FVec Ideal Cert.ReferenceIdeal.S32x1x64 .f32) (X : (⟨3, ![32, 1, 64]⟩ : Shape).Idx → EReal)
    (e : ∀ b d, x (ix3 b (0 : Fin 1) d) = quant (fun e => X (ix3 b (0 : Fin 1) e)) d) :
    trunci 8 (fptosi 32 x) Cert.ReferenceIdeal.Gen.natLt_8_32 = codeArr X := by
  have key : ∀ (b : Fin 32) (d : Fin 64),
      trunci 8 (fptosi 32 x) Cert.ReferenceIdeal.Gen.natLt_8_32 (ix3 b (0 : Fin 1) d) = codeArr X (ix3 b (0 : Fin 1) d) := by
    intro b d
    rw [Cert.ReferenceIdeal.Attend.codes_apply, e, Cert.KernelIdeal.Attend.quant_int]
    rfl
  funext j
  rw [mid_one j]
  exact key (j 0) (j 2)

/-- The reference's scales of a quantised row are the scale array. -/
theorem ref_scales (x : FVec Ideal Cert.ReferenceIdeal.S32 .f32) (X : (⟨3, ![32, 1, 64]⟩ : Shape).Idx → EReal)
    (e : ∀ b, x (ix1 b) = scale fun e => X (ix3 b (0 : Fin 1) e)) :
    broadcastInDim Cert.ReferenceIdeal.S32x1x128 ![0, 1, 2] Cert.ReferenceIdeal.Gen.bcast_S32x1x1_S32x1x128_0_1_2
      (broadcastInDim Cert.ReferenceIdeal.S32x1x1 ![0] Cert.ReferenceIdeal.Gen.bcast_S32_S32x1x1_0 x) = scaleArr X := by
  have key : ∀ (b : Fin 32) (d : Fin 128), broadcastInDim Cert.ReferenceIdeal.S32x1x128 ![0, 1, 2] Cert.ReferenceIdeal.Gen.bcast_S32x1x1_S32x1x128_0_1_2
      (broadcastInDim Cert.ReferenceIdeal.S32x1x1 ![0] Cert.ReferenceIdeal.Gen.bcast_S32_S32x1x1_0 x) (ix3 b (0 : Fin 1) d) = scaleArr X (ix3 b (0 : Fin 1) d) := by
    intro b d
    rw [Cert.ReferenceIdeal.Attend.scales_apply, e]
    rfl
  funext j
  rw [mid_one j]
  exact key (j 0) (j 2)

/-- Under `admissible`, the kernel and the reference end with equal results and unchanged arguments. -/
theorem algebraic : Cert.algebraic_KernelIdeal_ReferenceIdeal_pre_admissible := by
  intro m g m' g' hpre hargs
  have hp := fun c => Cert.Pre.admissible_parts _ _ _ _ _ _ _ (hpre c)
  refine ⟨fun c => outArr m c, fun c => codeArr (m ((c.tc : Thread Cert.KernelIdeal.nD Cert.KernelIdeal.τ).loc Cert.KernelIdeal.main_arg2)),
    fun c => scaleArr (m ((c.tc : Thread Cert.KernelIdeal.nD Cert.KernelIdeal.τ).loc Cert.KernelIdeal.main_arg2)),
    fun c => codeArr (m ((c.tc : Thread Cert.KernelIdeal.nD Cert.KernelIdeal.τ).loc Cert.KernelIdeal.main_arg3)),
    fun c => scaleArr (m ((c.tc : Thread Cert.KernelIdeal.nD Cert.KernelIdeal.τ).loc Cert.KernelIdeal.main_arg3)), ?_, ?_⟩
  · exact (θ_run Cert.KernelIdeal.defs _ _).mono (fun r h c => ⟨(h.1 c).1, (h.1 c).2.1, (h.1 c).2.2.1, (h.1 c).2.2.2.1, (h.1 c).2.2.2.2, h.2 c⟩)
      (run_value m g trivial (fun y => (hp 0).1 y) fun c => ⟨(hp c).2.1, (hp c).2.2⟩)
  · refine (θ_run Cert.ReferenceIdeal.defs _ _).mono (fun r h c => ?_) (Cert.ReferenceIdeal.Value.run m' g')
    obtain ⟨h0, h1, h2, h3, h4, h5⟩ := h c
    obtain ⟨a0, a1, a2, a3, a4, a5, a6⟩ := hargs c
    refine ⟨h0.trans (ref_out _ _ fun b h d => ?_), h1.trans (ref_codes _ _ fun b d => ?_), h2.trans (ref_scales _ _ fun b => ?_),
      h3.trans (ref_codes _ _ fun b d => ?_), h4.trans (ref_scales _ _ fun b => ?_), h5⟩
    · show result _ _ _ _ _ _ _ b h d = _
      rw [← a0, ← a1, ← a2, ← a3, ← a4, ← a5, ← a6]
    · rw [← a2]
      exact Cert.ReferenceIdeal.Attend.v12_apply _ b d
    · rw [← a2]
      exact Cert.ReferenceIdeal.Attend.v7_apply _ b
    · rw [← a3]
      exact Cert.ReferenceIdeal.Attend.v25_apply _ b d
    · rw [← a3]
      exact Cert.ReferenceIdeal.Attend.v20_apply _ b

end Cert.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_fits
public import proofs.«01_k».proof.Proof.Gen.Pre_admissible
public import proofs.«01_k».proof.Proof.Pre
public import proofs.«01_k».proof.Proof.Kernel.Frame
public import proofs.«01_k».proof.Proof.KernelIdeal.Frame
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_fits.Gen.facts,
  Cert.Pre_admissible.Gen.facts, by
  refine ⟨fun m ρ h => Cert.Kernel.Attend.frame m ρ trivial fun y => Cert.Pre.fits_len _ _ _ _ _ _ _ (h 0) y,
    fun m ρ h => Cert.KernelIdeal.Attend.frame m ρ trivial fun y => Cert.Pre.fits_len _ _ _ _ _ _ _ (h 0) y,
    fun m ρ h => Cert.KernelIdeal.Attend.frame m ρ trivial fun y => (Cert.Pre.admissible_parts _ _ _ _ _ _ _ (h 0)).1 y,
    fun m ρ _ => (θ_run Cert.ReferenceIdeal.defs _ _).mono (fun r h => ⟨fun c => (h c).2.2.2.2.2,
      Idealize.ShloMosaic.sem_eq_zero_of_no_sems (by decide) r.2⟩) (Cert.ReferenceIdeal.Value.run m ρ),
    fun m ρ _ => (θ_run Cert.ReferenceIdeal.defs _ _).mono (fun r h => ⟨fun c => (h c).2.2.2.2.2,
      Idealize.ShloMosaic.sem_eq_zero_of_no_sems (by decide) r.2⟩) (Cert.ReferenceIdeal.Value.run m ρ),
    trivial, Cert.Equal.algebraic⟩⟩

end Cert.Proof

end
